-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v59_0)) (v1 : (c : Dev Cert.Kernel4Ideal.nD) → Buf (Elt Ideal) ((c.tc : Thread Cert.Kernel4Ideal.nD Cert.Kernel4Ideal.τ).loc Cert.Kernel4Ideal.main_v59_1)) (v2 : (c : Dev Cert.Kernel4Ideal.nD) → Buf (Elt Ideal) ((c.tc : Thread Cert.Kernel4Ideal.nD Cert.Kernel4Ideal.τ).loc Cert.Kernel4Ideal.main_v59_2)) (v3 : (c : Dev Cert.Kernel4Ideal.nD) → Buf (Elt Ideal) ((c.tc : Thread Cert.Kernel4Ideal.nD Cert.Kernel4Ideal.τ).loc Cert.Kernel4Ideal.main_v59_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v59_0) = v0 c
          ∧ r.2.mem ((c.tc : Thread Cert.Kernel4Ideal.nD Cert.Kernel4Ideal.τ).loc Cert.Kernel4Ideal.main_v59_1) = v1 c
          ∧ r.2.mem ((c.tc : Thread Cert.Kernel4Ideal.nD Cert.Kernel4Ideal.τ).loc Cert.Kernel4Ideal.main_v59_2) = v2 c
          ∧ r.2.mem ((c.tc : Thread Cert.Kernel4Ideal.nD Cert.Kernel4Ideal.τ).loc Cert.Kernel4Ideal.main_v59_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_v87) = v2 c
          ∧ r.2.mem ((c.tc : Thread Cert.Reference4Ideal.nD Cert.Reference4Ideal.τ).loc Cert.Reference4Ideal.main_v41) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x4096x256 : Shape := ⟨3, ![8, 4096, 256]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x16 : Shape := ⟨2, ![16, 16]⟩
abbrev S256x256 : Shape := ⟨2, ![256, 256]⟩
abbrev S256 : Shape := ⟨1, ![256]⟩
abbrev S16x1 : Shape := ⟨2, ![16, 1]⟩
abbrev S_ : Shape := ⟨0, ![]⟩
abbrev S16x64x1 : Shape := ⟨3, ![16, 64, 1]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S1x1024 : Shape := ⟨2, ![1, 1024]⟩
abbrev S8x1024 : Shape := ⟨2, ![8, 1024]⟩
abbrev S1x256 : Shape := ⟨2, ![1, 256]⟩
abbrev S8x128x256 : Shape := ⟨3, ![8, 128, 256]⟩
abbrev S1024x2048 : Shape := ⟨2, ![1024, 2048]⟩
abbrev S8x2048 : Shape := ⟨2, ![8, 2048]⟩
abbrev S2x1024x128 : Shape := ⟨3, ![2, 1024, 128]⟩
abbrev S1x128x128 : Shape := ⟨3, ![1, 128, 128]⟩
abbrev S128x128 : Shape := ⟨2, ![128, 128]⟩
abbrev S1x1024x128 : Shape := ⟨3, ![1, 1024, 128]⟩
abbrev S1024x128 : Shape := ⟨2, ![1024, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 102
  | .vmem => 15
  | .smem => 0
  | _ => 0

abbrev bufTy : (tb : Table) → Fin (tcTables nBuf tb) → BufTy
  | .hbm, ⟨0, _⟩ => ⟨S8x4096x256, .f32⟩
  | .hbm, ⟨1, _⟩ => ⟨S16x64, .f32⟩
  | .hbm, ⟨2, _⟩ => ⟨S16x64, .f32⟩
  | .hbm, ⟨3, _⟩ => ⟨S16, .f32⟩
  | .hbm, ⟨4, _⟩ => ⟨S16x64x16, .f32⟩
  | .hbm, ⟨5, _⟩ => ⟨S16x64x16, .f32⟩
  | .hbm, ⟨6, _⟩ => ⟨S16x16x64, .f32⟩
  | .hbm, ⟨7, _⟩ => ⟨S16x16x64, .f32⟩
  | .hbm, ⟨8, _⟩ => ⟨S16x16, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S16, .f32⟩
  | .hbm, ⟨13, _⟩ => ⟨S16x1, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S_, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S16x64x1, .f32⟩
  | .hbm, ⟨40, _⟩ => ⟨S16x64x16, .f32⟩
  | .hbm, ⟨41, _⟩ => ⟨S16x64x16, .f32⟩
  | .hbm, ⟨42, _⟩ => ⟨S16x64x1, .f32⟩
  | .hbm, ⟨43, _⟩ => ⟨S16x64x16, .f32⟩
  | .hbm, ⟨44, _⟩ => ⟨S16x64x16, .f32⟩
  | .hbm, ⟨45, _⟩ => ⟨S16x64x16, .f32⟩
  | .hbm, ⟨46, _⟩ => ⟨S16x64x1, .f32⟩
  | .hbm, ⟨47, _⟩ => ⟨S16x64x16, .f32⟩
  | .hbm, ⟨48, _⟩ => ⟨S16x64x16, .f32⟩
  | .hbm, ⟨49, _⟩ => ⟨S16x64x1, .f32⟩
  | .hbm, ⟨50, _⟩ => ⟨S16x64x16, .f32⟩
  | .hbm, ⟨51, _⟩ => ⟨S16x64x16, .f32⟩
  | .hbm, ⟨52, _⟩ => ⟨S16x64x16, .f32⟩
  | .hbm, ⟨53, _⟩ => ⟨S16x16, .i32⟩
  | .hbm, ⟨54, _⟩ => ⟨S16x16, .i32⟩
  | .hbm, ⟨55, _⟩ => ⟨S_, .i32⟩
  | .hbm, ⟨56, _⟩ => ⟨S16x16, .i32⟩
  | .hbm, ⟨57, _⟩ => ⟨S16x16, .i32⟩
  | .hbm, ⟨58, _⟩ => ⟨S16x16, .i1⟩
  | .hbm, ⟨59, _⟩ => ⟨S16x16, .f32⟩
  | .hbm, ⟨60, _⟩ => ⟨S16x16x64, .f32⟩
  | .hbm, ⟨61, _⟩ => ⟨S16x16x1x64, .f32⟩
  | .hbm, ⟨62, _⟩ => ⟨S16x1x16x1, .f32⟩
  | .hbm, ⟨63, _⟩ => ⟨S16x16x16x64, .f32⟩
  | .hbm, ⟨64, _⟩ => ⟨S16x16x16x64, .f32⟩
  | .hbm, ⟨65, _⟩ => ⟨S16x16x16x64, .f32⟩
  | .hbm, ⟨66, _⟩ => ⟨S256x1024, .f32⟩
  | .hbm, ⟨67, _⟩ => ⟨S16x16x64, .f32⟩
  | .hbm, ⟨68, _⟩ => ⟨S16x16x1x64, .f32⟩
  | .hbm, ⟨69, _⟩ => ⟨S16x1x16x1, .f32⟩
  | .hbm, ⟨70, _⟩ => ⟨S16x16x16x64, .f32⟩
  | .hbm, ⟨71, _⟩ => ⟨S16x16x16x64, .f32⟩
  | .hbm, ⟨72, _⟩ => ⟨S16x16x16x64, .f32⟩
  | .hbm, ⟨73, _⟩ => ⟨S256x1024, .f32⟩
  | .hbm, ⟨74, _⟩ => ⟨S256x2048, .f32⟩
  | .hbm, ⟨75, _⟩ => ⟨S256x2048, .bf16⟩
  | .hbm, ⟨76, _⟩ => ⟨S16x64x16, .f32⟩
  | .hbm, ⟨77, _⟩ => ⟨S16x64x1x16, .f32⟩
  | .hbm, ⟨78, _⟩ => ⟨S16x1x16x1, .f32⟩
  | .hbm, ⟨79, _⟩ => ⟨S16x64x16x16, .f32⟩
  | .hbm, ⟨80, _⟩ => ⟨S16x64x16x16, .f32⟩
  | .hbm, ⟨81, _⟩ => ⟨S16x64x16x16, .f32⟩
  | .hbm, ⟨82, _⟩ => ⟨S1024x256, .f32⟩
  | .hbm, ⟨83, _⟩ => ⟨S16x64x16, .f32⟩
  | .hbm, ⟨84, _⟩ => ⟨S16x64x1x16, .f32⟩
  | .hbm, ⟨85, _⟩ => ⟨S16x1x16x1, .f32⟩
  | .hbm, ⟨86, _⟩ => ⟨S16x64x16x16, .f32⟩
  | .hbm, ⟨87, _⟩ => ⟨S16x64x16x16, .f32⟩
  | .hbm, ⟨88, _⟩ => ⟨S16x64x16x16, .f32⟩
  | .hbm, ⟨89, _⟩ => ⟨S1024x256, .f32⟩
  | .hbm, ⟨90, _⟩ => ⟨S1024x256, .f32⟩
  | .hbm, ⟨91, _⟩ => ⟨S2048x256, .f32⟩
  | .hbm, ⟨92, _⟩ => ⟨S2048x256, .bf16⟩
  | .hbm, ⟨93, _⟩ => ⟨S1x1024, .f32⟩
  | .hbm, ⟨94, _⟩ => ⟨S8x1024, .f32⟩
  | .hbm, ⟨95, _⟩ => ⟨S1x1024, .f32⟩
  | .hbm, ⟨96, _⟩ => ⟨S8x1024, .f32⟩
  | .hbm, ⟨97, _⟩ => ⟨S1x256, .f32⟩
  | .hbm, ⟨98, _⟩ => ⟨S256x256, .bf16⟩
  | .hbm, ⟨99, _⟩ => ⟨S1x256, .f32⟩
  | .hbm, ⟨100, _⟩ => ⟨S1x256, .f32⟩
  | .hbm, ⟨101, _⟩ => ⟨S8x4096x256, .bf16⟩
  | .local _ .vmem, ⟨0, _⟩ => ⟨S8x128x256, .f32⟩
  | .local _ .vmem, ⟨1, _⟩ => ⟨S8x128x256, .f32⟩
  | .local _ .vmem, ⟨2, _⟩ => ⟨S256x2048, .bf16⟩
  | .local _ .vmem, ⟨3, _⟩ => ⟨S8x1024, .f32⟩
  | .local _ .vmem, ⟨4, _⟩ => ⟨S8x1024, .f32⟩
  | .local _ .vmem, ⟨5, _⟩ => ⟨S2048x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S8x128x256, .bf16⟩
  | .local _ .vmem, ⟨11, _⟩ => ⟨S8x128x256, .bf16⟩
  | .local _ .vmem, ⟨12, _⟩ => ⟨S1024x2048, .f32⟩
  | .local _ .vmem, ⟨13, _⟩ => ⟨S8x2048, .f32⟩
  | .local _ .vmem, ⟨14, _⟩ => ⟨S2x1024x128, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_109 : BitVec 32 := 0#32
  let c128_i32 : BitVec 32 := 128#32
  let v109 : BitVec 32 := Scalar.addi c0_i32_109 c128_i32
  let c1_i32 : BitVec 32 := 1#32
  ⟨c0_i32_109, v109, c1_i32⟩
def k0_mult1 (k0_t1 : Fin k0_t1_loop.trips) : BitVec 32 :=
  let c0_i32_109 : BitVec 32 := 0#32
  let c1_i32 : BitVec 32 := 1#32
  let arg14 : BitVec 32 := Scf.iv c0_i32_109 c1_i32 k0_t1
  let c8_i32 : BitVec 32 := 8#32
  let v337 : BitVec 32 := Scalar.muli arg14 c8_i32
  v337
def k0_off1 (k0_t1 : Fin k0_t1_loop.trips) : Fin 2 → Nat :=
  let c0_i32_109 : BitVec 32 := 0#32
  let c1_i32 : BitVec 32 := 1#32
  let arg14 : BitVec 32 := Scf.iv c0_i32_109 c1_i32 k0_t1
  let c8_i32 : BitVec 32 := 8#32
  let v337 : BitVec 32 := Scalar.muli arg14 c8_i32
  let v338 : BitVec 32 := v337
  let v339 : Index := Scalar.indexCast v338
  let c0_271 : Index := 0#32
  ![v339.toNat, 0]
def k0_off2 (k0_t1 : Fin k0_t1_loop.trips) : Fin 2 → Nat :=
  let c0_i32_109 : BitVec 32 := 0#32
  let c1_i32 : BitVec 32 := 1#32
  let arg14 : BitVec 32 := Scf.iv c0_i32_109 c1_i32 k0_t1
  let c8_i32 : BitVec 32 := 8#32
  let v337 : BitVec 32 := Scalar.muli arg14 c8_i32
  let v338 : BitVec 32 := v337
  let v341 : Index := Scalar.indexCast v338
  let c1024_272 : Index := 1024#32
  ![v341.toNat, 1024]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x4096x256 : Shape := ⟨3, ![8, 4096, 256]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x16 : Shape := ⟨2, ![16, 16]⟩
abbrev S256x256 : Shape := ⟨2, ![256, 256]⟩
abbrev S256 : Shape := ⟨1, ![256]⟩
abbrev S8x4096x16x16 : Shape := ⟨4, ![8, 4096, 16, 16]⟩
abbrev S16x1 : Shape := ⟨2, ![16, 1]⟩
abbrev S_ : Shape := ⟨0, ![]⟩
abbrev S16x64x1 : Shape := ⟨3, ![16, 64, 1]⟩
abbrev S16x64x8x4096 : Shape := ⟨4, ![16, 64, 8, 4096]⟩
abbrev S8x4096x16x64 : Shape := ⟨4, ![8, 4096, 16, 64]⟩
abbrev S8x16x64 : Shape := ⟨3, ![8, 16, 64]⟩
abbrev S8x1x16x64 : Shape := ⟨4, ![8, 1, 16, 64]⟩
abbrev S1x16x64 : Shape := ⟨3, ![1, 16, 64]⟩
abbrev S16x16x8x4096 : Shape := ⟨4, ![16, 16, 8, 4096]⟩
abbrev S1x1x256 : Shape := ⟨3, ![1, 1, 256]⟩
abbrev S8x4096 : Shape := ⟨2, ![8, 4096]⟩
abbrev S8x4096x1 : Shape := ⟨3, ![8, 4096, 1]⟩

abbrev nBuf : Space → Nat
  | .hbm => 199
  | .vmem => 0
  | .smem => 0
  | _ => 0

abbrev hbmTy0_0 (i : Nat) : BufTy := match i % 128 with
  | 0 => ⟨S8x4096x256, .f32⟩
  | 1 => ⟨S16x64, .f32⟩
  | 2 => ⟨S16x64, .f32⟩
  | 3 => ⟨S16, .f32⟩
  | 4 => ⟨S16x64x16, .f32⟩
  | 5 => ⟨S16x64x16, .f32⟩
  | 6 => ⟨S16x16x64, .f32⟩
  | 7 => ⟨S16x16x64, .f32⟩
  | 8 => ⟨S16x16, .f32⟩
  | 9 => ⟨S256x256, .f32⟩
  | 10 => ⟨S256, .f32⟩
  | 11 => ⟨S256, .f32⟩
  | 12 => ⟨S8x4096x16x16, .f32⟩
  | 13 => ⟨S16, .f32⟩
  | 14 => ⟨S16x1, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S_, .f32⟩
  | 27 => ⟨S16x64, .f32⟩
  | 28 => ⟨S16x64, .f32⟩
  | 29 => ⟨S16x64, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S16x64, .f32⟩
  | 39 => ⟨S16x64, .f32⟩
  | 40 => ⟨S16x64x1, .f32⟩
  | 41 => ⟨S16x64x16, .f32⟩
  | 42 => ⟨S16x64x16, .f32⟩
  | 43 => ⟨S16x64x1, .f32⟩
  | 44 => ⟨S16x64x16, .f32⟩
  | 45 => ⟨S16x64x16, .f32⟩
  | 46 => ⟨S16x64x16, .f32⟩
  | 47 => ⟨S16x64x1, .f32⟩
  | 48 => ⟨S16x64x16, .f32⟩
  | 49 => ⟨S16x64x16, .f32⟩
  | 50 => ⟨S16x64x1, .f32⟩
  | 51 => ⟨S16x64x16, .f32⟩
  | 52 => ⟨S16x64x16, .f32⟩
  | 53 => ⟨S16x64x16, .f32⟩
  | 54 => ⟨S16x64x8x4096, .f32⟩
  | 55 => ⟨S8x4096x16x64, .f32⟩
  | 56 => ⟨S16x64x8x4096, .f32⟩
  | 57 => ⟨S8x4096x16x64, .f32⟩
  | 58 => ⟨S_, .f32⟩
  | 59 => ⟨S8x16x64, .f32⟩
  | 60 => ⟨S_, .f32⟩
  | 61 => ⟨S8x4096x16x64, .f32⟩
  | 62 => ⟨S_, .i32⟩
  | 63 => ⟨S_, .i32⟩
  | 64 => ⟨S8x4096x16x64, .f32⟩
  | 65 => ⟨S8x4096x16x64, .f32⟩
  | 66 => ⟨S16x64, .f32⟩
  | 67 => ⟨S16x64, .f32⟩
  | 68 => ⟨S_, .i32⟩
  | 69 => ⟨S_, .i32⟩
  | 70 => ⟨S8x16x64, .f32⟩
  | 71 => ⟨S8x16x64, .f32⟩
  | 72 => ⟨S8x4096x16x64, .f32⟩
  | 73 => ⟨S8x4096x16x64, .f32⟩
  | 74 => ⟨S_, .i32⟩
  | 75 => ⟨S_, .i1⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S8x1x16x64, .f32⟩
  | 88 => ⟨S8x16x64, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S8x1x16x64, .f32⟩
  | 99 => ⟨S8x16x64, .f32⟩
  | 100 => ⟨S1x16x64, .f32⟩
  | 101 => ⟨S8x16x64, .f32⟩
  | 102 => ⟨S8x16x64, .f32⟩
  | 103 => ⟨S1x16x64, .f32⟩
  | 104 => ⟨S8x16x64, .f32⟩
  | 105 => ⟨S8x16x64, .f32⟩
  | 106 => ⟨S8x16x64, .f32⟩
  | 107 => ⟨S8x16x64, .f32⟩
  | 108 => ⟨S1x16x64, .f32⟩
  | 109 => ⟨S8x16x64, .f32⟩
  | 110 => ⟨S8x16x64, .f32⟩
  | 111 => ⟨S1x16x64, .f32⟩
  | 112 => ⟨S8x16x64, .f32⟩
  | 113 => ⟨S8x16x64, .f32⟩
  | 114 => ⟨S8x16x64, .f32⟩
  | 115 => ⟨S8x16x64, .f32⟩
  | 116 => ⟨S8x1x16x64, .f32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S8x4096x16x64, .f32⟩
  | 127 => ⟨S8x1x16x64, .f32⟩
  | _ => ⟨S8x4096x256, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S8x4096x16x64, .f32⟩
  | 10 => ⟨S_, .i32⟩
  | 11 => ⟨S_, .i32⟩
  | 12 => ⟨S16x16x8x4096, .f32⟩
  | 13 => ⟨S8x4096x16x16, .f32⟩
  | 14 => ⟨S16x16x64, .f32⟩
  | 15 => ⟨S16x16x8x4096, .f32⟩
  | 16 => ⟨S8x4096x16x16, .f32⟩
  | 17 => ⟨S8x4096x16x16, .f32⟩
  | 18 => ⟨S8x4096x256, .f32⟩
  | 19 => ⟨S256, .f32⟩
  | 20 => ⟨S1x1x256, .f32⟩
  | 21 => ⟨S8x4096x256, .f32⟩
  | 22 => ⟨S8x4096x256, .f32⟩
  | 23 => ⟨S8x4096x256, .f32⟩
  | 24 => ⟨S8x4096x256, .f32⟩
  | 25 => ⟨S8x4096x256, .f32⟩
  | 26 => ⟨S_, .f32⟩
  | 27 => ⟨S8x4096x256, .f32⟩
  | 28 => ⟨S8x4096x256, .f32⟩
  | 29 => ⟨S8x4096x256, .f32⟩
  | 30 => ⟨S_, .f32⟩
  | 31 => ⟨S8x4096x256, .f32⟩
  | 32 => ⟨S8x4096x256, .f32⟩
  | 33 => ⟨S8x4096x256, .f32⟩
  | 34 => ⟨S_, .f32⟩
  | 35 => ⟨S8x4096x256, .f32⟩
  | 36 => ⟨S8x4096x256, .f32⟩
  | 37 => ⟨S_, .f32⟩
  | 38 => ⟨S8x4096x256, .f32⟩
  | 39 => ⟨S8x4096x256, .f32⟩
  | 40 => ⟨S8x4096x256, .f32⟩
  | 41 => ⟨S8x4096x256, .f32⟩
  | 42 => ⟨S1x1x256, .f32⟩
  | 43 => ⟨S8x4096x256, .f32⟩
  | 44 => ⟨S8x4096x256, .f32⟩
  | 45 => ⟨S8x4096x256, .f32⟩
  | 46 => ⟨S8x4096x256, .f32⟩
  | 47 => ⟨S_, .f32⟩
  | 48 => ⟨S8x4096x256, .f32⟩
  | 49 => ⟨S8x4096x256, .f32⟩
  | 50 => ⟨S_, .f32⟩
  | 51 => ⟨S8x4096x256, .f32⟩
  | 52 => ⟨S8x4096x256, .f32⟩
  | 53 => ⟨S8x4096x256, .f32⟩
  | 54 => ⟨S8x4096x256, .f32⟩
  | 55 => ⟨S_, .f32⟩
  | 56 => ⟨S8x4096, .f32⟩
  | 57 => ⟨S8x4096x1, .f32⟩
  | 58 => ⟨S_, .f32⟩
  | 59 => ⟨S8x4096x1, .f32⟩
  | 60 => ⟨S8x4096x1, .f32⟩
  | 61 => ⟨S_, .f32⟩
  | 62 => ⟨S8x4096x1, .f32⟩
  | 63 => ⟨S8x4096x1, .f32⟩
  | 64 => ⟨S8x4096x1, .f32⟩
  | 65 => ⟨S8x4096x256, .f32⟩
  | 66 => ⟨S8x4096x256, .f32⟩
  | 67 => ⟨S1x1x256, .f32⟩
  | 68 => ⟨S8x4096x256, .f32⟩
  | 69 => ⟨S8x4096x256, .f32⟩
  | 70 => ⟨S8x4096x256, .bf16⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_0 : Ref sig .tc := ⟨.hbm, 58, rfl⟩
abbrev main_v45 : Ref sig .tc := ⟨.hbm, 59, rfl⟩
abbrev main_cst_1 : Ref sig .tc := ⟨.hbm, 60, rfl⟩
abbrev main_v46 : Ref sig .tc := ⟨.hbm, 61, rfl⟩
abbrev main_c : Ref sig .tc := ⟨.hbm, 62, rfl⟩
abbrev main_c_2 : Ref sig .tc := ⟨.hbm, 63, rfl⟩
abbrev main_v47_0 : Ref sig .tc := ⟨.hbm, 64, rfl⟩
abbrev main_v47_1 : Ref sig .tc := ⟨.hbm, 65, rfl⟩
abbrev main_v47_2 : Ref sig .tc := ⟨.hbm, 66, rfl⟩
abbrev main_v47_3 : Ref sig .tc := ⟨.hbm, 67, rfl⟩
abbrev main_v47_4 : Ref sig .tc := ⟨.hbm, 68, rfl⟩
abbrev main_v47_5 : Ref sig .tc := ⟨.hbm, 69, rfl⟩
abbrev main_v47_6 : Ref sig .tc := ⟨.hbm, 70, rfl⟩
abbrev main_v47_7 : Ref sig .tc := ⟨.hbm, 71, rfl⟩
abbrev main_v47_8 : Ref sig .tc := ⟨.hbm, 72, rfl⟩
abbrev main_v47_9 : Ref sig .tc := ⟨.hbm, 73, rfl⟩
abbrev main_while0c_c_21 : Ref sig .tc := ⟨.hbm, 74, rfl⟩
abbrev main_while0c_v98 : Ref sig .tc := ⟨.hbm, 75, rfl⟩
abbrev main_while0b_c_21 : Ref sig .tc := ⟨.hbm, 76, rfl⟩
abbrev main_while0b_v98 : Ref sig .tc := ⟨.hbm, 77, rfl⟩
abbrev main_while0b_call0_c : Ref sig .tc := ⟨.hbm, 78, rfl⟩
abbrev main_while0b_call0_v0 : Ref sig .tc := ⟨.hbm, 79, rfl⟩
abbrev main_while0b_call0_v1 : Ref sig .tc := ⟨.hbm, 80, rfl⟩
abbrev main_while0b_call0_c_0 : Ref sig .tc := ⟨.hbm, 81, rfl⟩
abbrev main_while0b_call0_v2 : Ref sig .tc := ⟨.hbm, 82, rfl⟩
abbrev main_while0b_call0_v3 : Ref sig .tc := ⟨.hbm, 83, rfl⟩
abbrev main_while0b_call0_c_1 : Ref sig .tc := ⟨.hbm, 84, rfl⟩
abbrev main_while0b_call0_c_2 : Ref sig .tc := ⟨.hbm, 85, rfl⟩
abbrev main_while0b_call0_c_3 : Ref sig .tc := ⟨.hbm, 86, rfl⟩
abbrev main_while0b_call0_v4 : Ref sig .tc := ⟨.hbm, 87, rfl⟩
abbrev main_while0b_v99 : Ref sig .tc := ⟨.hbm, 88, rfl⟩
abbrev main_while0b_call1_c : Ref sig .tc := ⟨.hbm, 89, rfl⟩
abbrev main_while0b_call1_v0 : Ref sig .tc := ⟨.hbm, 90, rfl⟩
abbrev main_while0b_call1_v1 : Ref sig .tc := ⟨.hbm, 91, rfl⟩
abbrev main_while0b_call1_c_0 : Ref sig .tc := ⟨.hbm, 92, rfl⟩
abbrev main_while0b_call1_v2 : Ref sig .tc := ⟨.hbm, 93, rfl⟩
abbrev main_while0b_call1_v3 : Ref sig .tc := ⟨.hbm, 94, rfl⟩
abbrev main_while0b_call1_c_1 : Ref sig .tc := ⟨.hbm, 95, rfl⟩
abbrev main_while0b_call1_c_2 : Ref sig .tc := ⟨.hbm, 96, rfl⟩
abbrev main_while0b_call1_c_3 : Ref sig .tc := ⟨.hbm, 97, rfl⟩
abbrev main_while0b_call1_v4 : Ref sig .tc := ⟨.hbm, 98, rfl⟩
abbrev main_while0b_v100 : Ref sig .tc := ⟨.hbm, 99, rfl⟩
abbrev main_while0b_v101 : Ref sig .tc := ⟨.hbm, 100, rfl⟩
abbrev main_while0b_v102 : Ref sig .tc := ⟨.hbm, 101, rfl⟩
abbrev main_while0b_v103 : Ref sig .tc := ⟨.hbm, 102, rfl⟩
abbrev main_while0b_v104 : Ref sig .tc := ⟨.hbm, 103, rfl⟩
abbrev main_while0b_v105 : Ref sig .tc := ⟨.hbm, 104, rfl⟩
abbrev main_while0b_v106 : Ref sig .tc := ⟨.hbm, 105, rfl⟩
abbrev main_while0b_v107 : Ref sig .tc := ⟨.hbm, 106, rfl⟩
abbrev main_while0b_v108 : Ref sig .tc := ⟨.hbm, 107, rfl⟩
abbrev main_while0b_v109 : Ref sig .tc := ⟨.hbm, 108, rfl⟩
abbrev main_while0b_v110 : Ref sig .tc := ⟨.hbm, 109, rfl⟩
abbrev main_while0b_v111 : Ref sig .tc := ⟨.hbm, 110, rfl⟩
abbrev main_while0b_v112 : Ref sig .tc := ⟨.hbm, 111, rfl⟩
abbrev main_while0b_v113 : Ref sig .tc := ⟨.hbm, 112, rfl⟩
abbrev main_while0b_v114 : Ref sig .tc := ⟨.hbm, 113, rfl⟩
abbrev main_while0b_v115 : Ref sig .tc := ⟨.hbm, 114, rfl⟩
abbrev main_while0b_v116 : Ref sig .tc := ⟨.hbm, 115, rfl⟩
abbrev main_while0b_call2_v0 : Ref sig .tc := ⟨.hbm, 116, rfl⟩
abbrev main_while0b_call2_c : Ref sig .tc := ⟨.hbm, 117, rfl⟩
abbrev main_while0b_call2_v1 : Ref sig .tc := ⟨.hbm, 118, rfl⟩
abbrev main_while0b_call2_v2 : Ref sig .tc := ⟨.hbm, 119, rfl⟩
abbrev main_while0b_call2_c_0 : Ref sig .tc := ⟨.hbm, 120, rfl⟩
abbrev main_while0b_call2_v3 : Ref sig .tc := ⟨.hbm, 121, rfl⟩
abbrev main_while0b_call2_v4 : Ref sig .tc := ⟨.hbm, 122, rfl⟩
abbrev main_while0b_call2_c_1 : Ref sig .tc := ⟨.hbm, 123, rfl⟩
abbrev main_while0b_call2_c_2 : Ref sig .tc := ⟨.hbm, 124, rfl⟩
abbrev main_while0b_call2_c_3 : Ref sig .tc := ⟨.hbm, 125, rfl⟩
abbrev main_while0b_v117 : Ref sig .tc := ⟨.hbm, 126, rfl⟩
abbrev main_while0b_call3_v0 : Ref sig .tc := ⟨.hbm, 127, rfl⟩
abbrev main_while0b_call3_c : Ref sig .tc := ⟨.hbm, 128, rfl⟩
abbrev main_while0b_call3_v1 : Ref sig .tc := ⟨.hbm, 129, rfl⟩
abbrev main_while0b_call3_v2 : Ref sig .tc := ⟨.hbm, 130, rfl⟩
abbrev main_while0b_call3_c_0 : Ref sig .tc := ⟨.hbm, 131, rfl⟩
abbrev main_while0b_call3_v3 : Ref sig .tc := ⟨.hbm, 132, rfl⟩
abbrev main_while0b_call3_v4 : Ref sig .tc := ⟨.hbm, 133, rfl⟩
abbrev main_while0b_call3_c_1 : Ref sig .tc := ⟨.hbm, 134, rfl⟩
abbrev main_while0b_call3_c_2 : Ref sig .tc := ⟨.hbm, 135, rfl⟩
abbrev main_while0b_call3_c_3 : Ref sig .tc := ⟨.hbm, 136, rfl⟩
abbrev main_while0b_v118 : Ref sig .tc := ⟨.hbm, 137, rfl⟩
abbrev main_while0b_c_22 : Ref sig .tc := ⟨.hbm, 138, rfl⟩
abbrev main_while0b_v119 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_cst_3 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_cst_4 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_cst_5 : Ref sig .tc := ⟨.hbm, 162, rfl⟩
abbrev main_v68 : Ref sig .tc := ⟨.hbm, 163, rfl⟩
abbrev main_v69 : Ref sig .tc := ⟨.hbm, 164, rfl⟩
abbrev main_cst_6 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_cst_7 : Ref sig .tc := ⟨.hbm, 175, rfl⟩
abbrev main_v79 : Ref sig .tc := ⟨.hbm, 176, rfl⟩
abbrev main_v80 : Ref sig .tc := ⟨.hbm, 177, rfl⟩
abbrev main_cst_8 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_cst_9 : Ref sig .tc := ⟨.hbm, 183, rfl⟩
abbrev main_v85 : Ref sig .tc := ⟨.hbm, 184, rfl⟩
abbrev main_v86 : Ref sig .tc := ⟨.hbm, 185, rfl⟩
abbrev main_cst_10 : Ref sig .tc := ⟨.hbm, 186, rfl⟩
abbrev main_v87 : Ref sig .tc := ⟨.hbm, 187, rfl⟩
abbrev main_v88 : Ref sig .tc := ⟨.hbm, 188, rfl⟩
abbrev main_cst_11 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8x4096x512 : Shape := ⟨3, ![8, 4096, 512]⟩
abbrev S8x4096x256 : Shape := ⟨3, ![8, 4096, 256]⟩
abbrev S8x4096x1024 : Shape := ⟨3, ![8, 4096, 1024]⟩
abbrev S2x512 : Shape := ⟨2, ![2, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x512 : Shape := ⟨2, ![1, 512]⟩
abbrev S512 : Shape := ⟨1, ![512]⟩
abbrev S1x1024 : Shape := ⟨2, ![1, 1024]⟩
abbrev S1x1024x512 : Shape := ⟨3, ![1, 1024, 512]⟩
abbrev S1x1024x256 : Shape := ⟨3, ![1, 1024, 256]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x512 : Shape := ⟨2, ![1024, 512]⟩
abbrev S1024x1 : Shape := ⟨2, ![1024, 1]⟩
abbrev S1024x256 : Shape := ⟨2, ![1024, 256]⟩
abbrev S1024x1024 : Shape := ⟨2, ![1024, 1024]⟩
abbrev S2816x1024 : Shape := ⟨2, ![2816, 1024]⟩

abbrev nBuf : Space → Nat
  | .hbm => 21
  | .vmem => 17
  | .smem => 0
  | _ => 0

abbrev bufTy : (tb : Table) → Fin (tcTables nBuf tb) → BufTy
  | .hbm, ⟨0, _⟩ => ⟨S8x4096x512, .bf16⟩
  | .hbm, ⟨1, _⟩ => ⟨S8x4096x256, .bf16⟩
  | .hbm, ⟨2, _⟩ => ⟨S8x4096x256, .bf16⟩
  | .hbm, ⟨3, _⟩ => ⟨S8x4096x1024, .f32⟩
  | .hbm, ⟨4, _⟩ => ⟨S2x512, .f32⟩
  | .hbm, ⟨5, _⟩ => ⟨S2x1024x1024, .f32⟩
  | .hbm, ⟨6, _⟩ => ⟨S2x1024, .f32⟩
  | .hbm, ⟨7, _⟩ => ⟨S2x1024x5632, .f32⟩
  | .hbm, ⟨8, _⟩ => ⟨S2x2816x1024, .f32⟩
  | .hbm, ⟨9, _⟩ => ⟨S1024, .f32⟩
  | .hbm, ⟨10, _⟩ => ⟨S2x1024x1024, .bf16⟩
  | .hbm, ⟨11, _⟩ => ⟨S2x1024x5632, .bf16⟩
  | .hbm, ⟨12, _⟩ => ⟨S2x2816x1024, .bf16⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S8x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x512, .f32⟩
  | .local _ .vmem, ⟨9, _⟩ => ⟨S1x1024x1024, .bf16⟩
  | .local _ .vmem, ⟨10, _⟩ => ⟨S1x1024, .f32⟩
  | .local _ .vmem, ⟨11, _⟩ => ⟨S1x1024x5632, .bf16⟩
  | .local _ .vmem, ⟨12, _⟩ => ⟨S1x2816x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1024x2816, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x512 : Shape := ⟨3, ![8, 4096, 512]⟩
abbrev S8x4096x256 : Shape := ⟨3, ![8, 4096, 256]⟩
abbrev S8x4096x1024 : Shape := ⟨3, ![8, 4096, 1024]⟩
abbrev S2x512 : Shape := ⟨2, ![2, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x512 : Shape := ⟨2, ![1, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1x1024x1024 : Shape := ⟨3, ![1, 1024, 1024]⟩
abbrev S1024x1024 : Shape := ⟨2, ![1024, 1024]⟩
abbrev S1x1024 : Shape := ⟨2, ![1, 1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x256, .bf16⟩
  | .hbm, ⟨2, _⟩ => ⟨S8x4096x256, .bf16⟩
  | .hbm, ⟨3, _⟩ => ⟨S8x4096x1024, .f32⟩
  | .hbm, ⟨4, _⟩ => ⟨S2x512, .f32⟩
  | .hbm, ⟨5, _⟩ => ⟨S2x1024x1024, .f32⟩
  | .hbm, ⟨6, _⟩ => ⟨S2x1024, .f32⟩
  | .hbm, ⟨7, _⟩ => ⟨S2x1024x5632, .f32⟩
  | .hbm, ⟨8, _⟩ => ⟨S2x2816x1024, .f32⟩
  | .hbm, ⟨9, _⟩ => ⟨S1024, .f32⟩
  | .hbm, ⟨10, _⟩ => ⟨S8x4096x512, .f32⟩
  | .hbm, ⟨11, _⟩ => ⟨S8x4096x256, .f32⟩
  | .hbm, ⟨12, _⟩ => ⟨S8x4096x256, .f32⟩
  | .hbm, ⟨13, _⟩ => ⟨S1x512, .f32⟩
  | .hbm, ⟨14, _⟩ => ⟨S512, .f32⟩
  | .hbm, ⟨15, _⟩ => ⟨S8x4096x512, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x512, .f32⟩
  | .hbm, ⟨27, _⟩ => ⟨S8x4096x512, .f32⟩
  | .hbm, ⟨28, _⟩ => ⟨S1x1x512, .f32⟩
  | .hbm, ⟨29, _⟩ => ⟨S8x4096x512, .f32⟩
  | .hbm, ⟨30, _⟩ => ⟨S8x4096x512, .f32⟩
  | .hbm, ⟨31, _⟩ => ⟨S8x4096x1024, .f32⟩
  | .hbm, ⟨32, _⟩ => ⟨S1x1024x1024, .f32⟩
  | .hbm, ⟨33, _⟩ => ⟨S1024x1024, .f32⟩
  | .hbm, ⟨34, _⟩ => ⟨S8x4096x1024, .f32⟩
  | .hbm, ⟨35, _⟩ => ⟨S8x4096x1024, .f32⟩
  | .hbm, ⟨36, _⟩ => ⟨S1x1024, .f32⟩
  | .hbm, ⟨37, _⟩ => ⟨S1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x1024, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S1x1024x5632, .f32⟩
  | .hbm, ⟨55, _⟩ => ⟨S1024x5632, .f32⟩
  | .hbm, ⟨56, _⟩ => ⟨S8x4096x5632, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S1x2816x1024, .f32⟩
  | .hbm, ⟨70, _⟩ => ⟨S2816x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S_, .f32⟩
  | .hbm, ⟨81, _⟩ => ⟨S8x4096x1, .f32⟩
  | .hbm, ⟨82, _⟩ => ⟨S8x4096x1, .f32⟩
  | .hbm, ⟨83, _⟩ => ⟨S8x4096x1, .f32⟩
  | .hbm, ⟨84, _⟩ => ⟨S8x4096x1024, .f32⟩
  | .hbm, ⟨85, _⟩ => ⟨S8x4096x1024, .f32⟩
  | .hbm, ⟨86, _⟩ => ⟨S1x1x1024, .f32⟩
  | .hbm, ⟨87, _⟩ => ⟨S8x4096x1024, .f32⟩
  | .hbm, ⟨88, _⟩ => ⟨S8x4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_cst_7 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== Kernel3.lean ====
abbrev S8x4096x512 : Shape := ⟨3, ![8, 4096, 512]⟩
abbrev S8x4096x256 : Shape := ⟨3, ![8, 4096, 256]⟩
abbrev S8x4096x1024 : Shape := ⟨3, ![8, 4096, 1024]⟩
abbrev S2x512 : Shape := ⟨2, ![2, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x512 : Shape := ⟨2, ![1, 512]⟩
abbrev S512 : Shape := ⟨1, ![512]⟩
abbrev S1x1024 : Shape := ⟨2, ![1, 1024]⟩
abbrev S1x1024x512 : Shape := ⟨3, ![1, 1024, 512]⟩
abbrev S1x1024x256 : Shape := ⟨3, ![1, 1024, 256]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x512 : Shape := ⟨2, ![1024, 512]⟩
abbrev S1024x1 : Shape := ⟨2, ![1024, 1]⟩
abbrev S1024x256 : Shape := ⟨2, ![1024, 256]⟩
abbrev S1024x1024 : Shape := ⟨2, ![1024, 1024]⟩
abbrev S2816x1024 : Shape := ⟨2, ![2816, 1024]⟩

abbrev nBuf : Space → Nat
  | .hbm => 21
  | .vmem => 17
  | .smem => 0
  | _ => 0

abbrev bufTy : (tb : Table) → Fin (tcTables nBuf tb) → BufTy
  | .hbm, ⟨0, _⟩ => ⟨S8x4096x512, .bf16⟩
  | .hbm, ⟨1, _⟩ => ⟨S8x4096x256, .bf16⟩
  | .hbm, ⟨2, _⟩ => ⟨S8x4096x256, .bf16⟩
  | .hbm, ⟨3, _⟩ => ⟨S8x4096x1024, .f32⟩
  | .hbm, ⟨4, _⟩ => ⟨S2x512, .f32⟩
  | .hbm, ⟨5, _⟩ => ⟨S2x1024x1024, .f32⟩
  | .hbm, ⟨6, _⟩ => ⟨S2x1024, .f32⟩
  | .hbm, ⟨7, _⟩ => ⟨S2x1024x5632, .f32⟩
  | .hbm, ⟨8, _⟩ => ⟨S2x2816x1024, .f32⟩
  | .hbm, ⟨9, _⟩ => ⟨S1024, .f32⟩
  | .hbm, ⟨10, _⟩ => ⟨S2x1024x1024, .bf16⟩
  | .hbm, ⟨11, _⟩ => ⟨S2x1024x5632, .bf16⟩
  | .hbm, ⟨12, _⟩ => ⟨S2x2816x1024, .bf16⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S8x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x512, .f32⟩
  | .local _ .vmem, ⟨9, _⟩ => ⟨S1x1024x1024, .bf16⟩
  | .local _ .vmem, ⟨10, _⟩ => ⟨S1x1024, .f32⟩
  | .local _ .vmem, ⟨11, _⟩ => ⟨S1x1024x5632, .bf16⟩
  | .local _ .vmem, ⟨12, _⟩ => ⟨S1x2816x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1024x2816, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x4096x512 : Shape := ⟨3, ![8, 4096, 512]⟩
abbrev S8x4096x256 : Shape := ⟨3, ![8, 4096, 256]⟩
abbrev S8x4096x1024 : Shape := ⟨3, ![8, 4096, 1024]⟩
abbrev S2x512 : Shape := ⟨2, ![2, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x512 : Shape := ⟨2, ![1, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1x1024x1024 : Shape := ⟨3, ![1, 1024, 1024]⟩
abbrev S1024x1024 : Shape := ⟨2, ![1024, 1024]⟩
abbrev S1x1024 : Shape := ⟨2, ![1, 1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x256, .bf16⟩
  | .hbm, ⟨2, _⟩ => ⟨S8x4096x256, .bf16⟩
  | .hbm, ⟨3, _⟩ => ⟨S8x4096x1024, .f32⟩
  | .hbm, ⟨4, _⟩ => ⟨S2x512, .f32⟩
  | .hbm, ⟨5, _⟩ => ⟨S2x1024x1024, .f32⟩
  | .hbm, ⟨6, _⟩ => ⟨S2x1024, .f32⟩
  | .hbm, ⟨7, _⟩ => ⟨S2x1024x5632, .f32⟩
  | .hbm, ⟨8, _⟩ => ⟨S2x2816x1024, .f32⟩
  | .hbm, ⟨9, _⟩ => ⟨S1024, .f32⟩
  | .hbm, ⟨10, _⟩ => ⟨S8x4096x512, .f32⟩
  | .hbm, ⟨11, _⟩ => ⟨S8x4096x256, .f32⟩
  | .hbm, ⟨12, _⟩ => ⟨S8x4096x256, .f32⟩
  | .hbm, ⟨13, _⟩ => ⟨S1x512, .f32⟩
  | .hbm, ⟨14, _⟩ => ⟨S512, .f32⟩
  | .hbm, ⟨15, _⟩ => ⟨S8x4096x512, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x512, .f32⟩
  | .hbm, ⟨27, _⟩ => ⟨S8x4096x512, .f32⟩
  | .hbm, ⟨28, _⟩ => ⟨S1x1x512, .f32⟩
  | .hbm, ⟨29, _⟩ => ⟨S8x4096x512, .f32⟩
  | .hbm, ⟨30, _⟩ => ⟨S8x4096x512, .f32⟩
  | .hbm, ⟨31, _⟩ => ⟨S8x4096x1024, .f32⟩
  | .hbm, ⟨32, _⟩ => ⟨S1x1024x1024, .f32⟩
  | .hbm, ⟨33, _⟩ => ⟨S1024x1024, .f32⟩
  | .hbm, ⟨34, _⟩ => ⟨S8x4096x1024, .f32⟩
  | .hbm, ⟨35, _⟩ => ⟨S8x4096x1024, .f32⟩
  | .hbm, ⟨36, _⟩ => ⟨S1x1024, .f32⟩
  | .hbm, ⟨37, _⟩ => ⟨S1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x1024, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S1x1024x5632, .f32⟩
  | .hbm, ⟨55, _⟩ => ⟨S1024x5632, .f32⟩
  | .hbm, ⟨56, _⟩ => ⟨S8x4096x5632, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S1x2816x1024, .f32⟩
  | .hbm, ⟨70, _⟩ => ⟨S2816x1024, .f32⟩
  | .hbm, ⟨71, _⟩ => ⟨S8x4096x1024, .f32⟩
  | .hbm, ⟨72, _⟩ => ⟨S8x4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Kernel4.lean ====
abbrev S8x4096x1024 : Shape := ⟨3, ![8, 4096, 1024]⟩
abbrev S2x1024 : Shape := ⟨2, ![2, 1024]⟩
abbrev S2x1024x2304 : Shape := ⟨3, ![2, 1024, 2304]⟩
abbrev S2x31x256 : Shape := ⟨3, ![2, 31, 256]⟩
abbrev S2x256 : Shape := ⟨2, ![2, 256]⟩
abbrev S2x256x256 : Shape := ⟨3, ![2, 256, 256]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x31x256 : Shape := ⟨3, ![1, 31, 256]⟩
abbrev S31x256 : Shape := ⟨2, ![31, 256]⟩
abbrev S32x256 : Shape := ⟨2, ![32, 256]⟩
abbrev S1x1024 : Shape := ⟨2, ![1, 1024]⟩
abbrev S1024 : Shape := ⟨1, ![1024]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩
abbrev S8x4096x512 : Shape := ⟨3, ![8, 4096, 512]⟩
abbrev S8x4096x256 : Shape := ⟨3, ![8, 4096, 256]⟩
abbrev S1x512x1024 : Shape := ⟨3, ![1, 512, 1024]⟩
abbrev S1x1024x2304 : Shape := ⟨3, ![1, 1024, 2304]⟩
abbrev S512x128 : Shape := ⟨2, ![512, 128]⟩
abbrev S1x512x512 : Shape := ⟨3, ![1, 512, 512]⟩
abbrev S1x512x256 : Shape := ⟨3, ![1, 512, 256]⟩
abbrev S544x256 : Shape := ⟨2, ![544, 256]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩
abbrev S512x512 : Shape := ⟨2, ![512, 512]⟩
abbrev S1x512x128 : Shape := ⟨3, ![1, 512, 128]⟩
abbrev S64x256 : Shape := ⟨2, ![64, 256]⟩
abbrev S72x256 : Shape := ⟨2, ![72, 256]⟩

abbrev nBuf : Space → Nat
  | .hbm => 83
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2304, .f32⟩
  | .hbm, ⟨3, _⟩ => ⟨S2x31x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x256x256, .f32⟩
  | .hbm, ⟨8, _⟩ => ⟨S2x256, .f32⟩
  | .hbm, ⟨9, _⟩ => ⟨S2x256, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S4096, .f32⟩
  | .hbm, ⟨25, _⟩ => ⟨S4096x1, .f32⟩
  | .hbm, ⟨26, _⟩ => ⟨S1x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S_, .f32⟩
  | .hbm, ⟨33, _⟩ => ⟨S4096x48, .f32⟩
  | .hbm, ⟨34, _⟩ => ⟨S_, .f32⟩
  | .hbm, ⟨35, _⟩ => ⟨S4096x48, .f32⟩
  | .hbm, ⟨36, _⟩ => ⟨S_, .f32⟩
  | .hbm, ⟨37, _⟩ => ⟨S4096x8, .f32⟩
  | .hbm, ⟨38, _⟩ => ⟨S4096x64, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S4096x8, .f32⟩
  | .hbm, ⟨43, _⟩ => ⟨S4096x64, .f32⟩
  | .hbm, ⟨44, _⟩ => ⟨S1x4096x1x64, .f32⟩
  | .hbm, ⟨45, _⟩ => ⟨S1x4096x2x64, .f32⟩
  | .hbm, ⟨46, _⟩ => ⟨S4096x128, .f32⟩
  | .hbm, ⟨47, _⟩ => ⟨S4096x64, .f32⟩
  | .hbm, ⟨48, _⟩ => ⟨S1x4096x1x64, .f32⟩
  | .hbm, ⟨49, _⟩ => ⟨S1x4096x2x64, .f32⟩
  | .hbm, ⟨50, _⟩ => ⟨S4096x128, .f32⟩
  | .hbm, ⟨51, _⟩ => ⟨S2x1024x2304, .bf16⟩
  | .hbm, ⟨52, _⟩ => ⟨S1x31x256, .f32⟩
  | .hbm, ⟨53, _⟩ => ⟨S31x256, .f32⟩
  | .hbm, ⟨54, _⟩ => ⟨S_, .i32⟩
  | .hbm, ⟨55, _⟩ => ⟨S_, .f32⟩
  | .hbm, ⟨56, _⟩ => ⟨S32x256, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S1x256, .f32⟩
  | .hbm, ⟨61, _⟩ => ⟨S256, .f32⟩
  | .hbm, ⟨62, _⟩ => ⟨S1x256, .f32⟩
  | .hbm, ⟨63, _⟩ => ⟨S1x256, .f32⟩
  | .hbm, ⟨64, _⟩ => ⟨S256, .f32⟩
  | .hbm, ⟨65, _⟩ => ⟨S1x256, .f32⟩
  | .hbm, ⟨66, _⟩ => ⟨S1x256, .f32⟩
  | .hbm, ⟨67, _⟩ => ⟨S256, .f32⟩
  | .hbm, ⟨68, _⟩ => ⟨S1x256, .f32⟩
  | .hbm, ⟨69, _⟩ => ⟨S1x256x256, .f32⟩
  | .hbm, ⟨70, _⟩ => ⟨S256x256, .f32⟩
  | .hbm, ⟨71, _⟩ => ⟨S256x256, .bf16⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S1x256, .f32⟩
  | .hbm, ⟨76, _⟩ => ⟨S256, .f32⟩
  | .hbm, ⟨77, _⟩ => ⟨S1x256, .f32⟩
  | .hbm, ⟨78, _⟩ => ⟨S8x4096x512, .bf16⟩
  | .hbm, ⟨79, _⟩ => ⟨S8x4096x512, .bf16⟩
  | .hbm, ⟨80, _⟩ => ⟨S8x4096x512, .bf16⟩
  | .hbm, ⟨81, _⟩ => ⟨S8x4096x256, .f32⟩
  | .hbm, ⟨82, _⟩ => ⟨S8x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S32x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S1x256, .f32⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x256, .f32⟩
  | .local _ .vmem, ⟨24, _⟩ => ⟨S1x512x256, .f32⟩
  | .local _ .vmem, ⟨25, _⟩ => ⟨S1x512x256, .bf16⟩
  | .local _ .vmem, ⟨26, _⟩ => ⟨S1x512x256, .bf16⟩
  | .local _ .vmem, ⟨27, _⟩ => ⟨S544x256, .f32⟩
  | .local _ .vmem, ⟨28, _⟩ => ⟨S512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59_0 : Ref sig .tc := ⟨.hbm, 78, rfl⟩
abbrev main_v59_1 : Ref sig .tc := ⟨.hbm, 79, rfl⟩
abbrev main_v59_2 : Ref sig .tc := ⟨.hbm, 80, rfl⟩
abbrev main_v59_3 : Ref sig .tc := ⟨.hbm, 81, rfl⟩
abbrev main_v59_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S8x4096x1024 : Shape := ⟨3, ![8, 4096, 1024]⟩
abbrev S2x1024 : Shape := ⟨2, ![2, 1024]⟩
abbrev S2x1024x2304 : Shape := ⟨3, ![2, 1024, 2304]⟩
abbrev S2x31x256 : Shape := ⟨3, ![2, 31, 256]⟩
abbrev S2x256 : Shape := ⟨2, ![2, 256]⟩
abbrev S2x256x256 : Shape := ⟨3, ![2, 256, 256]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2304 : Shape := ⟨3, ![1, 1024, 2304]⟩
abbrev S1024x2304 : Shape := ⟨2, ![1024, 2304]⟩
abbrev S8x4096x2304 : Shape := ⟨3, ![8, 4096, 2304]⟩
abbrev S8x4096x512 : Shape := ⟨3, ![8, 4096, 512]⟩
abbrev S8x4096x256 : Shape := ⟨3, ![8, 4096, 256]⟩
abbrev S8x4096x8x64 : Shape := ⟨4, ![8, 4096, 8, 64]⟩
abbrev S8x4096x8x8 : Shape := ⟨4, ![8, 4096, 8, 8]⟩
abbrev S1x4096x1x8 : Shape := ⟨4, ![1, 4096, 1, 8]⟩
abbrev S8x4096x8x48 : Shape := ⟨4, ![8, 4096, 8, 48]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2304, .f32⟩
  | .hbm, ⟨3, _⟩ => ⟨S2x31x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x256x256, .f32⟩
  | .hbm, ⟨8, _⟩ => ⟨S2x256, .f32⟩
  | .hbm, ⟨9, _⟩ => ⟨S2x256, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S4096, .f32⟩
  | .hbm, ⟨25, _⟩ => ⟨S4096x1, .f32⟩
  | .hbm, ⟨26, _⟩ => ⟨S1x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x1x8, .f32⟩
  | .hbm, ⟨32, _⟩ => ⟨S4096x8, .f32⟩
  | .hbm, ⟨33, _⟩ => ⟨S4096x1x8, .f32⟩
  | .hbm, ⟨34, _⟩ => ⟨S1x1024, .f32⟩
  | .hbm, ⟨35, _⟩ => ⟨S1024, .f32⟩
  | .hbm, ⟨36, _⟩ => ⟨S8x4096x1024, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S1x1024x2304, .f32⟩
  | .hbm, ⟨53, _⟩ => ⟨S1024x2304, .f32⟩
  | .hbm, ⟨54, _⟩ => ⟨S8x4096x2304, .f32⟩
  | .hbm, ⟨55, _⟩ => ⟨S8x4096x512, .f32⟩
  | .hbm, ⟨56, _⟩ => ⟨S8x4096x512, .f32⟩
  | .hbm, ⟨57, _⟩ => ⟨S8x4096x512, .f32⟩
  | .hbm, ⟨58, _⟩ => ⟨S8x4096x256, .f32⟩
  | .hbm, ⟨59, _⟩ => ⟨S8x4096x512, .f32⟩
  | .hbm, ⟨60, _⟩ => ⟨S8x4096x8x64, .f32⟩
  | .hbm, ⟨61, _⟩ => ⟨S8x4096x8x8, .f32⟩
  | .hbm, ⟨62, _⟩ => ⟨S8x4096x8x8, .f32⟩
  | .hbm, ⟨63, _⟩ => ⟨S1x4096x1x8, .f32⟩
  | .hbm, ⟨64, _⟩ => ⟨S8x4096x8x8, .f32⟩
  | .hbm, ⟨65, _⟩ => ⟨S8x4096x8x8, .f32⟩
  | .hbm, ⟨66, _⟩ => ⟨S1x4096x1x8, .f32⟩
  | .hbm, ⟨67, _⟩ => ⟨S8x4096x8x8, .f32⟩
  | .hbm, ⟨68, _⟩ => ⟨S8x4096x8x8, .f32⟩
  | .hbm, ⟨69, _⟩ => ⟨S8x4096x8x8, .f32⟩
  | .hbm, ⟨70, _⟩ => ⟨S1x4096x1x8, .f32⟩
  | .hbm, ⟨71, _⟩ => ⟨S8x4096x8x8, .f32⟩
  | .hbm, ⟨72, _⟩ => ⟨S8x4096x8x8, .f32⟩
  | .hbm, ⟨73, _⟩ => ⟨S1x4096x1x8, .f32⟩
  | .hbm, ⟨74, _⟩ => ⟨S8x4096x8x8, .f32⟩
  | .hbm, ⟨75, _⟩ => ⟨S8x4096x8x8, .f32⟩
  | .hbm, ⟨76, _⟩ => ⟨S8x4096x8x8, .f32⟩
  | .hbm, ⟨77, _⟩ => ⟨S8x4096x8x48, .f32⟩
  | .hbm, ⟨78, _⟩ => ⟨S8x4096x8x64, .f32⟩
  | .hbm, ⟨79, _⟩ => ⟨S8x4096x512, .f32⟩
  | .hbm, ⟨80, _⟩ => ⟨S_, .f32⟩
  | .hbm, ⟨81, _⟩ => ⟨S8x4096x512, .f32⟩
  | .hbm, ⟨82, _⟩ => ⟨S8x4096x512, .f32⟩
  | .hbm, ⟨83, _⟩ => ⟨S8x4096x512, .bf16⟩
  | .hbm, ⟨84, _⟩ => ⟨S8x4096x8x64, .f32⟩
  | .hbm, ⟨85, _⟩ => ⟨S8x4096x8x8, .f32⟩
  | .hbm, ⟨86, _⟩ => ⟨S8x4096x8x8, .f32⟩
  | .hbm, ⟨87, _⟩ => ⟨S1x4096x1x8, .f32⟩
  | .hbm, ⟨88, _⟩ => ⟨S8x4096x8x8, .f32⟩
  | .hbm, ⟨89, _⟩ => ⟨S8x4096x8x8, .f32⟩
  | .hbm, ⟨90, _⟩ => ⟨S1x4096x1x8, .f32⟩
  | .hbm, ⟨91, _⟩ => ⟨S8x4096x8x8, .f32⟩
  | .hbm, ⟨92, _⟩ => ⟨S8x4096x8x8, .f32⟩
  | .hbm, ⟨93, _⟩ => ⟨S8x4096x8x8, .f32⟩
  | .hbm, ⟨94, _⟩ => ⟨S1x4096x1x8, .f32⟩
  | .hbm, ⟨95, _⟩ => ⟨S8x4096x8x8, .f32⟩
  | .hbm, ⟨96, _⟩ => ⟨S8x4096x8x8, .f32⟩
  | .hbm, ⟨97, _⟩ => ⟨S1x4096x1x8, .f32⟩
  | .hbm, ⟨98, _⟩ => ⟨S8x4096x8x8, .f32⟩
  | .hbm, ⟨99, _⟩ => ⟨S8x4096x8x8, .f32⟩
  | .hbm, ⟨100, _⟩ => ⟨S8x4096x8x8, .f32⟩
  | .hbm, ⟨101, _⟩ => ⟨S8x4096x8x48, .f32⟩
  | .hbm, ⟨102, _⟩ => ⟨S8x4096x8x64, .f32⟩
  | .hbm, ⟨103, _⟩ => ⟨S8x4096x512, .f32⟩
  | .hbm, ⟨104, _⟩ => ⟨S8x4096x512, .bf16⟩
  | .hbm, ⟨105, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩

abbrev nD : Nat := 1
abbrev τ : Topo := Topo.v7x

variable {F : FTy → Type} [FloatOps F]
-- ==== Proof.RecurIdeal.Setup.lean ====
/- The grid of the recurrence: which point starts the state, the memrefs a point runs on, and the scratch the
   invariant carries. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.WordCmp

@[expose] public section

set_option maxRecDepth 16384

noncomputable section

namespace Cert.KernelIdeal.Recur

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test with which the body clears the state. -/
abbrev starts (i : grid0.Coords) : Prop := (Scalar.cmpi .ne (Scalar.extui (Scalar.cmpi .eq (BitVec.ofNat 32 (i 0).val) 0#32)) 0#32) = 1#1

/-- It holds at the first point and nowhere else. -/
theorem starts_iff : ∀ t : Fin cfg0.N, starts (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have h : starts (grid0.coords t) ↔ t.val % 32 = 0 := by
      simp only [starts, e0]
      word_cmp
    rw [h, Nat.mod_eq_of_lt ht]
   : ∀ t : Fin grid0.N, starts (grid0.coords t) ↔ t.val = 0)

/-! The staging memref of each window at a point, and that it is whole. -/
abbrev ms0 (t : Fin cfg0.N) : Memref sig .tc .vmem S8x128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8x128x256 .bf16 := win0_9.stage (cfg0.slots t 9)
abbrev hs9 (t : Fin cfg0.N) : (ms9 t).IsWhole := hstage0_9 ((cfg0.slots t 9).cast nbuf0_9)

/-- The buffer of the inputs times B, which becomes the buffer of the states. -/
abbrev scX : Memref sig .tc .vmem S1024x2048 .f32 := Memref.whole cc0_scratch0
/-- The state carried from one point to the next. -/
abbrev scH : Memref sig .tc .vmem S8x2048 .f32 := Memref.whole cc0_scratch1
/-- The buffer in which batch rows and time rows are interleaved. -/
abbrev scT : Memref sig .tc .vmem S2x1024x128 .f32 := Memref.whole cc0_scratch2
/-- Views through which contents are stated. -/
abbrev VO : View sig .tc .vmem S8x128x256 .bf16 := (Memref.whole cc0_stg9_0 : Memref sig .tc .vmem S8x128x256 .bf16).view
abbrev VH : View sig .tc .vmem S8x2048 .f32 := scH.view

/-- The launch's invariant with the three scratch buffers spelled as memrefs. -/
theorem PhiA_eq (c : Dev nD) :
    (Pipeline.ΦA spec0 c : sProp 𝕄)
      = iprop(iprop((∃ d, owns (c : Thread nD τ) scX fullShare d) ∗ (∃ d, owns (c : Thread nD τ) scH fullShare d) ∗ (∃ d, owns (c : Thread nD τ) scT fullShare d)) ∗ (∃ r, prngReg c r)) := by
  unfold Pipeline.ΦA; rw [scopedRest0_eq]; simp only [scX, scH, scT, owns_whole]; rfl

end Cert.KernelIdeal.Recur

end
-- ==== Proof.RecurIdeal.First.lean ====
/- The body at the first point, which clears the state: what it leaves in the result's block and in the state. -/
module

public import proofs.«01_k».proof.Proof.RecurIdeal.Setup

@[expose] public section

set_option maxRecDepth 16384

noncomputable section

namespace Cert.KernelIdeal.Recur

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S8x128x256 .f32) (harg1 : arg1.IsWhole) (arg2 : Memref sig .tc .vmem S256x2048 .bf16) (harg2 : arg2.IsWhole) (arg3 : Memref sig .tc .vmem S8x1024 .f32) (harg3 : arg3.IsWhole) (arg4 : Memref sig .tc .vmem S8x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S8x128x256 .bf16) (harg10 : arg10.IsWhole) (arg11 : Memref sig .tc .vmem S1024x2048 .f32) (harg11 : arg11.IsWhole) (arg12 : Memref sig .tc .vmem S8x2048 .f32) (harg12 : arg12.IsWhole) (arg13 : Memref sig .tc .vmem S2x1024x128 .f32) (harg13 : arg13.IsWhole)

set_option maxHeartbeats 1000000 in set_option sl_exec.stridedRows true in
/-- The pieces the body leaves in the result's block and in the state, with its triple. -/
noncomputable def runFirst (hc0 : starts i)
    (x0 : Vec F S8x128x256 .f32) (x1 : Vec F S256x2048 .bf16) (x2 : Vec F S8x1024 .f32) (x3 : Vec F S8x1024 .f32) (x4 : Vec F S2048x256 .bf16) (x5 : Vec F S1x256 .f32) (x6 : Vec F S256x256 .bf16) (x7 : Vec F S1x256 .f32) (x8 : Vec F S1x256 .f32) :
    Σ' (LO : List (View.Piece (Elt F) S8x128x256 .bf16)), { LH : List (View.Piece (Elt F) S8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f LO) ∗ (∃ d, owns (c : Thread nD τ) arg11 fullShare d) ∗ (∃ f, arg12.view.loc (c : Thread nD τ) ↦[arg12.view.set]{fullShare} arg12.view.writes (Elt F) f LH) ∗ (∃ d, owns (c : Thread nD τ) arg13 fullShare d)) -∗ K ⟨⟩))
          ⊢ wp frame (wpE (defs₀ (F := F)) Variants.none c none) E (cc0_s5 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_s5_eq_skeleton]; unfold cc0_s5_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%dx, %fx, -, HX⟩, ⟨%dh, %fh, -, HH⟩, ⟨%dt, %ft, -, HT⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HX]
    · iexists _, _; isplitr; swap; · iexact HX
      ipureintro; rfl
    isplitl [HH]; · iexists _; iexact HH
    iexists _, _; isplitr; swap; · iexact HT
    ipureintro; rfl

variable (hc0 : starts i)
    (x0 : Vec F S8x128x256 .f32) (x1 : Vec F S256x2048 .bf16) (x2 : Vec F S8x1024 .f32) (x3 : Vec F S8x1024 .f32) (x4 : Vec F S2048x256 .bf16) (x5 : Vec F S1x256 .f32) (x6 : Vec F S256x256 .bf16) (x7 : Vec F S1x256 .f32) (x8 : Vec F S1x256 .f32)

/-- The pieces of the result's block cover it. -/
theorem coverFirst (y : S8x128x256.Idx) : ∃ pc ∈ (runFirst c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 S1x128x128.size (by sl_kernel_rfl) y

/-- The pieces of the state cover it. -/
theorem stateCoverFirst (y : S8x2048.Idx) : ∃ pc ∈ (runFirst c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1, y ∈ pc.1.set :=
  View.cover_of_wholeMem (runFirst c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 (by sl_whole_mem) y

/-- What the point leaves in the result's block. -/
def outFirst : Vec F S8x128x256 .bf16 := VO.read (Elt F) (VO.writes (Elt F) VO.junk (runFirst c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)

/-- What the point leaves in the state. -/
def stateFirst : Vec F S8x2048 .f32 := VH.read (Elt F) (VH.writes (Elt F) VH.junk (runFirst c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1)

end Cert.KernelIdeal.Recur

end
-- ==== Proof.RecurIdeal.Next.lean ====
/- The body at a later point, which takes the state the point before left: what it leaves in the result's block and in the state. -/
module

public import proofs.«01_k».proof.Proof.RecurIdeal.First

@[expose] public section

set_option maxRecDepth 16384

noncomputable section

namespace Cert.KernelIdeal.Recur

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S8x128x256 .f32) (harg1 : arg1.IsWhole) (arg2 : Memref sig .tc .vmem S256x2048 .bf16) (harg2 : arg2.IsWhole) (arg3 : Memref sig .tc .vmem S8x1024 .f32) (harg3 : arg3.IsWhole) (arg4 : Memref sig .tc .vmem S8x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S8x128x256 .bf16) (harg10 : arg10.IsWhole) (arg11 : Memref sig .tc .vmem S1024x2048 .f32) (harg11 : arg11.IsWhole) (arg12 : Memref sig .tc .vmem S8x2048 .f32) (harg12 : arg12.IsWhole) (arg13 : Memref sig .tc .vmem S2x1024x128 .f32) (harg13 : arg13.IsWhole)

set_option maxHeartbeats 1000000 in set_option sl_exec.stridedRows true in
/-- The pieces the body leaves in the result's block and in the state, with its triple. -/
noncomputable def runNext (hc0 : ¬ starts i)
    (x0 : Vec F S8x128x256 .f32) (x1 : Vec F S256x2048 .bf16) (x2 : Vec F S8x1024 .f32) (x3 : Vec F S8x1024 .f32) (x4 : Vec F S2048x256 .bf16) (x5 : Vec F S1x256 .f32) (x6 : Vec F S256x256 .bf16) (x7 : Vec F S1x256 .f32) (x8 : Vec F S1x256 .f32) (hprev : Vec F S8x2048 .f32) :
    Σ' (LO : List (View.Piece (Elt F) S8x128x256 .bf16)), { LH : List (View.Piece (Elt F) S8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare hprev ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f LO) ∗ (∃ d, owns (c : Thread nD τ) arg11 fullShare d) ∗ (∃ f, arg12.view.loc (c : Thread nD τ) ↦[arg12.view.set]{fullShare} arg12.view.writes (Elt F) f LH) ∗ (∃ d, owns (c : Thread nD τ) arg13 fullShare d)) -∗ K ⟨⟩))
          ⊢ wp frame (wpE (defs₀ (F := F)) Variants.none c none) E (cc0_s5 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_s5_eq_skeleton]; unfold cc0_s5_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%dx, %fx, -, HX⟩, ⟨%fh, %hfh, HH⟩, ⟨%dt, %ft, -, HT⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfh
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HX]
    · iexists _, _; isplitr; swap; · iexact HX
      ipureintro; rfl
    isplitl [HH]; · iexists _; iexact HH
    iexists _, _; isplitr; swap; · iexact HT
    ipureintro; rfl

variable (hc0 : ¬ starts i)
    (x0 : Vec F S8x128x256 .f32) (x1 : Vec F S256x2048 .bf16) (x2 : Vec F S8x1024 .f32) (x3 : Vec F S8x1024 .f32) (x4 : Vec F S2048x256 .bf16) (x5 : Vec F S1x256 .f32) (x6 : Vec F S256x256 .bf16) (x7 : Vec F S1x256 .f32) (x8 : Vec F S1x256 .f32) (hprev : Vec F S8x2048 .f32)

/-- The pieces of the result's block cover it. -/
theorem coverNext (y : S8x128x256.Idx) : ∃ pc ∈ (runNext c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 hprev).1, y ∈ pc.1.set :=
  View.cover_of_tiledL (runNext c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 hprev).1 S1x128x128.size (by sl_kernel_rfl) y

/-- The pieces of the state cover it. -/
theorem stateCoverNext (y : S8x2048.Idx) : ∃ pc ∈ (runNext c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 hprev).2.1, y ∈ pc.1.set :=
  View.cover_of_tiledL (runNext c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 hprev).2.1 S8x1024.size (by sl_kernel_rfl) y

/-- What the point leaves in the result's block. -/
def outNext : Vec F S8x128x256 .bf16 := VO.read (Elt F) (VO.writes (Elt F) VO.junk (runNext c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 hprev).1)

/-- What the point leaves in the state. -/
def stateNext : Vec F S8x2048 .f32 := VH.read (Elt F) (VH.writes (Elt F) VH.junk (runNext c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 hprev).2.1)

end Cert.KernelIdeal.Recur

end
-- ==== Proof.RecurIdeal.Frame.lean ====
/- The frame of the recurrence: the state carried through the grid, the body at every point, the launch. -/
module

public import proofs.«01_k».proof.Proof.RecurIdeal.Next
public import Idealize.ShloMosaic.Lib.Claim

@[expose] public section

set_option maxRecDepth 16384

noncomputable section

namespace Cert.KernelIdeal.Recur

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first point leaves: the result's block, and the state. -/
def pairFirst (c : Dev nD) (t : Fin cfg0.N) (h : starts (grid0.coords t)) : Vec F S8x128x256 .bf16 × Vec F S8x2048 .f32 :=
  (outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scH (Memref.isWhole_whole _) scT (Memref.isWhole_whole _) h (iblk m c 0 t) (iblk m c 1 t) (iblk m c 2 t) (iblk m c 3 t) (iblk m c 4 t) (iblk m c 5 t) (iblk m c 6 t) (iblk m c 7 t) (iblk m c 8 t), stateFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scH (Memref.isWhole_whole _) scT (Memref.isWhole_whole _) h (iblk m c 0 t) (iblk m c 1 t) (iblk m c 2 t) (iblk m c 3 t) (iblk m c 4 t) (iblk m c 5 t) (iblk m c 6 t) (iblk m c 7 t) (iblk m c 8 t))

/-- What a later point leaves, from the state before it. -/
def pairNext (c : Dev nD) (t : Fin cfg0.N) (h : ¬ starts (grid0.coords t)) (hprev : Vec F S8x2048 .f32) : Vec F S8x128x256 .bf16 × Vec F S8x2048 .f32 :=
  (outNext c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scH (Memref.isWhole_whole _) scT (Memref.isWhole_whole _) h (iblk m c 0 t) (iblk m c 1 t) (iblk m c 2 t) (iblk m c 3 t) (iblk m c 4 t) (iblk m c 5 t) (iblk m c 6 t) (iblk m c 7 t) (iblk m c 8 t) hprev, stateNext c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scX (Memref.isWhole_whole _) scH (Memref.isWhole_whole _) scT (Memref.isWhole_whole _) h (iblk m c 0 t) (iblk m c 1 t) (iblk m c 2 t) (iblk m c 3 t) (iblk m c 4 t) (iblk m c 5 t) (iblk m c 6 t) (iblk m c 7 t) (iblk m c 8 t) hprev)

/-- What the result's block and the state hold after each point. -/
def after (c : Dev nD) : (n : ℕ) → n < cfg0.N → Vec F S8x128x256 .bf16 × Vec F S8x2048 .f32
  | 0, hn => pairFirst m c ⟨0, hn⟩ ((starts_iff ⟨0, hn⟩).mpr rfl)
  | n + 1, hn => pairNext m c ⟨n + 1, hn⟩ (fun h => absurd ((starts_iff ⟨n + 1, hn⟩).mp h) (Nat.succ_ne_zero n)) (after c n (Nat.lt_of_succ_lt hn)).2

theorem after_first (c : Dev nD) (t : Fin cfg0.N) (h0 : t.val = 0) :
    after m c t.val t.isLt = pairFirst m c t ((starts_iff t).mpr h0) := by
  obtain ⟨n, hn⟩ := t
  obtain rfl : n = 0 := h0
  rfl

theorem after_next (c : Dev nD) (t : Fin cfg0.N) (h0 : t.val ≠ 0) :
    after m c t.val t.isLt = pairNext m c t (fun h => h0 ((starts_iff t).mp h)) (after m c (t.val - 1) (Nat.lt_of_le_of_lt (Nat.sub_le _ _) t.isLt)).2 := by
  obtain ⟨n, hn⟩ := t
  cases n with
  | zero => exact absurd rfl h0
  | succ n => rfl

/-- The invariant before a point: the state at what the point before left, everything else at anything. -/
def Inv (c : Dev nD) : (n : ℕ) → n ≤ cfg0.N → sProp 𝕄
  | 0, _ => Pipeline.ΦA spec0 c
  | n + 1, hn => iprop(iprop((∃ d, owns (c : Thread nD τ) scX fullShare d) ∗ owns (c : Thread nD τ) scH fullShare ((after m c n hn).2) ∗ (∃ d, owns (c : Thread nD τ) scT fullShare d)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop((∃ d, owns (c : Thread nD τ) scX fullShare d) ∗ owns (c : Thread nD τ) scH fullShare ((after m c n hn).2) ∗ (∃ d, owns (c : Thread nD τ) scT fullShare d)) ∗ (∃ r, prngReg c r)) := rfl

theorem Inv_pos (c : Dev nD) (n : ℕ) (h : n ≤ cfg0.N) (hz : n ≠ 0) :
    Inv m c n h = iprop(iprop((∃ d, owns (c : Thread nD τ) scX fullShare d) ∗ owns (c : Thread nD τ) scH fullShare ((after m c (n - 1) (by omega)).2) ∗ (∃ d, owns (c : Thread nD τ) scT fullShare d)) ∗ (∃ r, prngReg c r)) := by
  cases n with
  | zero => exact absurd rfl hz
  | succ n => rfl

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (after m c t.val t.isLt).1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (after m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What the body hands back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9]
  rw [show (dats m 0 c).Φ t.succ = Inv m c (t.val + 1) t.isLt from rfl, Inv_succ]
  by_cases hz : t.val = 0
  · rw [Inv_castSucc m c t, Inv_zero m c _ _ hz, PhiA_eq]
    rw [after_first m c t hz]
    unfold pairFirst outFirst stateFirst; dsimp only
    iintro ⟨⟨⟨HX, HH, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst c (grid0.coords t) _ _ _ _ _ _ _ _ _ _ _ _ _ _ _ _ _ _ _ _ _ _ _ _ _ _ ((starts_iff t).mpr hz) (iblk m c 0 t) (iblk m c 1 t) (iblk m c 2 t) (iblk m c 3 t) (iblk m c 4 t) (iblk m c 5 t) (iblk m c 6 t) (iblk m c 7 t) (iblk m c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HX]; · iexact HX
    isplitl [HH]; · iexact HH
    isplitl [HT]; · iexact HT
    iintro ⟨H0, H1, H2, H3, H4, H5, H6, H7, H8, ⟨%e9, H9⟩, HX, ⟨%eh, HH⟩, HT⟩
    isplitl [HX HH HT Hg]
    · isplitl [HX HH HT]
      · isplitl [HX]
        · iexact HX
        isplitl [HH]
        · unfold owns; iexists _; isplitr
          swap; · iexact HH
          ipureintro; exact View.read_writes_of_cover _ _ _ _ _ (stateCoverFirst c _ _ _ _ _ _ _ _ _ _ _ _ _ _ _ _ _ _ _ _ _ _ _ _ _ _ _ _ _ _ _ _ _ _ _ _ _)
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverFirst c _ _ _ _ _ _ _ _ _ _ _ _ _ _ _ _ _ _ _ _ _ _ _ _ _ _ _ _ _ _ _ _ _ _ _ _ _)
  · rw [Inv_castSucc m c t, Inv_pos m c _ _ hz]
    rw [after_next m c t hz]
    unfold pairNext outNext stateNext; dsimp only
    iintro ⟨⟨⟨HX, HH, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runNext c (grid0.coords t) _ _ _ _ _ _ _ _ _ _ _ _ _ _ _ _ _ _ _ _ _ _ _ _ _ _ (fun h => hz ((starts_iff t).mp h)) (iblk m c 0 t) (iblk m c 1 t) (iblk m c 2 t) (iblk m c 3 t) (iblk m c 4 t) (iblk m c 5 t) (iblk m c 6 t) (iblk m c 7 t) (iblk m c 8 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HX]; · iexact HX
    isplitl [HH]; · iexact HH
    isplitl [HT]; · iexact HT
    iintro ⟨H0, H1, H2, H3, H4, H5, H6, H7, H8, ⟨%e9, H9⟩, HX, ⟨%eh, HH⟩, HT⟩
    isplitl [HX HH HT Hg]
    · isplitl [HX HH HT]
      · isplitl [HX]
        · iexact HX
        isplitl [HH]
        · unfold owns; iexists _; isplitr
          swap; · iexact HH
          ipureintro; exact View.read_writes_of_cover _ _ _ _ _ (stateCoverNext c _ _ _ _ _ _ _ _ _ _ _ _ _ _ _ _ _ _ _ _ _ _ _ _ _ _ _ _ _ _ _ _ _ _ _ _ _ _)
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverNext c _ _ _ _ _ _ _ _ _ _ _ _ _ _ _ _ _ _ _ _ _ _ _ _ _ _ _ _ _ _ _ _ _ _ _ _ _ _)

/-! The launch. -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem Phi_out (c : Dev nD) (t : Fin (cfg0.N + 1)) (ht : t.val ≠ 0) : (dats m 0 c).Φ t ⊢ Pipeline.ΦA spec0 c := by
  rw [show (dats m 0 c).Φ t = Inv m c t.val (Nat.le_of_lt_succ t.isLt) from rfl, Inv_pos m c _ _ ht, PhiA_eq]
  iintro ⟨⟨HX, HH, HT⟩, Hg⟩
  isplitl [HX HH HT]
  · isplitl [HX]
    · iexact HX
    isplitl [HH]
    · iexists _; iexact HH
    iexact HT
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Recur

end
-- ==== Proof.RecurIdeal.Loop.lean ====
/- The loop over the time steps of one block: what it carries and what it leaves in the states, in closed form. -/
module

public import proofs.«01_k».proof.Proof.RecurIdeal.Setup
public import Idealize.ShloMosaic.Lib.Pointwise

@[expose] public section

set_option pp.maxSteps 300
set_option maxRecDepth 16384

noncomputable section

namespace Cert.KernelIdeal.Recur

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of step `k` of an array of 128 steps of eight sequences, the columns from `o` on. -/
def stepRows (X : S1024x2048.Idx → Elt F .f32) (o : Fin 1025) (k : ℕ) : Vec F S8x1024 .f32 := fun j =>
  X (ix2 (n0 := 1024) (n1 := 2048) ⟨(8 * k + (j 0).val) % 1024, Nat.mod_lt _ (by decide)⟩
    ⟨o.val + (j 1).val, by have h : (j 1).val < 1024 := (j 1).isLt; have := o.isLt; omega⟩)

/-- The state, real and imaginary, after `k` steps. -/
def seq (a b : Vec F S8x1024 .f32) (X : S1024x2048.Idx → Elt F .f32) (init : Vec F S8x1024 .f32 × Vec F S8x1024 .f32) :
    ℕ → Vec F S8x1024 .f32 × Vec F S8x1024 .f32
  | 0 => init
  | k + 1 => (k0_pay28 a b (seq a b X init k).1 (seq a b X init k).2 (stepRows X 0 k),
      k0_pay29 a b (seq a b X init k).1 (seq a b X init k).2 (stepRows X 1024 k))

/-- The states of 128 steps, row `8 t + b` the state of sequence `b` after step `t`; the real parts in the first 1024 columns. -/
def states (a b : Vec F S8x1024 .f32) (X : S1024x2048.Idx → Elt F .f32) (init : Vec F S8x1024 .f32 × Vec F S8x1024 .f32)
    (y : S1024x2048.Idx) : Elt F .f32 :=
  if h : (y 1).val < 1024 then (seq a b X init ((y 0).val / 8 + 1)).1 (ix2 (n0 := 8) (n1 := 1024) ⟨(y 0).val % 8, Nat.mod_lt _ (by decide)⟩ ⟨(y 1).val, h⟩)
  else (seq a b X init ((y 0).val / 8 + 1)).2 (ix2 (n0 := 8) (n1 := 1024) ⟨(y 0).val % 8, Nat.mod_lt _ (by decide)⟩
    ⟨(y 1).val - 1024, by have h' : (y 1).val < 2048 := (y 1).isLt; omega⟩)

variable (c : Dev nD) (i : grid0.Coords) (arg1 : Memref sig .tc .vmem S8x128x256 .f32) (harg1 : arg1.IsWhole) (arg2 : Memref sig .tc .vmem S256x2048 .bf16) (harg2 : arg2.IsWhole) (arg3 : Memref sig .tc .vmem S8x1024 .f32) (harg3 : arg3.IsWhole) (arg4 : Memref sig .tc .vmem S8x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S8x128x256 .bf16) (harg10 : arg10.IsWhole) (arg11 : Memref sig .tc .vmem S1024x2048 .f32) (harg11 : arg11.IsWhole) (arg12 : Memref sig .tc .vmem S8x2048 .f32) (harg12 : arg12.IsWhole) (arg13 : Memref sig .tc .vmem S2x1024x128 .f32) (harg13 : arg13.IsWhole)
variable (v87 : FVec F S1024x256 .f32) (v103 : Vec F S8x1024 .f32) (v105 : Vec F S8x1024 .f32)

theorem tripR_eq (k : Fin k0_t1_loop.trips) (acc : Vec F S8x1024 .f32 × Vec F S8x1024 .f32) (f : BufTy.Contents (Elt F) arg11.view.ty) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v87 v103 v105 k acc f
      = (k0_pay28 v103 v105 acc.1 acc.2 (arg11.view.readAt (Elt F) (Rect.unit (s := S1024x2048) (k0_off1 k) S8x1024.size (k0_off1_inb k)).toLoadRect f),
         k0_pay29 v103 v105 acc.1 acc.2 (arg11.view.readAt (Elt F) (Rect.unit (s := S1024x2048) (k0_off2 k) S8x1024.size (k0_off2_inb k)).toLoadRect f)) := by
  unfold tripR_k0_t1 trip_k0_t1
  rfl

theorem tripL_eq (k : Fin k0_t1_loop.trips) (acc : Vec F S8x1024 .f32 × Vec F S8x1024 .f32) (f : BufTy.Contents (Elt F) arg11.view.ty) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v87 v103 v105 k acc f
      = [⟨Rect.unit (s := S1024x2048) (k0_off2 k) S8x1024.size (k0_off2_inb k), k0_pay29 v103 v105 acc.1 acc.2 (arg11.view.readAt (Elt F) (Rect.unit (s := S1024x2048) (k0_off2 k) S8x1024.size (k0_off2_inb k)).toLoadRect f)⟩,
         ⟨Rect.unit (s := S1024x2048) (k0_off1 k) S8x1024.size (k0_off1_inb k), k0_pay28 v103 v105 acc.1 acc.2 (arg11.view.readAt (Elt F) (Rect.unit (s := S1024x2048) (k0_off1 k) S8x1024.size (k0_off1_inb k)).toLoadRect f)⟩] := by
  have e30 : ∀ x y z, k0_pay30 (F := F) v103 v105 x y z = k0_pay28 v103 v105 x y z := fun x y z => by
    unfold k0_pay30; exact shapeCast_id _ _
  have e31 : ∀ x y z, k0_pay31 (F := F) v103 v105 x y z = k0_pay29 v103 v105 x y z := fun x y z => by
    unfold k0_pay31; exact shapeCast_id _ _
  simp only [← e30, ← e31]
  unfold tripL_k0_t1 trip_k0_t1
  rfl

theorem read_off1 (k : Fin k0_t1_loop.trips) (f : BufTy.Contents (Elt F) arg11.view.ty) (X : S1024x2048.Idx → Elt F .f32)
    (hX : ∀ y : S1024x2048.Idx, 8 * k.val ≤ (y 0).val → arg11.view.read (Elt F) f y = X y) :
    arg11.view.readAt (Elt F) (Rect.unit (s := S1024x2048) (k0_off1 k) S8x1024.size (k0_off1_inb k)).toLoadRect f = stepRows X 0 k.val := by
  have hk : k.val < 128 := Nat.lt_of_lt_of_le k.isLt k0_t1_abs.2.1
  funext j
  have hj : (j 0).val < 8 := (j 0).isLt
  rw [View.readAt_apply]
  have o0 : k0_off1 k 0 = 8 * k.val := congrFun (k0_off1_eq k) 0
  have o1 : k0_off1 k 1 = 0 := congrFun (k0_off1_eq k) 1
  rw [hX _ (by show 8 * k.val ≤ k0_off1 k 0 + 1 * (j 0).val; omega)]
  unfold stepRows
  congr 1
  funext a
  apply Fin.ext
  match a with
  | 0 => show k0_off1 k 0 + 1 * (j 0).val = (8 * k.val + (j 0).val) % 1024; omega
  | 1 => show k0_off1 k 1 + 1 * (j 1).val = 0 + (j 1).val; omega

theorem read_off2 (k : Fin k0_t1_loop.trips) (f : BufTy.Contents (Elt F) arg11.view.ty) (X : S1024x2048.Idx → Elt F .f32)
    (hX : ∀ y : S1024x2048.Idx, 8 * k.val ≤ (y 0).val → arg11.view.read (Elt F) f y = X y) :
    arg11.view.readAt (Elt F) (Rect.unit (s := S1024x2048) (k0_off2 k) S8x1024.size (k0_off2_inb k)).toLoadRect f = stepRows X 1024 k.val := by
  have hk : k.val < 128 := Nat.lt_of_lt_of_le k.isLt k0_t1_abs.2.1
  funext j
  have hj : (j 0).val < 8 := (j 0).isLt
  rw [View.readAt_apply]
  have o0 : k0_off2 k 0 = 8 * k.val := congrFun (k0_off2_eq k) 0
  have o1 : k0_off2 k 1 = 1024 := congrFun (k0_off2_eq k) 1
  rw [hX _ (by show 8 * k.val ≤ k0_off2 k 0 + 1 * (j 0).val; omega)]
  unfold stepRows
  congr 1
  funext a
  apply Fin.ext
  match a with
  | 0 => show k0_off2 k 0 + 1 * (j 0).val = (8 * k.val + (j 0).val) % 1024; omega
  | 1 => show k0_off2 k 1 + 1 * (j 1).val = 1024 + (j 1).val; omega

/-- Before step `k` the loop carries the state after `k` steps, and the rows of the steps before hold their states. -/
theorem loop_eq (G : BufTy.Contents (Elt F) arg11.view.ty) (init : Vec F S8x1024 .f32 × Vec F S8x1024 .f32) (k : ℕ) (hk : k ≤ k0_t1_loop.trips) :
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v87 v103 v105 G init k).1 = seq v103 v105 (arg11.view.read (Elt F) G) init k
    ∧ ∀ y : S1024x2048.Idx, arg11.view.read (Elt F) (arg11.view.writes (Elt F) G (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v87 v103 v105 G init k).2) y
        = if (y 0).val < 8 * k then states v103 v105 (arg11.view.read (Elt F) G) init y else arg11.view.read (Elt F) G y := by
  induction k with
  | zero =>
    refine ⟨rfl, fun y => ?_⟩
    rw [if_neg (by omega)]
    rfl
  | succ k ih =>
    obtain ⟨h1, h2⟩ := ih (by omega)
    clear ih
    have hlt : k < k0_t1_loop.trips := hk
    have hk' : k < 128 := Nat.lt_of_lt_of_le hlt k0_t1_abs.2.1
    have hsucc := st_k0_t1_succ Variants.none c none i arg1 harg1 arg2 harg2 arg3 harg3 arg4 harg4 arg5 harg5 arg6 harg6 arg7 harg7 arg8 harg8 arg9 harg9 arg10 harg10 arg11 harg11 arg12 harg12 arg13 harg13 v87 v103 v105 G init ⟨k, hlt⟩
    rw [tripR_eq, tripL_eq] at hsucc
    dsimp only at hsucc
    rw [hsucc]
    clear hsucc
    generalize st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v87 v103 v105 G init k = S at h1 h2 ⊢
    have hX : ∀ y : S1024x2048.Idx, 8 * k ≤ (y 0).val → arg11.view.read (Elt F) (arg11.view.writes (Elt F) G S.2) y = arg11.view.read (Elt F) G y :=
      fun y hy => by rw [h2 y, if_neg (by omega)]
    have r1 := read_off1 arg11 ⟨k, hlt⟩ _ _ hX
    have r2 := read_off2 arg11 ⟨k, hlt⟩ _ _ hX
    dsimp only at r1 r2
    rw [r1, r2, h1]
    refine ⟨rfl, fun y => ?_⟩
    have hs1 : k0_pay28 v103 v105 (seq v103 v105 (arg11.view.read (Elt F) G) init k).1 (seq v103 v105 (arg11.view.read (Elt F) G) init k).2 (stepRows (arg11.view.read (Elt F) G) 0 k) = (seq v103 v105 (arg11.view.read (Elt F) G) init (k + 1)).1 := rfl
    have hs2 : k0_pay29 v103 v105 (seq v103 v105 (arg11.view.read (Elt F) G) init k).1 (seq v103 v105 (arg11.view.read (Elt F) G) init k).2 (stepRows (arg11.view.read (Elt F) G) 1024 k) = (seq v103 v105 (arg11.view.read (Elt F) G) init (k + 1)).2 := rfl
    dsimp only [List.cons_append, List.nil_append]
    rw [hs1, hs2]
    have hy1 : (y 1).val < 2048 := (y 1).isLt
    have o1 := k0_off1_eq ⟨k, hlt⟩
    have o2 := k0_off2_eq ⟨k, hlt⟩
    simp only at o1 o2
    by_cases hrow : 8 * k ≤ (y 0).val ∧ (y 0).val < 8 * (k + 1)
    · rw [if_pos hrow.2]
      have hd : (y 0).val / 8 = k := by omega
      by_cases hcol : (y 1).val < 1024
      · rw [View.read_writes_cons_miss_of_axis (a := 1) (o := 1024) (n := 1024) (ho := congrFun o2 1) (hst := rfl) (hn := rfl) (h := .inl hcol)]
        rw [View.read_writes_cons_hit_of_coords _ _ _ _ _ (ix2 (n0 := 8) (n1 := 1024) ⟨(y 0).val % 8, Nat.mod_lt _ (by decide)⟩ ⟨(y 1).val, hcol⟩) _ (fun a => by
          match a with
          | 0 => show (y 0).val = k0_off1 ⟨k, hlt⟩ 0 + 1 * ((y 0).val % 8); rw [show k0_off1 ⟨k, hlt⟩ 0 = 8 * k from congrFun o1 0]; omega
          | 1 => show (y 1).val = k0_off1 ⟨k, hlt⟩ 1 + 1 * (y 1).val; rw [show k0_off1 ⟨k, hlt⟩ 1 = 0 from congrFun o1 1]; omega)]
        unfold states
        rw [dif_pos hcol, hd]
      · rw [View.read_writes_cons_hit_of_coords _ _ _ _ _ (ix2 (n0 := 8) (n1 := 1024) ⟨(y 0).val % 8, Nat.mod_lt _ (by decide)⟩ ⟨(y 1).val - 1024, by omega⟩) _ (fun a => by
          match a with
          | 0 => show (y 0).val = k0_off2 ⟨k, hlt⟩ 0 + 1 * ((y 0).val % 8); rw [show k0_off2 ⟨k, hlt⟩ 0 = 8 * k from congrFun o2 0]; omega
          | 1 => show (y 1).val = k0_off2 ⟨k, hlt⟩ 1 + 1 * ((y 1).val - 1024); rw [show k0_off2 ⟨k, hlt⟩ 1 = 1024 from congrFun o2 1]; omega)]
        unfold states
        rw [dif_neg hcol, hd]
    · rw [View.read_writes_cons_miss_of_axis (a := 0) (o := 8 * k) (n := 8) (ho := congrFun o2 0) (hst := rfl) (hn := rfl) (h := by omega),
        View.read_writes_cons_miss_of_axis (a := 0) (o := 8 * k) (n := 8) (ho := congrFun o1 0) (hst := rfl) (hn := rfl) (h := by omega), h2 y]
      by_cases hlo : (y 0).val < 8 * k
      · rw [if_pos hlo, if_pos (by omega)]
      · rw [if_neg hlo, if_neg (by omega)]

end Cert.KernelIdeal.Recur

end
-- ==== Proof.RecurIdeal.Math.lean ====
/- What one block of the recurrence's call computes, row by row, over the extended reals. -/
module

public import proofs.«01_k».proof.Proof.RecurIdeal.Loop

@[expose] public section

set_option pp.maxSteps 1500
set_option maxRecDepth 16384

noncomputable section

namespace Cert.KernelIdeal.Recur

open Cert.KernelIdeal Cert.KernelIdeal.Gen
open Idealize.ShloMosaic

/-- The input's row `8 t + b`: step `t` of sequence `b`. -/
def inRow (x0 : Vec Ideal S8x128x256 .f32) (r : Fin 1024) (k : Fin 256) : EReal :=
  x0 (ix3 (n0 := 8) (n1 := 128) (n2 := 256) ⟨r.val % 8, Nat.mod_lt _ (by decide)⟩ ⟨r.val / 8, by omega⟩ k)

/-- What drives the states: each row of the input times the input matrix. -/
def drive (x0 : Vec Ideal S8x128x256 .f32) (x1 : Vec Ideal S256x2048 .bf16) (y : S1024x2048.Idx) : EReal :=
  ∑ k : Fin 256, inRow x0 (y 0) k * x1 (ix2 (n0 := 256) (n1 := 2048) k (y 1))

/-- The activation of the gate's argument (`gelu`, by `tanh`). -/
def act (v : EReal) : EReal :=
  Ideal.ofBits .f32 0x3F000000#32 * v * (Ideal.ofBits .f32 0x3F800000#32 + FloatOps.tanh (F := Ideal) (φ := .f32) (Ideal.ofBits .f32 0x3F4C422A#32 * (v + Ideal.ofBits .f32 0x3D372713#32 * (v * v * v))))

/-- The gated row. -/
def gate (p : Fin 256 → EReal) (w : Vec Ideal S256x256 .bf16) (b : Vec Ideal S1x256 .f32) (n : Fin 256) : EReal :=
  act (p n) * FloatOps.divf (F := Ideal) (φ := .f32) (Ideal.ofBits .f32 0x3F800000#32) (Ideal.ofBits .f32 0x3F800000#32 + FloatOps.exp (F := Ideal) (φ := .f32) (Ideal.ofBits .f32 0x00000000#32 - (∑ k : Fin 256, act (p k) * w (ix2 (n0 := 256) (n1 := 256) k n) + b (ix2 (n0 := 1) (n1 := 256) 0 n))))

/-- The row over the root of its mean square, times the gains. -/
def nrm (q : Fin 256 → EReal) (g : Vec Ideal S1x256 .f32) (n : Fin 256) : EReal :=
  q n * FloatOps.rsqrt (F := Ideal) (φ := .f32) (FloatOps.divf (F := Ideal) (φ := .f32) (∑ k : Fin 256, q k * q k) (Ideal.ofBits .f32 0x43800000#32) + Ideal.ofBits .f32 0x358637BD#32) * g (ix2 (n0 := 1) (n1 := 256) 0 n)

theorem pay24_at (v83 v85 : Vec Ideal S1x1024x128 .f32) (x1 : Vec Ideal S256x2048 .bf16) (r : Fin 512) (n : Fin 2048) :
    k0_pay24 v83 v85 x1 (ix2 (n0 := 512) (n1 := 2048) r n)
      = ∑ k : Fin 256, k0_pay22 v83 v85 (ix2 (n0 := 1024) (n1 := 256) ⟨r.val, by omega⟩ k) * x1 (ix2 k n) := by
  pointwise [k0_pay24, k0_pay23]

theorem pay25_at (v83 v85 : Vec Ideal S1x1024x128 .f32) (x1 : Vec Ideal S256x2048 .bf16) (r : Fin 512) (n : Fin 2048) :
    k0_pay25 v83 v85 x1 (ix2 (n0 := 512) (n1 := 2048) r n)
      = ∑ k : Fin 256, k0_pay22 v83 v85 (ix2 (n0 := 1024) (n1 := 256) ⟨512 + r.val, by omega⟩ k) * x1 (ix2 k n) := by
  pointwise [k0_pay25, k0_pay23]

theorem pay35_at (u : Vec Ideal S1024x256 .f32) (s : Vec Ideal S512x2048 .f32) (w : Vec Ideal S2048x256 .bf16) (d : Vec Ideal S1x256 .f32) (r : Fin 512) (n : Fin 256) :
    k0_pay35 u s w d (ix2 (n0 := 512) (n1 := 256) r n)
      = (∑ k : Fin 2048, s (ix2 r k) * w (ix2 k n)) + d (ix2 0 n) * u (ix2 (n0 := 1024) (n1 := 256) ⟨r.val, by omega⟩ n) := by
  pointwise [k0_pay35]

theorem pay34_at (s : Vec Ideal S512x2048 .f32) (w : Vec Ideal S2048x256 .bf16) (r : Fin 512) (n : Fin 256) :
    k0_pay34 s w (ix2 (n0 := 512) (n1 := 256) r n) = ∑ k : Fin 2048, s (ix2 r k) * w (ix2 k n) := by
  pointwise [k0_pay34]

theorem pay41_at (u : Vec Ideal S1024x256 .f32) (s : Vec Ideal S512x2048 .f32) (w : Vec Ideal S2048x256 .bf16) (d : Vec Ideal S1x256 .f32)
    (wg : Vec Ideal S256x256 .bf16) (b g : Vec Ideal S1x256 .f32) (r : Fin 512) (n : Fin 256) :
    k0_pay41 (k0_pay37 (k0_pay35 u s w d) (k0_pay36 u s w d)) (k0_pay39 (k0_pay35 u s w d) (k0_pay36 u s w d) wg b) g (ix2 (n0 := 512) (n1 := 256) r n)
      = nrm (gate (fun n => (∑ k : Fin 2048, s (ix2 r k) * w (ix2 k n)) + d (ix2 0 n) * u (ix2 (n0 := 1024) (n1 := 256) ⟨r.val, by omega⟩ n)) wg b) g n := by
  pointwise [k0_pay41, k0_pay37, k0_pay39, k0_pay36, pay35_at, nrm, gate, act]

theorem pay46_at (u : Vec Ideal S1024x256 .f32) (s : Vec Ideal S512x2048 .f32) (w : Vec Ideal S2048x256 .bf16) (d : Vec Ideal S1x256 .f32)
    (wg : Vec Ideal S256x256 .bf16) (b g : Vec Ideal S1x256 .f32) (r : Fin 512) (n : Fin 256) :
    k0_pay46 (k0_pay38 u (k0_pay34 s w) d) (k0_pay44 (k0_pay40 u (k0_pay34 s w) d wg) b) k0_pay45 g (ix2 (n0 := 512) (n1 := 256) r n)
      = nrm (gate (fun n => (∑ k : Fin 2048, s (ix2 r k) * w (ix2 k n)) + d (ix2 0 n) * u (ix2 (n0 := 1024) (n1 := 256) ⟨512 + r.val, by omega⟩ n)) wg b) g n := by
  pointwise [k0_pay46, k0_pay38, k0_pay44, k0_pay40, k0_pay45, pay34_at, nrm, gate, act]

theorem pay22_at (v83 v85 : Vec Ideal S1x1024x128 .f32) (r : Fin 1024) (k : Fin 256) :
    k0_pay22 v83 v85 (ix2 (n0 := 1024) (n1 := 256) r k)
      = if h : k.val < 128 then v83 (ix3 (n0 := 1) (n1 := 1024) (n2 := 128) 0 r ⟨k.val, h⟩) else v85 (ix3 (n0 := 1) (n1 := 1024) (n2 := 128) 0 r ⟨k.val - 128, by omega⟩) := by
  pointwise [k0_pay22]

theorem eq_ix3' {n1 n2 : ℕ} (y : (⟨3, ![1, n1, n2]⟩ : Shape).Idx) : y = ix3 (n0 := 1) (n1 := n1) (n2 := n2) 0 (y 1) (y 2) := by
  funext a
  match a with
  | 0 => exact Subsingleton.elim (α := Fin 1) _ _
  | 1 => rfl
  | 2 => rfl

theorem pay42_at (a b : Vec Ideal S512x256 .f32) (g : Vec Ideal S1x256 .f32) (r : Fin 512) (n : Fin 128) :
    k0_pay42 a b g (ix3 (n0 := 1) (n1 := 512) (n2 := 128) 0 r n) = k0_pay41 a b g (ix2 (n0 := 512) (n1 := 256) r ⟨n.val, by omega⟩) := by
  pointwise [k0_pay42]

theorem pay43_at (a b : Vec Ideal S512x256 .f32) (g : Vec Ideal S1x256 .f32) (r : Fin 512) (n : Fin 128) :
    k0_pay43 a b g (ix3 (n0 := 1) (n1 := 512) (n2 := 128) 0 r n) = k0_pay41 a b g (ix2 (n0 := 512) (n1 := 256) r ⟨128 + n.val, by omega⟩) := by
  pointwise [k0_pay43]

theorem pay47_at (a b z : Vec Ideal S512x256 .f32) (g : Vec Ideal S1x256 .f32) (r : Fin 512) (n : Fin 128) :
    k0_pay47 a b z g (ix3 (n0 := 1) (n1 := 512) (n2 := 128) 0 r n) = k0_pay46 a b z g (ix2 (n0 := 512) (n1 := 256) r ⟨n.val, by omega⟩) := by
  pointwise [k0_pay47]

theorem pay48_at (a b z : Vec Ideal S512x256 .f32) (g : Vec Ideal S1x256 .f32) (r : Fin 512) (n : Fin 128) :
    k0_pay48 a b z g (ix3 (n0 := 1) (n1 := 512) (n2 := 128) 0 r n) = k0_pay46 a b z g (ix2 (n0 := 512) (n1 := 256) r ⟨128 + n.val, by omega⟩) := by
  pointwise [k0_pay48]

theorem pay49_eq (v : Vec Ideal S1x128x128 .f32) : k0_pay49 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay49]

theorem pay52_eq (v : Vec Ideal S1x128x128 .f32) : k0_pay52 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay52]

theorem pay53_eq (v : Vec Ideal S1x128x128 .f32) : k0_pay53 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay53]

theorem pay54_eq (v : Vec Ideal S1x128x128 .f32) : k0_pay54 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay54]

theorem pay55_eq (v : Vec Ideal S1x128x128 .f32) : k0_pay55 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay55]

theorem pay58_eq (v : Vec Ideal S1x128x128 .f32) : k0_pay58 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay58]

theorem pay59_eq (v : Vec Ideal S1x128x128 .f32) : k0_pay59 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay59]

theorem pay60_eq (v : Vec Ideal S1x128x128 .f32) : k0_pay60 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay60]

theorem pay61_eq (v : Vec Ideal S1x128x128 .f32) : k0_pay61 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay61]

theorem pay62_eq (v : Vec Ideal S1x128x128 .f32) : k0_pay62 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay62]

theorem pay63_eq (v : Vec Ideal S1x128x128 .f32) : k0_pay63 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay63]

theorem pay64_eq (v : Vec Ideal S1x128x128 .f32) : k0_pay64 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay64]

theorem pay65_eq (v : Vec Ideal S1x128x128 .f32) : k0_pay65 v = v := by
  funext y
  obtain ⟨r, n, rfl⟩ : ∃ (r : Fin 128) (n : Fin 128), y = ix3 (n0 := 1) (n1 := 128) (n2 := 128) 0 r n := ⟨y 1, y 2, eq_ix3' y⟩
  pointwise [k0_pay65]

theorem pay51_eq (v : Vec Ideal S1x128x128 .f32) : k0_pay51 (k0_pay50 v) = v := by
  funext y
  obtain ⟨r, n, rfl⟩ : ∃ (r : Fin 128) (n : Fin 128), y = ix3 (n0 := 1) (n1 := 128) (n2 := 128) 0 r n := ⟨y 1, y 2, eq_ix3' y⟩
  pointwise [k0_pay51, k0_pay50]

theorem pay57_eq (v : Vec Ideal S1x128x128 .f32) : k0_pay57 (k0_pay56 v) = v := by
  funext y
  obtain ⟨r, n, rfl⟩ : ∃ (r : Fin 128) (n : Fin 128), y = ix3 (n0 := 1) (n1 := 128) (n2 := 128) 0 r n := ⟨y 1, y 2, eq_ix3' y⟩
  pointwise [k0_pay57, k0_pay56]

theorem pay1_eq (v : Vec Ideal S1x128x128 .f32) : k0_pay1 (k0_pay66 v) = v := by
  funext y
  obtain ⟨r, n, rfl⟩ : ∃ (r : Fin 128) (n : Fin 128), y = ix3 (n0 := 1) (n1 := 128) (n2 := 128) 0 r n := ⟨y 1, y 2, eq_ix3' y⟩
  pointwise [k0_pay1, k0_pay66]

theorem nrm_gate_congr (f f' : Fin 256 → EReal) (w : Vec Ideal S256x256 .bf16) (b g : Vec Ideal S1x256 .f32) (n : Fin 256) (h : ∀ k, f k = f' k) :
    nrm (gate f w b) g n = nrm (gate f' w b) g n := by
  rw [funext h]

/-- A state's real and imaginary halves. -/
def split (h : Vec Ideal S8x2048 .f32) : Vec Ideal S8x1024 .f32 × Vec Ideal S8x1024 .f32 :=
  (fun j => h (ix2 (n0 := 8) (n1 := 2048) (j 0) ⟨(j 1).val, by have h : (j 1).val < 1024 := (j 1).isLt; omega⟩),
   fun j => h (ix2 (n0 := 8) (n1 := 2048) (j 0) ⟨1024 + (j 1).val, by have h : (j 1).val < 1024 := (j 1).isLt; omega⟩))

/-- The state a block leaves, from the state `h` before it. -/
def stateBlk (x0 : Vec Ideal S8x128x256 .f32) (x1 : Vec Ideal S256x2048 .bf16) (x2 x3 : Vec Ideal S8x1024 .f32) (h : Vec Ideal S8x2048 .f32) : Vec Ideal S8x2048 .f32 := fun y =>
  if hy : (y 1).val < 1024 then (seq (F := Ideal) x2 x3 (drive x0 x1) (split h) 128).1 (ix2 (n0 := 8) (n1 := 1024) (y 0) ⟨(y 1).val, hy⟩)
  else (seq (F := Ideal) x2 x3 (drive x0 x1) (split h) 128).2 (ix2 (n0 := 8) (n1 := 1024) (y 0) ⟨(y 1).val - 1024, by have h : (y 1).val < 2048 := (y 1).isLt; omega⟩)

/-- Row `8 t + b` of a block's result: step `t` of sequence `b`. -/
def outRow (x0 : Vec Ideal S8x128x256 .f32) (x1 : Vec Ideal S256x2048 .bf16) (x2 x3 : Vec Ideal S8x1024 .f32) (x4 : Vec Ideal S2048x256 .bf16)
    (x5 : Vec Ideal S1x256 .f32) (x6 : Vec Ideal S256x256 .bf16) (x7 x8 : Vec Ideal S1x256 .f32) (h : Vec Ideal S8x2048 .f32) (r : Fin 1024) (n : Fin 256) : EReal :=
  nrm (gate (fun n => (∑ k : Fin 2048, states (F := Ideal) x2 x3 (drive x0 x1) (split h) (ix2 (n0 := 1024) (n1 := 2048) r k) * x4 (ix2 (n0 := 2048) (n1 := 256) k n)) + x5 (ix2 (n0 := 1) (n1 := 256) 0 n) * inRow x0 r n) x6 x7) x8 n

/-- A block's result. -/
def outBlk (x0 : Vec Ideal S8x128x256 .f32) (x1 : Vec Ideal S256x2048 .bf16) (x2 x3 : Vec Ideal S8x1024 .f32) (x4 : Vec Ideal S2048x256 .bf16)
    (x5 : Vec Ideal S1x256 .f32) (x6 : Vec Ideal S256x256 .bf16) (x7 x8 : Vec Ideal S1x256 .f32) (h : Vec Ideal S8x2048 .f32) : Vec Ideal S8x128x256 .bf16 := fun y =>
  outRow x0 x1 x2 x3 x4 x5 x6 x7 x8 h ⟨8 * (y 1).val + (y 0).val, by have h0 : (y 0).val < 8 := (y 0).isLt; have h1 : (y 1).val < 128 := (y 1).isLt; omega⟩ (y 2)

/-- The result as the scratch holds it: two column halves of `8 t + b` rows. -/
def tbOut (x0 : Vec Ideal S8x128x256 .f32) (x1 : Vec Ideal S256x2048 .bf16) (x2 x3 : Vec Ideal S8x1024 .f32) (x4 : Vec Ideal S2048x256 .bf16)
    (x5 : Vec Ideal S1x256 .f32) (x6 : Vec Ideal S256x256 .bf16) (x7 x8 : Vec Ideal S1x256 .f32) (h : Vec Ideal S8x2048 .f32) : Vec Ideal S2x1024x128 .f32 := fun y =>
  outRow x0 x1 x2 x3 x4 x5 x6 x7 x8 h (y 1) ⟨128 * (y 0).val + (y 2).val, by have h0 : (y 0).val < 2 := (y 0).isLt; have h1 : (y 2).val < 128 := (y 2).isLt; omega⟩

theorem tbOut_at (x0 : Vec Ideal S8x128x256 .f32) (x1 : Vec Ideal S256x2048 .bf16) (x2 x3 : Vec Ideal S8x1024 .f32) (x4 : Vec Ideal S2048x256 .bf16)
    (x5 : Vec Ideal S1x256 .f32) (x6 : Vec Ideal S256x256 .bf16) (x7 x8 : Vec Ideal S1x256 .f32) (h : Vec Ideal S8x2048 .f32) (y : S2x1024x128.Idx) (r : Fin 1024) (n : Fin 256)
    (h1 : (y 1).val = r.val) (h2 : 128 * (y 0).val + (y 2).val = n.val) : tbOut x0 x1 x2 x3 x4 x5 x6 x7 x8 h y = outRow x0 x1 x2 x3 x4 x5 x6 x7 x8 h r n := by
  unfold tbOut
  congr 1
  · exact Fin.ext h1
  · exact Fin.ext h2

theorem outBlk_at (x0 : Vec Ideal S8x128x256 .f32) (x1 : Vec Ideal S256x2048 .bf16) (x2 x3 : Vec Ideal S8x1024 .f32) (x4 : Vec Ideal S2048x256 .bf16)
    (x5 : Vec Ideal S1x256 .f32) (x6 : Vec Ideal S256x256 .bf16) (x7 x8 : Vec Ideal S1x256 .f32) (h : Vec Ideal S8x2048 .f32) (y : S8x128x256.Idx) (r : Fin 1024) (n : Fin 256)
    (h1 : 8 * (y 1).val + (y 0).val = r.val) (h2 : (y 2).val = n.val) : outBlk x0 x1 x2 x3 x4 x5 x6 x7 x8 h y = outRow x0 x1 x2 x3 x4 x5 x6 x7 x8 h r n := by
  unfold outBlk
  congr 1
  · exact Fin.ext h1
  · exact Fin.ext h2

end Cert.KernelIdeal.Recur

end
-- ==== Proof.RecurIdeal.Read.lean ====
/- Reading the blocks and the buffers of one point. -/
module

public import proofs.«01_k».proof.Proof.RecurIdeal.Math
public import Idealize.ShloMosaic.Lib.Pipeline.CanonAppend

@[expose] public section

set_option pp.maxSteps 1500
set_option maxRecDepth 16384

noncomputable section

namespace Cert.KernelIdeal.Recur

open Cert.KernelIdeal Cert.KernelIdeal.Gen
open Idealize.ShloMosaic

open Idealize.ShloMosaic.View

/-- The input, one half of its columns after the other, its row `8 t + b` step `t` of sequence `b`. -/
def tbIn (x0 : Vec Ideal S8x128x256 .f32) (y : S2x1024x128.Idx) : EReal :=
  inRow x0 (y 1) ⟨128 * (y 0).val + (y 2).val, by have h0 : (y 0).val < 2 := (y 0).isLt; have h2 : (y 2).val < 128 := (y 2).isLt; omega⟩

theorem cast_back {α : Type} (v : S1x128x128.Idx → α) (h : S1x128x128.ShapeCasts S128x128) (h' : S128x128.ShapeCasts S1x128x128) :
    shapeCast S1x128x128 (shapeCast S128x128 v h) h' = v := by
  funext j
  idx_vars j
  pointwise

theorem idx_piece (x : S1x128x128.Idx) : ∃ (t l : Fin 128), x = ix3 (n0 := 1) (n1 := 128) (n2 := 128) 0 t l :=
  ⟨x 1, x 2, by
    funext a
    match a with
    | 0 => exact Fin.ext (by have h : (x 0).val < 1 := (x 0).isLt; show (x 0).val = 0; omega)
    | 1 => rfl
    | 2 => rfl⟩

theorem read_in (arg1 : Memref sig .tc .vmem S8x128x256 .f32) (harg1 : arg1.IsWhole) (x0 : Vec Ideal S8x128x256 .f32) (b o : ℕ)
    (inb : ∀ a, (![b, 0, o] : Fin 3 → ℕ) a + S1x128x128.size a ≤ S8x128x256.size a) (hb : b < 8) (ho : o + 128 ≤ 256) (t l : Fin 128) :
    arg1.view.readAt (Elt Ideal) (Rect.unit (s := S8x128x256) ![b, 0, o] S1x128x128.size inb).toLoadRect (harg1.unread x0) (ix3 (n0 := 1) (n1 := 128) (n2 := 128) 0 t l)
      = x0 (ix3 (n0 := 8) (n1 := 128) (n2 := 256) ⟨b, hb⟩ t ⟨o + l.val, by omega⟩) := by
  rw [View.readAt_apply, harg1.read_unread]
  congr 1
  funext a
  apply Fin.ext
  match a with
  | 0 => show b + 1 * 0 = b; omega
  | 1 => show 0 + 1 * t.val = t.val; omega
  | 2 => show o + 1 * l.val = o + l.val; omega

theorem tbIn_emb (x0 : Vec Ideal S8x128x256 .f32) (z b : ℕ)
    (hb : b < 8) (hz : z < 2) (y : S2x1024x128.Idx) (t l : Fin 128)
    (h0 : (y 0).val = z) (h1 : (y 1).val = b + 8 * t.val) (h2 : (y 2).val = l.val) :
    tbIn x0 y = x0 (ix3 (n0 := 8) (n1 := 128) (n2 := 256) ⟨b, hb⟩ t ⟨128 * z + l.val, by omega⟩) := by
  unfold tbIn inRow
  congr 1
  funext a
  apply Fin.ext
  match a with
  | 0 => show (y 1).val % 8 = b; omega
  | 1 => show (y 1).val / 8 = t.val; omega
  | 2 => show 128 * (y 0).val + (y 2).val = 128 * z + l.val; omega

theorem stripes_cover (L : List (Piece (Elt Ideal) S2x1024x128 .f32))
    (h : ∀ (z : Fin 2) (b : Fin 8), ∃ p ∈ L, (∀ a, p.1.off a = (![z.val, b.val, 0] : Fin 3 → ℕ) a) ∧ (∀ a, p.1.size a = (![1, 128, 128] : Fin 3 → ℕ) a)
      ∧ ∀ a, p.1.stride a = (![1, 8, 1] : Fin 3 → ℕ) a) (y : S2x1024x128.Idx) : ∃ p ∈ L, y ∈ p.1.set := by
  obtain ⟨p, hp, ho, hs, ht⟩ := h (y 0) ⟨(y 1).val % 8, Nat.mod_lt _ (by decide)⟩
  have h1 : (y 1).val < 1024 := (y 1).isLt
  have h2 : (y 2).val < 128 := (y 2).isLt
  refine ⟨p, hp, p.1.mem_set.mpr fun a => ?_⟩
  rw [ho, hs, ht]
  match a with
  | 0 => exact ⟨0, by show 0 < 1; omega, by show (y 0).val = (y 0).val + 1 * 0; omega⟩
  | 1 => exact ⟨(y 1).val / 8, by show _ < 128; omega, by show (y 1).val = (y 1).val % 8 + 8 * ((y 1).val / 8); omega⟩
  | 2 => exact ⟨(y 2).val, by show _ < 128; omega, by show (y 2).val = 0 + 1 * (y 2).val; omega⟩

theorem read_whole2 {n0 n1 : ℕ} {e : EltTy} (arg : Memref sig .tc .vmem (⟨2, ![n0, n1]⟩ : Shape) e) (h : arg.IsWhole) (x : (⟨2, ![n0, n1]⟩ : Shape).Idx → Elt Ideal e)
    (inb : ∀ a, (![0, 0] : Fin 2 → ℕ) a + (⟨2, ![n0, n1]⟩ : Shape).size a ≤ (⟨2, ![n0, n1]⟩ : Shape).size a) :
    arg.view.readAt (Elt Ideal) (Rect.unit (s := (⟨2, ![n0, n1]⟩ : Shape)) ![0, 0] (⟨2, ![n0, n1]⟩ : Shape).size inb).toLoadRect (h.unread x) = x := by
  funext j
  rw [View.readAt_apply, h.read_unread]
  congr 1
  funext a
  apply Fin.ext
  match a with
  | 0 => show 0 + 1 * (j 0).val = (j 0).val; omega
  | 1 => show 0 + 1 * (j 1).val = (j 1).val; omega

theorem read_half1 (arg12 : Memref sig .tc .vmem S8x2048 .f32) (h : arg12.IsWhole) (x : Vec Ideal S8x2048 .f32)
    (inb : ∀ a, (![0, 0] : Fin 2 → ℕ) a + S8x1024.size a ≤ S8x2048.size a) :
    arg12.view.readAt (Elt Ideal) (Rect.unit (s := S8x2048) ![0, 0] S8x1024.size inb).toLoadRect (h.unread x) = (split x).1 := by
  funext j
  rw [View.readAt_apply, h.read_unread]
  unfold split
  congr 1
  funext a
  apply Fin.ext
  match a with
  | 0 => show 0 + 1 * (j 0).val = (j 0).val; omega
  | 1 => show 0 + 1 * (j 1).val = (j 1).val; omega

theorem read_half2 (arg12 : Memref sig .tc .vmem S8x2048 .f32) (h : arg12.IsWhole) (x : Vec Ideal S8x2048 .f32)
    (inb : ∀ a, (![0, 1024] : Fin 2 → ℕ) a + S8x1024.size a ≤ S8x2048.size a) :
    arg12.view.readAt (Elt Ideal) (Rect.unit (s := S8x2048) ![0, 1024] S8x1024.size inb).toLoadRect (h.unread x) = (split x).2 := by
  funext j
  rw [View.readAt_apply, h.read_unread]
  unfold split
  congr 1
  funext a
  apply Fin.ext
  match a with
  | 0 => show 0 + 1 * (j 0).val = (j 0).val; omega
  | 1 => show 1024 + 1 * (j 1).val = 1024 + (j 1).val; omega

/-- The state before the first block. -/
def zeroState : Vec Ideal S8x2048 .f32 := fun _ => Ideal.ofBits .f32 0x00000000#32

theorem pay2_eq : k0_pay2 (F := Ideal) = zeroState := by
  funext y
  idx_vars y
  pointwise [k0_pay2, zeroState]

end Cert.KernelIdeal.Recur

end
-- ==== Proof.RecurIdeal.PointNext.lean ====
/- What a later point reads back from its buffers. -/
module

public import proofs.«01_k».proof.Proof.RecurIdeal.Read
public import proofs.«01_k».proof.Proof.RecurIdeal.Next

@[expose] public section

set_option pp.maxSteps 1500
set_option maxRecDepth 16384

noncomputable section

namespace Cert.KernelIdeal.Recur

open Cert.KernelIdeal Cert.KernelIdeal.Gen
open Idealize.ShloMosaic

open Idealize.ShloMosaic.View

variable (c : Dev nD) (i : grid0.Coords) (arg1 : Memref sig .tc .vmem S8x128x256 .f32) (harg1 : arg1.IsWhole) (arg2 : Memref sig .tc .vmem S256x2048 .bf16) (harg2 : arg2.IsWhole) (arg3 : Memref sig .tc .vmem S8x1024 .f32) (harg3 : arg3.IsWhole) (arg4 : Memref sig .tc .vmem S8x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S8x128x256 .bf16) (harg10 : arg10.IsWhole) (arg11 : Memref sig .tc .vmem S1024x2048 .f32) (harg11 : arg11.IsWhole) (arg12 : Memref sig .tc .vmem S8x2048 .f32) (harg12 : arg12.IsWhole) (arg13 : Memref sig .tc .vmem S2x1024x128 .f32) (harg13 : arg13.IsWhole)
variable (x0 : Vec Ideal S8x128x256 .f32) (x1 : Vec Ideal S256x2048 .bf16) (x2 : Vec Ideal S8x1024 .f32) (x3 : Vec Ideal S8x1024 .f32) (x4 : Vec Ideal S2048x256 .bf16) (x5 : Vec Ideal S1x256 .f32) (x6 : Vec Ideal S256x256 .bf16) (x7 : Vec Ideal S1x256 .f32) (x8 : Vec Ideal S1x256 .f32) (hprev : Vec Ideal S8x2048 .f32)

theorem next_in_pieces : ∀ p ∈ runNext.sl.HT_16 (F := Ideal) c arg1 harg1 x0, ∀ x : p.1.shape.Idx, p.2 x = tbIn x0 (p.1.emb x) := by
  intro p hp
  unfold runNext.sl.HT_16 at hp
  simp only [List.mem_cons, List.not_mem_nil, or_false] at hp
  rcases hp with rfl | rfl | rfl | rfl | rfl | rfl | rfl | rfl | rfl | rfl | rfl | rfl | rfl | rfl | rfl | rfl
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 7 (by decide) (by decide) _ t l (by rfl) (by show 7 + 8 * t.val = _; rfl) (by show 0 + 1 * l.val = l.val; omega)).symm
    exact read_in arg1 harg1 x0 7 128 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 7 (by decide) (by decide) _ t l (by rfl) (by show 7 + 8 * t.val = _; rfl) (by show 0 + 1 * l.val = l.val; omega)).symm
    exact read_in arg1 harg1 x0 7 0 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 6 (by decide) (by decide) _ t l (by rfl) (by show 6 + 8 * t.val = _; rfl) (by show 0 + 1 * l.val = l.val; omega)).symm
    exact read_in arg1 harg1 x0 6 128 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 6 (by decide) (by decide) _ t l (by rfl) (by show 6 + 8 * t.val = _; rfl) (by show 0 + 1 * l.val = l.val; omega)).symm
    exact read_in arg1 harg1 x0 6 0 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 5 (by decide) (by decide) _ t l (by rfl) (by show 5 + 8 * t.val = _; rfl) (by show 0 + 1 * l.val = l.val; omega)).symm
    exact read_in arg1 harg1 x0 5 128 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 5 (by decide) (by decide) _ t l (by rfl) (by show 5 + 8 * t.val = _; rfl) (by show 0 + 1 * l.val = l.val; omega)).symm
    exact read_in arg1 harg1 x0 5 0 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 4 (by decide) (by decide) _ t l (by rfl) (by show 4 + 8 * t.val = _; rfl) (by show 0 + 1 * l.val = l.val; omega)).symm
    exact read_in arg1 harg1 x0 4 128 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 4 (by decide) (by decide) _ t l (by rfl) (by show 4 + 8 * t.val = _; rfl) (by show 0 + 1 * l.val = l.val; omega)).symm
    exact read_in arg1 harg1 x0 4 0 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 3 (by decide) (by decide) _ t l (by rfl) (by show 3 + 8 * t.val = _; rfl) (by show 0 + 1 * l.val = l.val; omega)).symm
    exact read_in arg1 harg1 x0 3 128 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 3 (by decide) (by decide) _ t l (by rfl) (by show 3 + 8 * t.val = _; rfl) (by show 0 + 1 * l.val = l.val; omega)).symm
    exact read_in arg1 harg1 x0 3 0 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 2 (by decide) (by decide) _ t l (by rfl) (by show 2 + 8 * t.val = _; rfl) (by show 0 + 1 * l.val = l.val; omega)).symm
    exact read_in arg1 harg1 x0 2 128 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 2 (by decide) (by decide) _ t l (by rfl) (by show 2 + 8 * t.val = _; rfl) (by show 0 + 1 * l.val = l.val; omega)).symm
    exact read_in arg1 harg1 x0 2 0 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 1 (by decide) (by decide) _ t l (by rfl) (by show 1 + 8 * t.val = _; rfl) (by show 0 + 1 * l.val = l.val; omega)).symm
    exact read_in arg1 harg1 x0 1 128 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 1 (by decide) (by decide) _ t l (by rfl) (by show 1 + 8 * t.val = _; rfl) (by show 0 + 1 * l.val = l.val; omega)).symm
    exact read_in arg1 harg1 x0 1 0 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 0 (by decide) (by decide) _ t l (by rfl) (by show 0 + 8 * t.val = _; rfl) (by show 0 + 1 * l.val = l.val; omega)).symm
    exact read_in arg1 harg1 x0 0 128 _ (by decide) (by decide) t l
  · intro x
    obtain ⟨t, l, rfl⟩ := idx_piece x
    dsimp only
    simp only [runNext.sl.r, runNext.sl.r_1, runNext.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 0 (by decide) (by decide) _ t l (by rfl) (by show 0 + 8 * t.val = _; rfl) (by show 0 + 1 * l.val = l.val; omega)).symm
    exact read_in arg1 harg1 x0 0 0 _ (by decide) (by decide) t l

theorem next_v83 (r : Fin 1024) (k : Fin 128) : runNext.sl.v83 (F := Ideal) c arg1 harg1 arg13 x0 (ix3 (n0 := 1) (n1 := 1024) (n2 := 128) 0 r k) = inRow x0 r ⟨k.val, by omega⟩ := by
  unfold runNext.sl.v83
  rw [View.readCov_eq_canon']
  beta_reduce
  rw [View.canon_apply_of_pieces (tbIn x0) _ (next_in_pieces c arg1 harg1 x0) _ (stripes_cover _ (of_decide_eq_true (by rfl)) _)]
  unfold tbIn
  congr 1
  · apply Fin.ext; show 0 + 1 * r.val = r.val; omega
  · apply Fin.ext; show 128 * (0 + 1 * 0) + (0 + 1 * k.val) = k.val; omega

theorem next_v85 (r : Fin 1024) (k : Fin 128) : runNext.sl.v85 (F := Ideal) c arg1 harg1 arg13 x0 (ix3 (n0 := 1) (n1 := 1024) (n2 := 128) 0 r k) = inRow x0 r ⟨128 + k.val, by omega⟩ := by
  unfold runNext.sl.v85
  rw [View.readCov_eq_canon']
  beta_reduce
  rw [View.canon_apply_of_pieces (tbIn x0) _ (next_in_pieces c arg1 harg1 x0) _ (stripes_cover _ (of_decide_eq_true (by rfl)) _)]
  unfold tbIn
  congr 1
  · apply Fin.ext; show 0 + 1 * r.val = r.val; omega
  · apply Fin.ext; show 128 * (1 + 1 * 0) + (0 + 1 * k.val) = 128 + k.val; omega

theorem next_rows (r : Fin 1024) (k : Fin 256) : k0_pay22 (runNext.sl.v83 (F := Ideal) c arg1 harg1 arg13 x0) (runNext.sl.v85 (F := Ideal) c arg1 harg1 arg13 x0) (ix2 (n0 := 1024) (n1 := 256) r k) = inRow x0 r k := by
  rw [pay22_at]
  by_cases h : k.val < 128
  · rw [dif_pos h, next_v83]
  · rw [dif_neg h, next_v85]
    congr 1
    apply Fin.ext
    show 128 + (k.val - 128) = k.val
    omega

theorem next_drive : arg11.view.read (Elt Ideal) (arg11.view.writes (Elt Ideal) arg11.view.junk (runNext.sl.HX_2 (F := Ideal) c arg1 harg1 arg2 harg2 arg13 x0 x1)) = drive x0 x1 := by
  funext y
  rw [View.read_writes_junk_apply_eq_canon]
  refine View.canon_apply_of_pieces (Val := Elt Ideal) (e := .f32) (drive x0 x1) (runNext.sl.HX_2 (F := Ideal) c arg1 harg1 arg2 harg2 arg13 x0 x1) ?_ y (View.cover_of_tiled _ ![512, 2048] (by rfl) y)
  intro p hp
  unfold runNext.sl.HX_2 at hp
  simp only [List.mem_cons, List.not_mem_nil, or_false] at hp
  rcases hp with rfl | rfl
  · intro x
    obtain ⟨r, n, rfl⟩ : ∃ (r : Fin 512) (n : Fin 2048), x = ix2 (n0 := 512) (n1 := 2048) r n := ⟨x 0, x 1, eq_ix2 x⟩
    dsimp only
    rw [read_whole2]
    refine (pay25_at _ _ _ r n).trans ?_
    unfold drive
    refine Finset.sum_congr rfl fun k _ => ?_
    rw [next_rows]
    congr 1
    · congr 1
      apply Fin.ext; show 512 + r.val = 512 + 1 * r.val; omega
    · congr 2
      apply Fin.ext; show n.val = 0 + 1 * n.val; omega
  · intro x
    obtain ⟨r, n, rfl⟩ : ∃ (r : Fin 512) (n : Fin 2048), x = ix2 (n0 := 512) (n1 := 2048) r n := ⟨x 0, x 1, eq_ix2 x⟩
    dsimp only
    rw [read_whole2]
    refine (pay24_at _ _ _ r n).trans ?_
    unfold drive
    refine Finset.sum_congr rfl fun k _ => ?_
    rw [next_rows]
    congr 1
    · congr 1
      apply Fin.ext; show r.val = 0 + 1 * r.val; omega
    · congr 2
      apply Fin.ext; show n.val = 0 + 1 * n.val; omega

theorem next_init : ((arg12.view.readAt (Elt Ideal) (Rect.unit (s := S8x2048) ![0, 0] S8x1024.size inb_S8x2048_S8x1024_0_0).toLoadRect (harg12.unread hprev)), (arg12.view.readAt (Elt Ideal) (Rect.unit (s := S8x2048) ![0, 1024] S8x1024.size inb_S8x2048_S8x1024_0_1024).toLoadRect (harg12.unread hprev))) = split hprev := by
  rw [read_half1, read_half2]
  rfl

theorem next_loop (y : S1024x2048.Idx) :
    arg11.view.read (Elt Ideal) (arg11.view.writes (Elt Ideal) arg11.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (runNext.sl.r_3 (F := Ideal) c arg1 harg1 arg13 x0) (runNext.sl.r_4 (F := Ideal) c arg3 harg3 x2) (arg4.view.readAt (Elt Ideal) (Rect.unit (s := S8x1024) ![0, 0] S8x1024.size inb_S8x1024_S8x1024_0_0).toLoadRect (harg4.unread x3)) (arg11.view.writes (Elt Ideal) arg11.view.junk (runNext.sl.HX_2 (F := Ideal) c arg1 harg1 arg2 harg2 arg13 x0 x1)) ((arg12.view.readAt (Elt Ideal) (Rect.unit (s := S8x2048) ![0, 0] S8x1024.size inb_S8x2048_S8x1024_0_0).toLoadRect (harg12.unread hprev)), (arg12.view.readAt (Elt Ideal) (Rect.unit (s := S8x2048) ![0, 1024] S8x1024.size inb_S8x2048_S8x1024_0_1024).toLoadRect (harg12.unread hprev))) k0_t1_loop.trips).2 ++ runNext.sl.HX_2 (F := Ideal) c arg1 harg1 arg2 harg2 arg13 x0 x1)) y
      = states (F := Ideal) x2 x3 (drive x0 x1) (split hprev) y := by
  rw [View.writes_append]
  refine ((loop_eq (F := Ideal) c i arg1 harg1 arg2 harg2 arg3 harg3 arg4 harg4 arg5 harg5 arg6 harg6 arg7 harg7 arg8 harg8 arg9 harg9 arg10 harg10 arg11 harg11 arg12 harg12 arg13 harg13 _ _ _ _ _ _ le_rfl).2 y).trans ?_
  have hy : (y 0).val < 1024 := (y 0).isLt
  rw [if_pos (show (y 0).val < 8 * k0_t1_loop.trips by have : k0_t1_loop.trips = 128 := by decide
                                                       omega)]
  rw [next_drive, next_init]
  unfold runNext.sl.r_4
  rw [read_whole2, read_whole2]

theorem next_v117 (r : Fin 512) (k : Fin 2048) : runNext.sl.v117 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 hprev (ix2 (n0 := 512) (n1 := 2048) r k)
    = states (F := Ideal) x2 x3 (drive x0 x1) (split hprev) (ix2 (n0 := 1024) (n1 := 2048) ⟨r.val, by omega⟩ k) := by
  unfold runNext.sl.v117
  rw [View.readCov_eq_canon']
  beta_reduce
  rw [← View.read_writes_junk_apply_eq_canon arg11.view, next_loop]
  congr 1
  funext a
  apply Fin.ext
  match a with
  | 0 => show 0 + 1 * r.val = r.val; omega
  | 1 => show 0 + 1 * k.val = k.val; omega

theorem next_v122 (r : Fin 512) (k : Fin 2048) : runNext.sl.v122 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 hprev (ix2 (n0 := 512) (n1 := 2048) r k)
    = states (F := Ideal) x2 x3 (drive x0 x1) (split hprev) (ix2 (n0 := 1024) (n1 := 2048) ⟨512 + r.val, by omega⟩ k) := by
  unfold runNext.sl.v122
  rw [View.readCov_eq_canon']
  beta_reduce
  rw [← View.read_writes_junk_apply_eq_canon arg11.view, next_loop]
  congr 1
  funext a
  apply Fin.ext
  match a with
  | 0 => show 512 + 1 * r.val = 512 + r.val; omega
  | 1 => show 0 + 1 * k.val = k.val; omega

theorem next_hi (r : Fin 512) (n : Fin 256) : k0_pay46 (runNext.sl.r_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hprev) (runNext.sl.r_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hprev) k0_pay45 x8 (ix2 (n0 := 512) (n1 := 256) r n) = outRow x0 x1 x2 x3 x4 x5 x6 x7 x8 hprev ⟨512 + r.val, by omega⟩ n := by
  delta runNext.sl.r_9 runNext.sl.r_12 runNext.sl.r_11 runNext.sl.r_5 runNext.sl.r_3
  rw [read_whole2, read_whole2, read_whole2, read_whole2]
  rw [pay46_at]
  unfold outRow
  refine nrm_gate_congr _ _ _ _ _ _ fun n => ?_
  rw [next_rows]
  simp only [next_v122]

theorem next_lo (r : Fin 512) (n : Fin 256) : k0_pay41 (runNext.sl.r_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hprev) (runNext.sl.r_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hprev) x8 (ix2 (n0 := 512) (n1 := 256) r n) = outRow x0 x1 x2 x3 x4 x5 x6 x7 x8 hprev ⟨r.val, by omega⟩ n := by
  delta runNext.sl.r_8 runNext.sl.r_10 runNext.sl.r_6 runNext.sl.r_7 runNext.sl.r_3
  rw [read_whole2, read_whole2, read_whole2, read_whole2]
  rw [pay41_at]
  unfold outRow
  refine nrm_gate_congr _ _ _ _ _ _ fun n => ?_
  rw [next_rows]
  simp only [next_v117]

theorem next_rows_out (y : S2x1024x128.Idx) : canon (runNext.sl.HT_20 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev) y = tbOut x0 x1 x2 x3 x4 x5 x6 x7 x8 hprev y := by
  unfold runNext.sl.HT_20
  refine View.canon_append_of_pieces (Val := Elt Ideal) (e := .f32) (tbOut x0 x1 x2 x3 x4 x5 x6 x7 x8 hprev) (runNext.sl.HT_16 (F := Ideal) c arg1 harg1 x0) [_, _, _, _] ?_ y (View.cover_of_tiled _ ![1, 512, 128] (by rfl) y)
  intro p hp
  simp only [List.mem_cons, List.not_mem_nil, or_false] at hp
  rcases hp with rfl | rfl | rfl | rfl
  · intro x
    obtain ⟨r, n, rfl⟩ : ∃ (r : Fin 512) (n : Fin 128), x = ix3 (n0 := 1) (n1 := 512) (n2 := 128) 0 r n := ⟨x 1, x 2, eq_ix3' x⟩
    dsimp only
    rw [read_whole2, tbOut_at x0 x1 x2 x3 x4 x5 x6 x7 x8 hprev _ ⟨512 + r.val, by omega⟩ ⟨128 + n.val, by omega⟩ (by show 512 + 1 * r.val = _; dsimp only; omega) (by show 128 * (1 + 1 * 0) + (0 + 1 * n.val) = _; dsimp only; omega)]
    exact (pay48_at _ _ _ _ r n).trans (next_hi c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev r _)
  · intro x
    obtain ⟨r, n, rfl⟩ : ∃ (r : Fin 512) (n : Fin 128), x = ix3 (n0 := 1) (n1 := 512) (n2 := 128) 0 r n := ⟨x 1, x 2, eq_ix3' x⟩
    dsimp only
    rw [read_whole2, tbOut_at x0 x1 x2 x3 x4 x5 x6 x7 x8 hprev _ ⟨512 + r.val, by omega⟩ ⟨n.val, by omega⟩ (by show 512 + 1 * r.val = _; dsimp only; omega) (by show 128 * (0 + 1 * 0) + (0 + 1 * n.val) = _; dsimp only; omega)]
    exact (pay47_at _ _ _ _ r n).trans (next_hi c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev r _)
  · intro x
    obtain ⟨r, n, rfl⟩ : ∃ (r : Fin 512) (n : Fin 128), x = ix3 (n0 := 1) (n1 := 512) (n2 := 128) 0 r n := ⟨x 1, x 2, eq_ix3' x⟩
    dsimp only
    rw [read_whole2, tbOut_at x0 x1 x2 x3 x4 x5 x6 x7 x8 hprev _ ⟨r.val, by omega⟩ ⟨128 + n.val, by omega⟩ (by show 0 + 1 * r.val = _; dsimp only; omega) (by show 128 * (1 + 1 * 0) + (0 + 1 * n.val) = _; dsimp only; omega)]
    exact (pay43_at _ _ _ r n).trans (next_lo c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev r _)
  · intro x
    obtain ⟨r, n, rfl⟩ : ∃ (r : Fin 512) (n : Fin 128), x = ix3 (n0 := 1) (n1 := 512) (n2 := 128) 0 r n := ⟨x 1, x 2, eq_ix3' x⟩
    dsimp only
    rw [read_whole2, tbOut_at x0 x1 x2 x3 x4 x5 x6 x7 x8 hprev _ ⟨r.val, by omega⟩ ⟨n.val, by omega⟩ (by show 0 + 1 * r.val = _; dsimp only; omega) (by show 128 * (0 + 1 * 0) + (0 + 1 * n.val) = _; dsimp only; omega)]
    exact (pay42_at _ _ _ r n).trans (next_lo c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev r _)

theorem next_read (z b : ℕ) (hz : z < 2) (hb : b < 8) (inb) (t n : Fin 128) :
    arg13.view.readCov (runNext.sl.HT_20 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev) (⟨![z, b, 0], S1x128x128.size, ![1, 8, 1], inb⟩ : LoadRect S2x1024x128) (ix3 (n0 := 1) (n1 := 128) (n2 := 128) 0 t n)
      = outRow x0 x1 x2 x3 x4 x5 x6 x7 x8 hprev ⟨8 * t.val + b, by omega⟩ ⟨128 * z + n.val, by omega⟩ := by
  rw [View.readCov_eq_canon']
  beta_reduce
  rw [next_rows_out]
  exact tbOut_at _ _ _ _ _ _ _ _ _ _ _ _ _ (by show b + 8 * t.val = 8 * t.val + b; omega) (by show 128 * (z + 1 * 0) + (0 + 1 * n.val) = 128 * z + n.val; omega)

set_option maxHeartbeats 2000000 in
theorem next_out (hc0 : ¬ starts i) : outNext (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 hprev = outBlk x0 x1 x2 x3 x4 x5 x6 x7 x8 hprev := by
  funext y
  unfold outNext
  rw [View.read_writes_junk_apply_eq_canon]
  refine View.canon_apply_of_pieces (Val := Elt Ideal) (e := .bf16) (outBlk x0 x1 x2 x3 x4 x5 x6 x7 x8 hprev) (runNext (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 hprev).1 ?_ y (View.cover_of_tiled _ ![1, 128, 128] (by rfl) y)
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay1_eq (runNext.sl.v331 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 1 7 (by decide) (by decide) _ t n).trans ?_
    exact (outBlk_at _ _ _ _ _ _ _ _ _ _ _ _ _ (by show 8 * (0 + 1 * t.val) + (7 + 1 * 0) = 8 * t.val + 7; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay65_eq (runNext.sl.v325 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 0 7 (by decide) (by decide) _ t n).trans ?_
    exact (outBlk_at _ _ _ _ _ _ _ _ _ _ _ _ _ (by show 8 * (0 + 1 * t.val) + (7 + 1 * 0) = 8 * t.val + 7; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay64_eq (runNext.sl.v319 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 1 6 (by decide) (by decide) _ t n).trans ?_
    exact (outBlk_at _ _ _ _ _ _ _ _ _ _ _ _ _ (by show 8 * (0 + 1 * t.val) + (6 + 1 * 0) = 8 * t.val + 6; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay63_eq (runNext.sl.v313 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 0 6 (by decide) (by decide) _ t n).trans ?_
    exact (outBlk_at _ _ _ _ _ _ _ _ _ _ _ _ _ (by show 8 * (0 + 1 * t.val) + (6 + 1 * 0) = 8 * t.val + 6; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay62_eq (runNext.sl.v307 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 1 5 (by decide) (by decide) _ t n).trans ?_
    exact (outBlk_at _ _ _ _ _ _ _ _ _ _ _ _ _ (by show 8 * (0 + 1 * t.val) + (5 + 1 * 0) = 8 * t.val + 5; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay61_eq (runNext.sl.v301 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 0 5 (by decide) (by decide) _ t n).trans ?_
    exact (outBlk_at _ _ _ _ _ _ _ _ _ _ _ _ _ (by show 8 * (0 + 1 * t.val) + (5 + 1 * 0) = 8 * t.val + 5; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay60_eq (runNext.sl.v295 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 1 4 (by decide) (by decide) _ t n).trans ?_
    exact (outBlk_at _ _ _ _ _ _ _ _ _ _ _ _ _ (by show 8 * (0 + 1 * t.val) + (4 + 1 * 0) = 8 * t.val + 4; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay59_eq (runNext.sl.v289 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 0 4 (by decide) (by decide) _ t n).trans ?_
    exact (outBlk_at _ _ _ _ _ _ _ _ _ _ _ _ _ (by show 8 * (0 + 1 * t.val) + (4 + 1 * 0) = 8 * t.val + 4; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay58_eq (runNext.sl.v283 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 1 3 (by decide) (by decide) _ t n).trans ?_
    exact (outBlk_at _ _ _ _ _ _ _ _ _ _ _ _ _ (by show 8 * (0 + 1 * t.val) + (3 + 1 * 0) = 8 * t.val + 3; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay57_eq (runNext.sl.v277 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 0 3 (by decide) (by decide) _ t n).trans ?_
    exact (outBlk_at _ _ _ _ _ _ _ _ _ _ _ _ _ (by show 8 * (0 + 1 * t.val) + (3 + 1 * 0) = 8 * t.val + 3; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay55_eq (runNext.sl.v271 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 1 2 (by decide) (by decide) _ t n).trans ?_
    exact (outBlk_at _ _ _ _ _ _ _ _ _ _ _ _ _ (by show 8 * (0 + 1 * t.val) + (2 + 1 * 0) = 8 * t.val + 2; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay54_eq (runNext.sl.v265 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 0 2 (by decide) (by decide) _ t n).trans ?_
    exact (outBlk_at _ _ _ _ _ _ _ _ _ _ _ _ _ (by show 8 * (0 + 1 * t.val) + (2 + 1 * 0) = 8 * t.val + 2; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay53_eq (runNext.sl.v259 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 1 1 (by decide) (by decide) _ t n).trans ?_
    exact (outBlk_at _ _ _ _ _ _ _ _ _ _ _ _ _ (by show 8 * (0 + 1 * t.val) + (1 + 1 * 0) = 8 * t.val + 1; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay52_eq (runNext.sl.v253 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 0 1 (by decide) (by decide) _ t n).trans ?_
    exact (outBlk_at _ _ _ _ _ _ _ _ _ _ _ _ _ (by show 8 * (0 + 1 * t.val) + (1 + 1 * 0) = 8 * t.val + 1; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay51_eq (runNext.sl.v247 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 1 0 (by decide) (by decide) _ t n).trans ?_
    exact (outBlk_at _ _ _ _ _ _ _ _ _ _ _ _ _ (by show 8 * (0 + 1 * t.val) + (0 + 1 * 0) = 8 * t.val + 0; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay49_eq (runNext.sl.v241 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev)) _).trans ?_
    refine (next_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hprev 0 0 (by decide) (by decide) _ t n).trans ?_
    exact (outBlk_at _ _ _ _ _ _ _ _ _ _ _ _ _ (by show 8 * (0 + 1 * t.val) + (0 + 1 * 0) = 8 * t.val + 0; omega) (by show 0 + 1 * n.val = 128 * 0 + n.val; omega)).symm
  exact fun p hp => absurd hp List.not_mem_nil

set_option maxHeartbeats 2000000 in
theorem next_state (hc0 : ¬ starts i) : stateNext (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 hprev = stateBlk x0 x1 x2 x3 hprev := by
  funext y
  unfold stateNext
  rw [View.read_writes_junk_apply_eq_canon]
  have hs : ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (runNext.sl.r_3 (F := Ideal) c arg1 harg1 arg13 x0) (runNext.sl.r_4 (F := Ideal) c arg3 harg3 x2) (arg4.view.readAt (Elt Ideal) (Rect.unit (s := S8x1024) ![0, 0] S8x1024.size inb_S8x1024_S8x1024_0_0).toLoadRect (harg4.unread x3)) (arg11.view.writes (Elt Ideal) arg11.view.junk (runNext.sl.HX_2 (F := Ideal) c arg1 harg1 arg2 harg2 arg13 x0 x1)) ((arg12.view.readAt (Elt Ideal) (Rect.unit (s := S8x2048) ![0, 0] S8x1024.size inb_S8x2048_S8x1024_0_0).toLoadRect (harg12.unread hprev)), (arg12.view.readAt (Elt Ideal) (Rect.unit (s := S8x2048) ![0, 1024] S8x1024.size inb_S8x2048_S8x1024_0_1024).toLoadRect (harg12.unread hprev))) k0_t1_loop.trips).1) = seq (F := Ideal) x2 x3 (drive x0 x1) (split hprev) 128 := by
    refine (loop_eq (F := Ideal) c i arg1 harg1 arg2 harg2 arg3 harg3 arg4 harg4 arg5 harg5 arg6 harg6 arg7 harg7 arg8 harg8 arg9 harg9 arg10 harg10 arg11 harg11 arg12 harg12 arg13 harg13 _ _ _ _ _ _ le_rfl).1.trans ?_
    rw [next_drive, next_init]
    unfold runNext.sl.r_4
    rw [read_whole2, read_whole2]
    exact congrArg _ (by decide)
  refine View.canon_append_of_pieces (Val := Elt Ideal) (e := .f32) (stateBlk x0 x1 x2 x3 hprev) [] [_, _] ?_ y (View.cover_of_tiled _ ![8, 1024] (by rfl) y)
  refine List.forall_mem_cons.mpr ⟨fun x => ?_, ?_⟩
  · obtain ⟨b, n, rfl⟩ : ∃ (b : Fin 8) (n : Fin 1024), x = ix2 (n0 := 8) (n1 := 1024) b n := ⟨x 0, x 1, eq_ix2 x⟩
    refine (congrFun ((shapeCast_id _ _).trans (congrArg Prod.snd hs)) _).trans ?_
    refine Eq.symm ((dif_neg (show ¬ 1024 + 1 * n.val < 1024 by omega)).trans ?_)
    refine congrArg _ (funext fun a => Fin.ext ?_)
    match a with
    | 0 => show 0 + 1 * b.val = b.val; omega
    | 1 => show 1024 + 1 * n.val - 1024 = n.val; omega
  refine List.forall_mem_cons.mpr ⟨fun x => ?_, ?_⟩
  · obtain ⟨b, n, rfl⟩ : ∃ (b : Fin 8) (n : Fin 1024), x = ix2 (n0 := 8) (n1 := 1024) b n := ⟨x 0, x 1, eq_ix2 x⟩
    refine (congrFun ((shapeCast_id _ _).trans (congrArg Prod.fst hs)) _).trans ?_
    refine Eq.symm ((dif_pos (show 0 + 1 * n.val < 1024 by omega)).trans ?_)
    refine congrArg _ (funext fun a => Fin.ext ?_)
    match a with
    | 0 => show 0 + 1 * b.val = b.val; omega
    | 1 => show 0 + 1 * n.val = n.val; omega
  exact fun p hp => absurd hp List.not_mem_nil

end Cert.KernelIdeal.Recur

end
-- ==== Proof.RecurIdeal.PointFirst.lean ====
/- What the first point reads back from its buffers. -/
module

public import proofs.«01_k».proof.Proof.RecurIdeal.Read
public import proofs.«01_k».proof.Proof.RecurIdeal.First

@[expose] public section

set_option pp.maxSteps 1500
set_option maxRecDepth 16384

noncomputable section

namespace Cert.KernelIdeal.Recur

open Cert.KernelIdeal Cert.KernelIdeal.Gen
open Idealize.ShloMosaic

open Idealize.ShloMosaic.View

variable (c : Dev nD) (i : grid0.Coords) (arg1 : Memref sig .tc .vmem S8x128x256 .f32) (harg1 : arg1.IsWhole) (arg2 : Memref sig .tc .vmem S256x2048 .bf16) (harg2 : arg2.IsWhole) (arg3 : Memref sig .tc .vmem S8x1024 .f32) (harg3 : arg3.IsWhole) (arg4 : Memref sig .tc .vmem S8x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S8x128x256 .bf16) (harg10 : arg10.IsWhole) (arg11 : Memref sig .tc .vmem S1024x2048 .f32) (harg11 : arg11.IsWhole) (arg12 : Memref sig .tc .vmem S8x2048 .f32) (harg12 : arg12.IsWhole) (arg13 : Memref sig .tc .vmem S2x1024x128 .f32) (harg13 : arg13.IsWhole)
variable (x0 : Vec Ideal S8x128x256 .f32) (x1 : Vec Ideal S256x2048 .bf16) (x2 : Vec Ideal S8x1024 .f32) (x3 : Vec Ideal S8x1024 .f32) (x4 : Vec Ideal S2048x256 .bf16) (x5 : Vec Ideal S1x256 .f32) (x6 : Vec Ideal S256x256 .bf16) (x7 : Vec Ideal S1x256 .f32) (x8 : Vec Ideal S1x256 .f32)

theorem first_in_pieces : ∀ p ∈ runFirst.sl.HT_16 (F := Ideal) c arg1 harg1 x0, ∀ x : p.1.shape.Idx, p.2 x = tbIn x0 (p.1.emb x) := by
  intro p hp
  unfold runFirst.sl.HT_16 at hp
  simp only [List.mem_cons, List.not_mem_nil, or_false] at hp
  rcases hp with rfl | rfl | rfl | rfl | rfl | rfl | rfl | rfl | rfl | rfl | rfl | rfl | rfl | rfl | rfl | rfl
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 7 (by decide) (by decide) _ t l (by rfl) (by show 7 + 8 * t.val = _; rfl) (by show 0 + 1 * l.val = l.val; omega)).symm
    exact read_in arg1 harg1 x0 7 128 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 7 (by decide) (by decide) _ t l (by rfl) (by show 7 + 8 * t.val = _; rfl) (by show 0 + 1 * l.val = l.val; omega)).symm
    exact read_in arg1 harg1 x0 7 0 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 6 (by decide) (by decide) _ t l (by rfl) (by show 6 + 8 * t.val = _; rfl) (by show 0 + 1 * l.val = l.val; omega)).symm
    exact read_in arg1 harg1 x0 6 128 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 6 (by decide) (by decide) _ t l (by rfl) (by show 6 + 8 * t.val = _; rfl) (by show 0 + 1 * l.val = l.val; omega)).symm
    exact read_in arg1 harg1 x0 6 0 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 5 (by decide) (by decide) _ t l (by rfl) (by show 5 + 8 * t.val = _; rfl) (by show 0 + 1 * l.val = l.val; omega)).symm
    exact read_in arg1 harg1 x0 5 128 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 5 (by decide) (by decide) _ t l (by rfl) (by show 5 + 8 * t.val = _; rfl) (by show 0 + 1 * l.val = l.val; omega)).symm
    exact read_in arg1 harg1 x0 5 0 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 4 (by decide) (by decide) _ t l (by rfl) (by show 4 + 8 * t.val = _; rfl) (by show 0 + 1 * l.val = l.val; omega)).symm
    exact read_in arg1 harg1 x0 4 128 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 4 (by decide) (by decide) _ t l (by rfl) (by show 4 + 8 * t.val = _; rfl) (by show 0 + 1 * l.val = l.val; omega)).symm
    exact read_in arg1 harg1 x0 4 0 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 3 (by decide) (by decide) _ t l (by rfl) (by show 3 + 8 * t.val = _; rfl) (by show 0 + 1 * l.val = l.val; omega)).symm
    exact read_in arg1 harg1 x0 3 128 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 3 (by decide) (by decide) _ t l (by rfl) (by show 3 + 8 * t.val = _; rfl) (by show 0 + 1 * l.val = l.val; omega)).symm
    exact read_in arg1 harg1 x0 3 0 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 2 (by decide) (by decide) _ t l (by rfl) (by show 2 + 8 * t.val = _; rfl) (by show 0 + 1 * l.val = l.val; omega)).symm
    exact read_in arg1 harg1 x0 2 128 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 2 (by decide) (by decide) _ t l (by rfl) (by show 2 + 8 * t.val = _; rfl) (by show 0 + 1 * l.val = l.val; omega)).symm
    exact read_in arg1 harg1 x0 2 0 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 1 (by decide) (by decide) _ t l (by rfl) (by show 1 + 8 * t.val = _; rfl) (by show 0 + 1 * l.val = l.val; omega)).symm
    exact read_in arg1 harg1 x0 1 128 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 1 (by decide) (by decide) _ t l (by rfl) (by show 1 + 8 * t.val = _; rfl) (by show 0 + 1 * l.val = l.val; omega)).symm
    exact read_in arg1 harg1 x0 1 0 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 1 0 (by decide) (by decide) _ t l (by rfl) (by show 0 + 8 * t.val = _; rfl) (by show 0 + 1 * l.val = l.val; omega)).symm
    exact read_in arg1 harg1 x0 0 128 _ (by decide) (by decide) t l
  · intro x
    obtain ⟨t, l, rfl⟩ := idx_piece x
    dsimp only
    simp only [runFirst.sl.r, runFirst.sl.r_1, runFirst.sl.r_2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, cast_back]
    refine Eq.trans ?_ (tbIn_emb x0 0 0 (by decide) (by decide) _ t l (by rfl) (by show 0 + 8 * t.val = _; rfl) (by show 0 + 1 * l.val = l.val; omega)).symm
    exact read_in arg1 harg1 x0 0 0 _ (by decide) (by decide) t l

theorem first_v83 (r : Fin 1024) (k : Fin 128) : runFirst.sl.v83 (F := Ideal) c arg1 harg1 arg13 x0 (ix3 (n0 := 1) (n1 := 1024) (n2 := 128) 0 r k) = inRow x0 r ⟨k.val, by omega⟩ := by
  unfold runFirst.sl.v83
  rw [View.readCov_eq_canon']
  beta_reduce
  rw [View.canon_apply_of_pieces (tbIn x0) _ (first_in_pieces c arg1 harg1 x0) _ (stripes_cover _ (of_decide_eq_true (by rfl)) _)]
  unfold tbIn
  congr 1
  · apply Fin.ext; show 0 + 1 * r.val = r.val; omega
  · apply Fin.ext; show 128 * (0 + 1 * 0) + (0 + 1 * k.val) = k.val; omega

theorem first_v85 (r : Fin 1024) (k : Fin 128) : runFirst.sl.v85 (F := Ideal) c arg1 harg1 arg13 x0 (ix3 (n0 := 1) (n1 := 1024) (n2 := 128) 0 r k) = inRow x0 r ⟨128 + k.val, by omega⟩ := by
  unfold runFirst.sl.v85
  rw [View.readCov_eq_canon']
  beta_reduce
  rw [View.canon_apply_of_pieces (tbIn x0) _ (first_in_pieces c arg1 harg1 x0) _ (stripes_cover _ (of_decide_eq_true (by rfl)) _)]
  unfold tbIn
  congr 1
  · apply Fin.ext; show 0 + 1 * r.val = r.val; omega
  · apply Fin.ext; show 128 * (1 + 1 * 0) + (0 + 1 * k.val) = 128 + k.val; omega

theorem first_rows (r : Fin 1024) (k : Fin 256) : k0_pay22 (runFirst.sl.v83 (F := Ideal) c arg1 harg1 arg13 x0) (runFirst.sl.v85 (F := Ideal) c arg1 harg1 arg13 x0) (ix2 (n0 := 1024) (n1 := 256) r k) = inRow x0 r k := by
  rw [pay22_at]
  by_cases h : k.val < 128
  · rw [dif_pos h, first_v83]
  · rw [dif_neg h, first_v85]
    congr 1
    apply Fin.ext
    show 128 + (k.val - 128) = k.val
    omega

theorem first_drive : arg11.view.read (Elt Ideal) (arg11.view.writes (Elt Ideal) arg11.view.junk (runFirst.sl.HX_2 (F := Ideal) c arg1 harg1 arg2 harg2 arg13 x0 x1)) = drive x0 x1 := by
  funext y
  rw [View.read_writes_junk_apply_eq_canon]
  refine View.canon_apply_of_pieces (Val := Elt Ideal) (e := .f32) (drive x0 x1) (runFirst.sl.HX_2 (F := Ideal) c arg1 harg1 arg2 harg2 arg13 x0 x1) ?_ y (View.cover_of_tiled _ ![512, 2048] (by rfl) y)
  intro p hp
  unfold runFirst.sl.HX_2 at hp
  simp only [List.mem_cons, List.not_mem_nil, or_false] at hp
  rcases hp with rfl | rfl
  · intro x
    obtain ⟨r, n, rfl⟩ : ∃ (r : Fin 512) (n : Fin 2048), x = ix2 (n0 := 512) (n1 := 2048) r n := ⟨x 0, x 1, eq_ix2 x⟩
    dsimp only
    rw [read_whole2]
    refine (pay25_at _ _ _ r n).trans ?_
    unfold drive
    refine Finset.sum_congr rfl fun k _ => ?_
    rw [first_rows]
    congr 1
    · congr 1
      apply Fin.ext; show 512 + r.val = 512 + 1 * r.val; omega
    · congr 2
      apply Fin.ext; show n.val = 0 + 1 * n.val; omega
  · intro x
    obtain ⟨r, n, rfl⟩ : ∃ (r : Fin 512) (n : Fin 2048), x = ix2 (n0 := 512) (n1 := 2048) r n := ⟨x 0, x 1, eq_ix2 x⟩
    dsimp only
    rw [read_whole2]
    refine (pay24_at _ _ _ r n).trans ?_
    unfold drive
    refine Finset.sum_congr rfl fun k _ => ?_
    rw [first_rows]
    congr 1
    · congr 1
      apply Fin.ext; show r.val = 0 + 1 * r.val; omega
    · congr 2
      apply Fin.ext; show n.val = 0 + 1 * n.val; omega

theorem first_init : (runFirst.sl.v107 (F := Ideal) c arg12, runFirst.sl.v108 (F := Ideal) c arg12) = split zeroState := by
  refine Prod.ext ?_ ?_
  · unfold runFirst.sl.v107
    rw [View.readCov_eq_canon']
    funext y
    refine View.canon_apply_of_pieces (Val := Elt Ideal) (e := .f32) zeroState (runFirst.sl.HH_1 (F := Ideal)) ?_ _ (View.cover_of_tiled _ ![8, 2048] (by rfl) _)
    refine List.forall_mem_cons.mpr ⟨fun x => congrFun pay2_eq x, ?_⟩
    exact fun p hp => absurd hp List.not_mem_nil
  · unfold runFirst.sl.v108
    rw [View.readCov_eq_canon']
    funext y
    refine View.canon_apply_of_pieces (Val := Elt Ideal) (e := .f32) zeroState (runFirst.sl.HH_1 (F := Ideal)) ?_ _ (View.cover_of_tiled _ ![8, 2048] (by rfl) _)
    refine List.forall_mem_cons.mpr ⟨fun x => congrFun pay2_eq x, ?_⟩
    exact fun p hp => absurd hp List.not_mem_nil

theorem first_loop (y : S1024x2048.Idx) :
    arg11.view.read (Elt Ideal) (arg11.view.writes (Elt Ideal) arg11.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (runFirst.sl.r_3 (F := Ideal) c arg1 harg1 arg13 x0) (runFirst.sl.r_4 (F := Ideal) c arg3 harg3 x2) (arg4.view.readAt (Elt Ideal) (Rect.unit (s := S8x1024) ![0, 0] S8x1024.size inb_S8x1024_S8x1024_0_0).toLoadRect (harg4.unread x3)) (arg11.view.writes (Elt Ideal) arg11.view.junk (runFirst.sl.HX_2 (F := Ideal) c arg1 harg1 arg2 harg2 arg13 x0 x1)) (runFirst.sl.v107 (F := Ideal) c arg12, runFirst.sl.v108 (F := Ideal) c arg12) k0_t1_loop.trips).2 ++ runFirst.sl.HX_2 (F := Ideal) c arg1 harg1 arg2 harg2 arg13 x0 x1)) y
      = states (F := Ideal) x2 x3 (drive x0 x1) (split zeroState) y := by
  rw [View.writes_append]
  refine ((loop_eq (F := Ideal) c i arg1 harg1 arg2 harg2 arg3 harg3 arg4 harg4 arg5 harg5 arg6 harg6 arg7 harg7 arg8 harg8 arg9 harg9 arg10 harg10 arg11 harg11 arg12 harg12 arg13 harg13 _ _ _ _ _ _ le_rfl).2 y).trans ?_
  have hy : (y 0).val < 1024 := (y 0).isLt
  rw [if_pos (show (y 0).val < 8 * k0_t1_loop.trips by have : k0_t1_loop.trips = 128 := by decide
                                                       omega)]
  rw [first_drive, first_init]
  unfold runFirst.sl.r_4
  rw [read_whole2, read_whole2]

theorem first_v117 (r : Fin 512) (k : Fin 2048) : runFirst.sl.v117 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 (ix2 (n0 := 512) (n1 := 2048) r k)
    = states (F := Ideal) x2 x3 (drive x0 x1) (split zeroState) (ix2 (n0 := 1024) (n1 := 2048) ⟨r.val, by omega⟩ k) := by
  unfold runFirst.sl.v117
  rw [View.readCov_eq_canon']
  beta_reduce
  rw [← View.read_writes_junk_apply_eq_canon arg11.view, first_loop]
  congr 1
  funext a
  apply Fin.ext
  match a with
  | 0 => show 0 + 1 * r.val = r.val; omega
  | 1 => show 0 + 1 * k.val = k.val; omega

theorem first_v122 (r : Fin 512) (k : Fin 2048) : runFirst.sl.v122 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 (ix2 (n0 := 512) (n1 := 2048) r k)
    = states (F := Ideal) x2 x3 (drive x0 x1) (split zeroState) (ix2 (n0 := 1024) (n1 := 2048) ⟨512 + r.val, by omega⟩ k) := by
  unfold runFirst.sl.v122
  rw [View.readCov_eq_canon']
  beta_reduce
  rw [← View.read_writes_junk_apply_eq_canon arg11.view, first_loop]
  congr 1
  funext a
  apply Fin.ext
  match a with
  | 0 => show 512 + 1 * r.val = 512 + r.val; omega
  | 1 => show 0 + 1 * k.val = k.val; omega

theorem first_hi (r : Fin 512) (n : Fin 256) : k0_pay46 (runFirst.sl.r_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5) (runFirst.sl.r_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) k0_pay45 x8 (ix2 (n0 := 512) (n1 := 256) r n) = outRow x0 x1 x2 x3 x4 x5 x6 x7 x8 zeroState ⟨512 + r.val, by omega⟩ n := by
  delta runFirst.sl.r_9 runFirst.sl.r_12 runFirst.sl.r_11 runFirst.sl.r_5 runFirst.sl.r_3
  rw [read_whole2, read_whole2, read_whole2, read_whole2]
  rw [pay46_at]
  unfold outRow
  refine nrm_gate_congr _ _ _ _ _ _ fun n => ?_
  rw [first_rows]
  simp only [first_v122]

theorem first_lo (r : Fin 512) (n : Fin 256) : k0_pay41 (runFirst.sl.r_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5) (runFirst.sl.r_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) x8 (ix2 (n0 := 512) (n1 := 256) r n) = outRow x0 x1 x2 x3 x4 x5 x6 x7 x8 zeroState ⟨r.val, by omega⟩ n := by
  delta runFirst.sl.r_8 runFirst.sl.r_10 runFirst.sl.r_6 runFirst.sl.r_7 runFirst.sl.r_3
  rw [read_whole2, read_whole2, read_whole2, read_whole2]
  rw [pay41_at]
  unfold outRow
  refine nrm_gate_congr _ _ _ _ _ _ fun n => ?_
  rw [first_rows]
  simp only [first_v117]

theorem first_rows_out (y : S2x1024x128.Idx) : canon (runFirst.sl.HT_20 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) y = tbOut x0 x1 x2 x3 x4 x5 x6 x7 x8 zeroState y := by
  unfold runFirst.sl.HT_20
  refine View.canon_append_of_pieces (Val := Elt Ideal) (e := .f32) (tbOut x0 x1 x2 x3 x4 x5 x6 x7 x8 zeroState) (runFirst.sl.HT_16 (F := Ideal) c arg1 harg1 x0) [_, _, _, _] ?_ y (View.cover_of_tiled _ ![1, 512, 128] (by rfl) y)
  intro p hp
  simp only [List.mem_cons, List.not_mem_nil, or_false] at hp
  rcases hp with rfl | rfl | rfl | rfl
  · intro x
    obtain ⟨r, n, rfl⟩ : ∃ (r : Fin 512) (n : Fin 128), x = ix3 (n0 := 1) (n1 := 512) (n2 := 128) 0 r n := ⟨x 1, x 2, eq_ix3' x⟩
    dsimp only
    rw [read_whole2, tbOut_at x0 x1 x2 x3 x4 x5 x6 x7 x8 zeroState _ ⟨512 + r.val, by omega⟩ ⟨128 + n.val, by omega⟩ (by show 512 + 1 * r.val = _; dsimp only; omega) (by show 128 * (1 + 1 * 0) + (0 + 1 * n.val) = _; dsimp only; omega)]
    exact (pay48_at _ _ _ _ r n).trans (first_hi c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 r _)
  · intro x
    obtain ⟨r, n, rfl⟩ : ∃ (r : Fin 512) (n : Fin 128), x = ix3 (n0 := 1) (n1 := 512) (n2 := 128) 0 r n := ⟨x 1, x 2, eq_ix3' x⟩
    dsimp only
    rw [read_whole2, tbOut_at x0 x1 x2 x3 x4 x5 x6 x7 x8 zeroState _ ⟨512 + r.val, by omega⟩ ⟨n.val, by omega⟩ (by show 512 + 1 * r.val = _; dsimp only; omega) (by show 128 * (0 + 1 * 0) + (0 + 1 * n.val) = _; dsimp only; omega)]
    exact (pay47_at _ _ _ _ r n).trans (first_hi c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 r _)
  · intro x
    obtain ⟨r, n, rfl⟩ : ∃ (r : Fin 512) (n : Fin 128), x = ix3 (n0 := 1) (n1 := 512) (n2 := 128) 0 r n := ⟨x 1, x 2, eq_ix3' x⟩
    dsimp only
    rw [read_whole2, tbOut_at x0 x1 x2 x3 x4 x5 x6 x7 x8 zeroState _ ⟨r.val, by omega⟩ ⟨128 + n.val, by omega⟩ (by show 0 + 1 * r.val = _; dsimp only; omega) (by show 128 * (1 + 1 * 0) + (0 + 1 * n.val) = _; dsimp only; omega)]
    exact (pay43_at _ _ _ r n).trans (first_lo c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 r _)
  · intro x
    obtain ⟨r, n, rfl⟩ : ∃ (r : Fin 512) (n : Fin 128), x = ix3 (n0 := 1) (n1 := 512) (n2 := 128) 0 r n := ⟨x 1, x 2, eq_ix3' x⟩
    dsimp only
    rw [read_whole2, tbOut_at x0 x1 x2 x3 x4 x5 x6 x7 x8 zeroState _ ⟨r.val, by omega⟩ ⟨n.val, by omega⟩ (by show 0 + 1 * r.val = _; dsimp only; omega) (by show 128 * (0 + 1 * 0) + (0 + 1 * n.val) = _; dsimp only; omega)]
    exact (pay42_at _ _ _ r n).trans (first_lo c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 r _)

theorem first_read (z b : ℕ) (hz : z < 2) (hb : b < 8) (inb) (t n : Fin 128) :
    arg13.view.readCov (runFirst.sl.HT_20 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) (⟨![z, b, 0], S1x128x128.size, ![1, 8, 1], inb⟩ : LoadRect S2x1024x128) (ix3 (n0 := 1) (n1 := 128) (n2 := 128) 0 t n)
      = outRow x0 x1 x2 x3 x4 x5 x6 x7 x8 zeroState ⟨8 * t.val + b, by omega⟩ ⟨128 * z + n.val, by omega⟩ := by
  rw [View.readCov_eq_canon']
  beta_reduce
  rw [first_rows_out]
  exact tbOut_at _ _ _ _ _ _ _ _ _ _ _ _ _ (by show b + 8 * t.val = 8 * t.val + b; omega) (by show 128 * (z + 1 * 0) + (0 + 1 * n.val) = 128 * z + n.val; omega)

set_option maxHeartbeats 2000000 in
theorem first_out (hc0 : starts i) : outFirst (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = outBlk x0 x1 x2 x3 x4 x5 x6 x7 x8 zeroState := by
  funext y
  unfold outFirst
  rw [View.read_writes_junk_apply_eq_canon]
  refine View.canon_apply_of_pieces (Val := Elt Ideal) (e := .bf16) (outBlk x0 x1 x2 x3 x4 x5 x6 x7 x8 zeroState) (runFirst (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 ?_ y (View.cover_of_tiled _ ![1, 128, 128] (by rfl) y)
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay1_eq (runFirst.sl.v331 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 1 7 (by decide) (by decide) _ t n).trans ?_
    exact (outBlk_at _ _ _ _ _ _ _ _ _ _ _ _ _ (by show 8 * (0 + 1 * t.val) + (7 + 1 * 0) = 8 * t.val + 7; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay65_eq (runFirst.sl.v325 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 0 7 (by decide) (by decide) _ t n).trans ?_
    exact (outBlk_at _ _ _ _ _ _ _ _ _ _ _ _ _ (by show 8 * (0 + 1 * t.val) + (7 + 1 * 0) = 8 * t.val + 7; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay64_eq (runFirst.sl.v319 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 1 6 (by decide) (by decide) _ t n).trans ?_
    exact (outBlk_at _ _ _ _ _ _ _ _ _ _ _ _ _ (by show 8 * (0 + 1 * t.val) + (6 + 1 * 0) = 8 * t.val + 6; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay63_eq (runFirst.sl.v313 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 0 6 (by decide) (by decide) _ t n).trans ?_
    exact (outBlk_at _ _ _ _ _ _ _ _ _ _ _ _ _ (by show 8 * (0 + 1 * t.val) + (6 + 1 * 0) = 8 * t.val + 6; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay62_eq (runFirst.sl.v307 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 1 5 (by decide) (by decide) _ t n).trans ?_
    exact (outBlk_at _ _ _ _ _ _ _ _ _ _ _ _ _ (by show 8 * (0 + 1 * t.val) + (5 + 1 * 0) = 8 * t.val + 5; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay61_eq (runFirst.sl.v301 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 0 5 (by decide) (by decide) _ t n).trans ?_
    exact (outBlk_at _ _ _ _ _ _ _ _ _ _ _ _ _ (by show 8 * (0 + 1 * t.val) + (5 + 1 * 0) = 8 * t.val + 5; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay60_eq (runFirst.sl.v295 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 1 4 (by decide) (by decide) _ t n).trans ?_
    exact (outBlk_at _ _ _ _ _ _ _ _ _ _ _ _ _ (by show 8 * (0 + 1 * t.val) + (4 + 1 * 0) = 8 * t.val + 4; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay59_eq (runFirst.sl.v289 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 0 4 (by decide) (by decide) _ t n).trans ?_
    exact (outBlk_at _ _ _ _ _ _ _ _ _ _ _ _ _ (by show 8 * (0 + 1 * t.val) + (4 + 1 * 0) = 8 * t.val + 4; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay58_eq (runFirst.sl.v283 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 1 3 (by decide) (by decide) _ t n).trans ?_
    exact (outBlk_at _ _ _ _ _ _ _ _ _ _ _ _ _ (by show 8 * (0 + 1 * t.val) + (3 + 1 * 0) = 8 * t.val + 3; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay57_eq (runFirst.sl.v277 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 0 3 (by decide) (by decide) _ t n).trans ?_
    exact (outBlk_at _ _ _ _ _ _ _ _ _ _ _ _ _ (by show 8 * (0 + 1 * t.val) + (3 + 1 * 0) = 8 * t.val + 3; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay55_eq (runFirst.sl.v271 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 1 2 (by decide) (by decide) _ t n).trans ?_
    exact (outBlk_at _ _ _ _ _ _ _ _ _ _ _ _ _ (by show 8 * (0 + 1 * t.val) + (2 + 1 * 0) = 8 * t.val + 2; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay54_eq (runFirst.sl.v265 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 0 2 (by decide) (by decide) _ t n).trans ?_
    exact (outBlk_at _ _ _ _ _ _ _ _ _ _ _ _ _ (by show 8 * (0 + 1 * t.val) + (2 + 1 * 0) = 8 * t.val + 2; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay53_eq (runFirst.sl.v259 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 1 1 (by decide) (by decide) _ t n).trans ?_
    exact (outBlk_at _ _ _ _ _ _ _ _ _ _ _ _ _ (by show 8 * (0 + 1 * t.val) + (1 + 1 * 0) = 8 * t.val + 1; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay52_eq (runFirst.sl.v253 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 0 1 (by decide) (by decide) _ t n).trans ?_
    exact (outBlk_at _ _ _ _ _ _ _ _ _ _ _ _ _ (by show 8 * (0 + 1 * t.val) + (1 + 1 * 0) = 8 * t.val + 1; omega) (by show 0 + 1 * n.val = 128 * 0 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay51_eq (runFirst.sl.v247 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 1 0 (by decide) (by decide) _ t n).trans ?_
    exact (outBlk_at _ _ _ _ _ _ _ _ _ _ _ _ _ (by show 8 * (0 + 1 * t.val) + (0 + 1 * 0) = 8 * t.val + 0; omega) (by show 128 + 1 * n.val = 128 * 1 + n.val; omega)).symm
  refine List.forall_mem_cons.mpr ⟨fun x => ?_, ?_⟩
  · obtain ⟨t, n, rfl⟩ : ∃ (t n : Fin 128), x = ix3 (n0 := 1) (n1 := 128) (n2 := 128) 0 t n := ⟨x 1, x 2, eq_ix3' x⟩
    refine (congrFun (pay49_eq (runFirst.sl.v241 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) _).trans ?_
    refine (first_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 0 0 (by decide) (by decide) _ t n).trans ?_
    exact (outBlk_at _ _ _ _ _ _ _ _ _ _ _ _ _ (by show 8 * (0 + 1 * t.val) + (0 + 1 * 0) = 8 * t.val + 0; omega) (by show 0 + 1 * n.val = 128 * 0 + n.val; omega)).symm
  exact fun p hp => absurd hp List.not_mem_nil

set_option maxHeartbeats 2000000 in
theorem first_state (hc0 : starts i) : stateFirst (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = stateBlk x0 x1 x2 x3 zeroState := by
  funext y
  unfold stateFirst
  rw [View.read_writes_junk_apply_eq_canon]
  have hs : ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (runFirst.sl.r_3 (F := Ideal) c arg1 harg1 arg13 x0) (runFirst.sl.r_4 (F := Ideal) c arg3 harg3 x2) (arg4.view.readAt (Elt Ideal) (Rect.unit (s := S8x1024) ![0, 0] S8x1024.size inb_S8x1024_S8x1024_0_0).toLoadRect (harg4.unread x3)) (arg11.view.writes (Elt Ideal) arg11.view.junk (runFirst.sl.HX_2 (F := Ideal) c arg1 harg1 arg2 harg2 arg13 x0 x1)) (runFirst.sl.v107 (F := Ideal) c arg12, runFirst.sl.v108 (F := Ideal) c arg12) k0_t1_loop.trips).1) = seq (F := Ideal) x2 x3 (drive x0 x1) (split zeroState) 128 := by
    refine (loop_eq (F := Ideal) c i arg1 harg1 arg2 harg2 arg3 harg3 arg4 harg4 arg5 harg5 arg6 harg6 arg7 harg7 arg8 harg8 arg9 harg9 arg10 harg10 arg11 harg11 arg12 harg12 arg13 harg13 _ _ _ _ _ _ le_rfl).1.trans ?_
    rw [first_drive, first_init]
    unfold runFirst.sl.r_4
    rw [read_whole2, read_whole2]
    exact congrArg _ (by decide)
  refine View.canon_append_of_pieces (Val := Elt Ideal) (e := .f32) (stateBlk x0 x1 x2 x3 zeroState) (runFirst.sl.HH_1 (F := Ideal)) [_, _] ?_ y (View.cover_of_tiled _ ![8, 1024] (by rfl) y)
  refine List.forall_mem_cons.mpr ⟨fun x => ?_, ?_⟩
  · obtain ⟨b, n, rfl⟩ : ∃ (b : Fin 8) (n : Fin 1024), x = ix2 (n0 := 8) (n1 := 1024) b n := ⟨x 0, x 1, eq_ix2 x⟩
    refine (congrFun ((shapeCast_id _ _).trans (congrArg Prod.snd hs)) _).trans ?_
    refine Eq.symm ((dif_neg (show ¬ 1024 + 1 * n.val < 1024 by omega)).trans ?_)
    refine congrArg _ (funext fun a => Fin.ext ?_)
    match a with
    | 0 => show 0 + 1 * b.val = b.val; omega
    | 1 => show 1024 + 1 * n.val - 1024 = n.val; omega
  refine List.forall_mem_cons.mpr ⟨fun x => ?_, ?_⟩
  · obtain ⟨b, n, rfl⟩ : ∃ (b : Fin 8) (n : Fin 1024), x = ix2 (n0 := 8) (n1 := 1024) b n := ⟨x 0, x 1, eq_ix2 x⟩
    refine (congrFun ((shapeCast_id _ _).trans (congrArg Prod.fst hs)) _).trans ?_
    refine Eq.symm ((dif_pos (show 0 + 1 * n.val < 1024 by omega)).trans ?_)
    refine congrArg _ (funext fun a => Fin.ext ?_)
    match a with
    | 0 => show 0 + 1 * b.val = b.val; omega
    | 1 => show 0 + 1 * n.val = n.val; omega
  exact fun p hp => absurd hp List.not_mem_nil

end Cert.KernelIdeal.Recur

end
-- ==== Proof.S5Model.lean ====
/- The recurrence as formulas: the discretised system, the states it runs through, and the result row. -/
module

public import Idealize.ShloMosaic.Lib.Pointwise

@[expose] public section

noncomputable section

namespace Cert.S5Model

open Idealize.ShloMosaic

/-- The arguments, by index. -/
structure Args where
  u : Fin 8 → Fin 4096 → Fin 256 → EReal
  lr : Fin 16 → Fin 64 → EReal
  li : Fin 16 → Fin 64 → EReal
  ld : Fin 16 → EReal
  br : Fin 16 → Fin 64 → Fin 16 → EReal
  bi : Fin 16 → Fin 64 → Fin 16 → EReal
  cr : Fin 16 → Fin 16 → Fin 64 → EReal
  ci : Fin 16 → Fin 16 → Fin 64 → EReal
  d : Fin 16 → Fin 16 → EReal
  wg : Fin 256 → Fin 256 → EReal
  bg : Fin 256 → EReal
  g : Fin 256 → EReal

/-- The arguments as arrays. -/
def argsOf (a0 : (⟨3, ![8, 4096, 256]⟩ : Shape).Idx → EReal) (a1 a2 : (⟨2, ![16, 64]⟩ : Shape).Idx → EReal) (a3 : (⟨1, ![16]⟩ : Shape).Idx → EReal)
    (a4 a5 : (⟨3, ![16, 64, 16]⟩ : Shape).Idx → EReal) (a6 a7 : (⟨3, ![16, 16, 64]⟩ : Shape).Idx → EReal) (a8 : (⟨2, ![16, 16]⟩ : Shape).Idx → EReal)
    (a9 : (⟨2, ![256, 256]⟩ : Shape).Idx → EReal) (a10 a11 : (⟨1, ![256]⟩ : Shape).Idx → EReal) : Args where
  u b t n := a0 (ix3 b t n)
  lr g p := a1 (ix2 g p)
  li g p := a2 (ix2 g p)
  ld g := a3 (ix1 g)
  br g p c := a4 (ix3 g p c)
  bi g p c := a5 (ix3 g p c)
  cr g c p := a6 (ix3 g c p)
  ci g c p := a7 (ix3 g c p)
  d g c := a8 (ix2 g c)
  wg k n := a9 (ix2 k n)
  bg n := a10 (ix1 n)
  g n := a11 (ix1 n)

variable (A : Args)

def abRe (g : Fin 16) (p : Fin 64) : EReal := Ideal.exp (A.lr g p * Ideal.exp (A.ld g)) * Ideal.cos (A.li g p * Ideal.exp (A.ld g))
def abIm (g : Fin 16) (p : Fin 64) : EReal := Ideal.exp (A.lr g p * Ideal.exp (A.ld g)) * Ideal.sin (A.li g p * Ideal.exp (A.ld g))
def den (g : Fin 16) (p : Fin 64) : EReal := A.lr g p * A.lr g p + A.li g p * A.li g p
def fRe (g : Fin 16) (p : Fin 64) : EReal :=
  Ideal.div ((abRe A g p - 1) * A.lr g p + abIm A g p * A.li g p) (den A g p)
def fIm (g : Fin 16) (p : Fin 64) : EReal :=
  Ideal.div (abIm A g p * A.lr g p - (abRe A g p - 1) * A.li g p) (den A g p)
def bbRe (g : Fin 16) (p : Fin 64) (c : Fin 16) : EReal := fRe A g p * A.br g p c - fIm A g p * A.bi g p c
def bbIm (g : Fin 16) (p : Fin 64) (c : Fin 16) : EReal := fRe A g p * A.bi g p c + fIm A g p * A.br g p c

/-- Channel `c` of group `g`. -/
def chan (g c : Fin 16) : Fin 256 := ⟨16 * g.val + c.val, by omega⟩

def xRe (b : Fin 8) (t : Fin 4096) (g : Fin 16) (p : Fin 64) : EReal := ∑ c : Fin 16, bbRe A g p c * A.u b t (chan g c)
def xIm (b : Fin 8) (t : Fin 4096) (g : Fin 16) (p : Fin 64) : EReal := ∑ c : Fin 16, bbIm A g p c * A.u b t (chan g c)

/-- The state after `t` steps, real and imaginary parts. -/
def hist : ℕ → Fin 8 → Fin 16 → Fin 64 → EReal × EReal
  | 0, _, _, _ => (0, 0)
  | t + 1, b, g, p =>
    if ht : t < 4096 then
      (abRe A g p * (hist t b g p).1 - abIm A g p * (hist t b g p).2 + xRe A b ⟨t, ht⟩ g p,
       abRe A g p * (hist t b g p).2 + abIm A g p * (hist t b g p).1 + xIm A b ⟨t, ht⟩ g p)
    else hist t b g p

/-- What is read off the state of step `t`, with the skip. -/
def pre (b : Fin 8) (t : Fin 4096) (n : Fin 256) : EReal :=
  (∑ p : Fin 64, A.cr ⟨n.val / 16, by omega⟩ ⟨n.val % 16, by omega⟩ p * (hist A (t.val + 1) b ⟨n.val / 16, by omega⟩ p).1)
    + (∑ p : Fin 64, -(A.ci ⟨n.val / 16, by omega⟩ ⟨n.val % 16, by omega⟩ p) * (hist A (t.val + 1) b ⟨n.val / 16, by omega⟩ p).2)
    + A.d ⟨n.val / 16, by omega⟩ ⟨n.val % 16, by omega⟩ * A.u b t n

def act (v : EReal) : EReal :=
  Ideal.ofBits .f32 0x3F000000#32 * v * (1 + Ideal.tanh (Ideal.ofBits .f32 0x3F4C422A#32 * (v + Ideal.ofBits .f32 0x3D372713#32 * (v * v * v))))

def gate (p : Fin 256 → EReal) (w : Fin 256 → Fin 256 → EReal) (b : Fin 256 → EReal) (n : Fin 256) : EReal :=
  act (p n) * Ideal.div (1) (1 + Ideal.exp (-(∑ k : Fin 256, act (p k) * w k n + b n)))

def nrm (q : Fin 256 → EReal) (g : Fin 256 → EReal) (n : Fin 256) : EReal :=
  q n * Ideal.rsqrt (Ideal.div (∑ k : Fin 256, q k * q k) (Ideal.ofBits .f32 0x43800000#32) + Ideal.ofBits .f32 0x358637BD#32) * g n

/-- The result. -/
def out (b : Fin 8) (t : Fin 4096) (n : Fin 256) : EReal := nrm (gate (pre A b t) A.wg A.bg) A.g n

/-- A sum over `n · m` indices, by rows. -/
theorem sum_mul {n m : ℕ} (f : Fin (n * m) → EReal) :
    (∑ k : Fin (n * m), f k) = ∑ i : Fin n, ∑ j : Fin m, f ⟨m * i.val + j.val, by
      have h : m * i.val + m ≤ m * n := by rw [← Nat.mul_succ]; exact Nat.mul_le_mul_left m i.isLt
      rw [Nat.mul_comm n m]; omega⟩ := by
  rw [← (finProdFinEquiv (m := n) (n := m)).sum_comp, Fintype.sum_prod_type]
  refine Finset.sum_congr rfl fun i _ => Finset.sum_congr rfl fun j _ => congrArg f (Fin.ext ?_)
  show j.val + m * i.val = m * i.val + j.val
  omega

/-- A sum over two stacked ranges. -/
theorem sum_two {n : ℕ} (f : Fin (n + n) → EReal) :
    (∑ k : Fin (n + n), f k) = (∑ k : Fin n, f ⟨k.val, by omega⟩) + ∑ k : Fin n, f ⟨n + k.val, by omega⟩ :=
  Fin.sum_univ_add f

/-- A row of a block-diagonal matrix sums over its own block. -/
theorem sum_diag {n m : ℕ} (g : Fin n) (f e : Fin n → Fin m → EReal) (hn : ∀ i j, i ≠ g → f i j = 0) (hg : ∀ j, f g j = e g j) :
    (∑ i : Fin n, ∑ j : Fin m, f i j) = ∑ j : Fin m, e g j := by
  rw [Finset.sum_eq_single g (fun i _ hi => Finset.sum_eq_zero fun j _ => hn i j hi) (fun h => absurd (Finset.mem_univ _) h)]
  exact Finset.sum_congr rfl fun j _ => hg j

end Cert.S5Model

end
-- ==== Proof.RecurIdeal.Induct.lean ====
/- The recurrence's blocks against the model: a block's states continue the model's, and its result is the model's. -/
module

public import proofs.«01_k».proof.Proof.RecurIdeal.Math
public import proofs.«01_k».proof.Proof.S5Model
public import Idealize.ShloMosaic.Lib.Pointwise

@[expose] public section

set_option maxRecDepth 16384

noncomputable section

namespace Cert.KernelIdeal.Recur

open Cert.KernelIdeal Cert.KernelIdeal.Gen
open Idealize.ShloMosaic

/-- The blocks of point `n`, in the model's terms. -/
structure Holds (A : S5Model.Args) (n : ℕ) (hn : n < 32) (x0 : Vec Ideal S8x128x256 .f32) (x1 : Vec Ideal S256x2048 .bf16) (x2 x3 : Vec Ideal S8x1024 .f32) (x4 : Vec Ideal S2048x256 .bf16)
    (x5 : Vec Ideal S1x256 .f32) (x6 : Vec Ideal S256x256 .bf16) (x7 x8 : Vec Ideal S1x256 .f32) : Prop where
  u : ∀ (b : Fin 8) (t : Fin 128) (k : Fin 256), x0 (ix3 (n0 := 8) (n1 := 128) (n2 := 256) b t k) = A.u b ⟨128 * n + t.val, by omega⟩ k
  bre : ∀ (k : Fin 256) (j : Fin 1024), x1 (ix2 (n0 := 256) (n1 := 2048) k ⟨j.val, by omega⟩)
    = S5Model.bbRe A ⟨k.val / 16, by omega⟩ ⟨j.val % 64, by omega⟩ ⟨k.val % 16, by omega⟩ * (if k.val / 16 = j.val / 64 then 1 else 0)
  bim : ∀ (k : Fin 256) (j : Fin 1024), x1 (ix2 (n0 := 256) (n1 := 2048) k ⟨1024 + j.val, by omega⟩)
    = S5Model.bbIm A ⟨k.val / 16, by omega⟩ ⟨j.val % 64, by omega⟩ ⟨k.val % 16, by omega⟩ * (if k.val / 16 = j.val / 64 then 1 else 0)
  are : ∀ (b : Fin 8) (j : Fin 1024), x2 (ix2 (n0 := 8) (n1 := 1024) b j) = S5Model.abRe A ⟨j.val / 64, by omega⟩ ⟨j.val % 64, by omega⟩
  aim : ∀ (b : Fin 8) (j : Fin 1024), x3 (ix2 (n0 := 8) (n1 := 1024) b j) = S5Model.abIm A ⟨j.val / 64, by omega⟩ ⟨j.val % 64, by omega⟩
  cre : ∀ (j : Fin 1024) (k : Fin 256), x4 (ix2 (n0 := 2048) (n1 := 256) ⟨j.val, by omega⟩ k)
    = A.cr ⟨j.val / 64, by omega⟩ ⟨k.val % 16, by omega⟩ ⟨j.val % 64, by omega⟩ * (if j.val / 64 = k.val / 16 then 1 else 0)
  cim : ∀ (j : Fin 1024) (k : Fin 256), x4 (ix2 (n0 := 2048) (n1 := 256) ⟨1024 + j.val, by omega⟩ k)
    = (-(A.ci ⟨j.val / 64, by omega⟩ ⟨k.val % 16, by omega⟩ ⟨j.val % 64, by omega⟩ * (if j.val / 64 = k.val / 16 then 1 else 0)) : EReal)
  d : ∀ (k : Fin 256), x5 (ix2 (n0 := 1) (n1 := 256) 0 k) = A.d ⟨k.val / 16, by omega⟩ ⟨k.val % 16, by omega⟩
  wg : ∀ (k l : Fin 256), x6 (ix2 (n0 := 256) (n1 := 256) k l) = A.wg k l
  bg : ∀ (k : Fin 256), x7 (ix2 (n0 := 1) (n1 := 256) 0 k) = A.bg k
  g : ∀ (k : Fin 256), x8 (ix2 (n0 := 1) (n1 := 256) 0 k) = A.g k

/-- A state is the model's after `s` steps. -/
def StateAt (A : S5Model.Args) (s : ℕ) (h : Vec Ideal S8x1024 .f32 × Vec Ideal S8x1024 .f32) : Prop :=
  ∀ (b : Fin 8) (j : Fin 1024), h.1 (ix2 (n0 := 8) (n1 := 1024) b j) = (S5Model.hist A s b ⟨j.val / 64, by omega⟩ ⟨j.val % 64, by omega⟩).1
    ∧ h.2 (ix2 (n0 := 8) (n1 := 1024) b j) = (S5Model.hist A s b ⟨j.val / 64, by omega⟩ ⟨j.val % 64, by omega⟩).2

/-- A row of a block-diagonal input matrix against the input: only the group's own channels count. -/
theorem sum_in (u : Fin 256 → EReal) (bb : Fin 16 → Fin 64 → Fin 16 → EReal) (g : Fin 16) (p : Fin 64) :
    (∑ k : Fin 256, u k * (bb ⟨k.val / 16, by omega⟩ p ⟨k.val % 16, by omega⟩ * (if k.val / 16 = g.val then 1 else 0)))
      = ∑ c : Fin 16, bb g p c * u (S5Model.chan g c) := by
  refine (S5Model.sum_mul (n := 16) (m := 16) (fun k : Fin 256 => u k * (bb ⟨k.val / 16, by omega⟩ p ⟨k.val % 16, by omega⟩ * (if k.val / 16 = g.val then 1 else 0)))).trans ?_
  refine S5Model.sum_diag g (fun i j : Fin 16 => (fun k : Fin 256 => u k * (bb ⟨k.val / 16, by omega⟩ p ⟨k.val % 16, by omega⟩ * (if k.val / 16 = g.val then 1 else 0))) ⟨16 * i.val + j.val, by omega⟩)
    (fun _ c => bb g p c * u (S5Model.chan g c)) (fun i j hi => ?_) (fun j => ?_)
  · have e : (16 * i.val + j.val) / 16 = i.val := by omega
    have hne : ¬ (16 * i.val + j.val) / 16 = g.val := by rw [e]; exact fun h => hi (Fin.ext h)
    dsimp only
    rw [if_neg hne, mul_zero, mul_zero]
  · have e : (16 * g.val + j.val) / 16 = g.val := by omega
    dsimp only
    have e' : (⟨(16 * g.val + j.val) / 16, by omega⟩ : Fin 16) = g := Fin.ext e
    have e2' : (⟨(16 * g.val + j.val) % 16, by omega⟩ : Fin 16) = j := Fin.ext (by show (16 * g.val + j.val) % 16 = j.val; omega)
    rw [if_pos e, mul_one, mul_comm, e', e2']
    rfl

/-- The states against a column of a block-diagonal output matrix: only the group's own states count. -/
theorem sum_out (h : Fin 16 → Fin 64 → EReal) (cc : Fin 16 → Fin 64 → EReal) (g : Fin 16) :
    (∑ k : Fin 1024, h ⟨k.val / 64, by omega⟩ ⟨k.val % 64, by omega⟩ * (cc ⟨k.val / 64, by omega⟩ ⟨k.val % 64, by omega⟩ * (if k.val / 64 = g.val then 1 else 0)))
      = ∑ p : Fin 64, cc g p * h g p := by
  refine (S5Model.sum_mul (n := 16) (m := 64) (fun k : Fin 1024 => h ⟨k.val / 64, by omega⟩ ⟨k.val % 64, by omega⟩ * (cc ⟨k.val / 64, by omega⟩ ⟨k.val % 64, by omega⟩ * (if k.val / 64 = g.val then 1 else 0)))).trans ?_
  refine S5Model.sum_diag g (fun (i : Fin 16) (j : Fin 64) => (fun k : Fin 1024 => h ⟨k.val / 64, by omega⟩ ⟨k.val % 64, by omega⟩ * (cc ⟨k.val / 64, by omega⟩ ⟨k.val % 64, by omega⟩ * (if k.val / 64 = g.val then 1 else 0))) ⟨64 * i.val + j.val, by omega⟩)
    (fun _ p => cc g p * h g p) (fun i j hi => ?_) (fun j => ?_)
  · have e : (64 * i.val + j.val) / 64 = i.val := by omega
    have hne : ¬ (64 * i.val + j.val) / 64 = g.val := by rw [e]; exact fun h => hi (Fin.ext h)
    dsimp only
    rw [if_neg hne, mul_zero, mul_zero]
  · have e : (64 * g.val + j.val) / 64 = g.val := by omega
    have e2 : (64 * g.val + j.val) % 64 = j.val := by omega
    have e' : (⟨(64 * g.val + j.val) / 64, by omega⟩ : Fin 16) = g := Fin.ext e
    have e2' : (⟨(64 * g.val + j.val) % 64, by omega⟩ : Fin 64) = j := Fin.ext e2
    dsimp only
    rw [if_pos e, mul_one, mul_comm, e', e2']

theorem pay28_at (a b re im x : Vec Ideal S8x1024 .f32) (i : Fin 8) (j : Fin 1024) :
    k0_pay28 a b re im x (ix2 (n0 := 8) (n1 := 1024) i j) = a (ix2 i j) * re (ix2 i j) - b (ix2 i j) * im (ix2 i j) + x (ix2 i j) := by
  pointwise [k0_pay28, k0_pay26, k0_pay27]

theorem pay29_at (a b re im x : Vec Ideal S8x1024 .f32) (i : Fin 8) (j : Fin 1024) :
    k0_pay29 a b re im x (ix2 (n0 := 8) (n1 := 1024) i j) = a (ix2 i j) * im (ix2 i j) + b (ix2 i j) * re (ix2 i j) + x (ix2 i j) := by
  pointwise [k0_pay29, k0_pay26, k0_pay27]

variable (A : S5Model.Args) (n : ℕ) (hn : n < 32) (x0 : Vec Ideal S8x128x256 .f32) (x1 : Vec Ideal S256x2048 .bf16) (x2 x3 : Vec Ideal S8x1024 .f32) (x4 : Vec Ideal S2048x256 .bf16)
    (x5 : Vec Ideal S1x256 .f32) (x6 : Vec Ideal S256x256 .bf16) (x7 x8 : Vec Ideal S1x256 .f32) (H : Holds A n hn x0 x1 x2 x3 x4 x5 x6 x7 x8)

include H

theorem row_at (t : Fin 128) (b : Fin 8) (r : Fin 1024) (hr : r.val = 8 * t.val + b.val) (k : Fin 256) :
    inRow x0 r k = A.u b ⟨128 * n + t.val, by omega⟩ k := by
  rw [← H.u]
  unfold inRow
  congr 2
  · exact Fin.ext (by show r.val % 8 = b.val; omega)
  · exact Fin.ext (by show r.val / 8 = t.val; omega)

theorem drive_re (t : Fin 128) (b : Fin 8) (j : Fin 1024) (y : S1024x2048.Idx) (h0 : (y 0).val = 8 * t.val + b.val) (h1 : (y 1).val = j.val) :
    drive x0 x1 y = S5Model.xRe A b ⟨128 * n + t.val, by omega⟩ ⟨j.val / 64, by omega⟩ ⟨j.val % 64, by omega⟩ := by
  unfold drive S5Model.xRe
  rw [← sum_in]
  refine Finset.sum_congr rfl fun k _ => ?_
  rw [row_at A n hn x0 x1 x2 x3 x4 x5 x6 x7 x8 H t b (y 0) h0, show (y 1) = (⟨j.val, by omega⟩ : Fin 2048) from Fin.ext h1, H.bre]

theorem drive_im (t : Fin 128) (b : Fin 8) (j : Fin 1024) (y : S1024x2048.Idx) (h0 : (y 0).val = 8 * t.val + b.val) (h1 : (y 1).val = 1024 + j.val) :
    drive x0 x1 y = S5Model.xIm A b ⟨128 * n + t.val, by omega⟩ ⟨j.val / 64, by omega⟩ ⟨j.val % 64, by omega⟩ := by
  unfold drive S5Model.xIm
  rw [← sum_in]
  refine Finset.sum_congr rfl fun k _ => ?_
  rw [row_at A n hn x0 x1 x2 x3 x4 x5 x6 x7 x8 H t b (y 0) h0, show (y 1) = (⟨1024 + j.val, by omega⟩ : Fin 2048) from Fin.ext h1, H.bim]

/-- The block's steps continue the model's. -/
theorem seq_at (init : Vec Ideal S8x1024 .f32 × Vec Ideal S8x1024 .f32) (hi : StateAt A (128 * n) init) :
    ∀ k : ℕ, k ≤ 128 → StateAt A (128 * n + k) (seq (F := Ideal) x2 x3 (drive x0 x1) init k) := by
  intro k
  induction k with
  | zero => exact fun _ => hi
  | succ k ih =>
    intro hk b j
    have ihj := ih (by omega) b j
    have hlt : 128 * n + k < 4096 := by omega
    have ere : stepRows (F := Ideal) (drive x0 x1) 0 k (ix2 (n0 := 8) (n1 := 1024) b j)
        = S5Model.xRe A b ⟨128 * n + k, hlt⟩ ⟨j.val / 64, by omega⟩ ⟨j.val % 64, by omega⟩ :=
      drive_re A n hn x0 x1 x2 x3 x4 x5 x6 x7 x8 H ⟨k, by omega⟩ b j _ (by show (8 * k + b.val) % 1024 = 8 * k + b.val; omega) (by show 0 + j.val = j.val; omega)
    have eim : stepRows (F := Ideal) (drive x0 x1) 1024 k (ix2 (n0 := 8) (n1 := 1024) b j)
        = S5Model.xIm A b ⟨128 * n + k, hlt⟩ ⟨j.val / 64, by omega⟩ ⟨j.val % 64, by omega⟩ :=
      drive_im A n hn x0 x1 x2 x3 x4 x5 x6 x7 x8 H ⟨k, by omega⟩ b j _ (by show (8 * k + b.val) % 1024 = 8 * k + b.val; omega) (by show 1024 + j.val = 1024 + j.val; rfl)
    have hh : S5Model.hist A (128 * n + (k + 1)) b ⟨j.val / 64, by omega⟩ ⟨j.val % 64, by omega⟩ =
        (S5Model.abRe A ⟨j.val / 64, by omega⟩ ⟨j.val % 64, by omega⟩ * (S5Model.hist A (128 * n + k) b ⟨j.val / 64, by omega⟩ ⟨j.val % 64, by omega⟩).1 - S5Model.abIm A ⟨j.val / 64, by omega⟩ ⟨j.val % 64, by omega⟩ * (S5Model.hist A (128 * n + k) b ⟨j.val / 64, by omega⟩ ⟨j.val % 64, by omega⟩).2 + S5Model.xRe A b ⟨128 * n + k, hlt⟩ ⟨j.val / 64, by omega⟩ ⟨j.val % 64, by omega⟩,
         S5Model.abRe A ⟨j.val / 64, by omega⟩ ⟨j.val % 64, by omega⟩ * (S5Model.hist A (128 * n + k) b ⟨j.val / 64, by omega⟩ ⟨j.val % 64, by omega⟩).2 + S5Model.abIm A ⟨j.val / 64, by omega⟩ ⟨j.val % 64, by omega⟩ * (S5Model.hist A (128 * n + k) b ⟨j.val / 64, by omega⟩ ⟨j.val % 64, by omega⟩).1 + S5Model.xIm A b ⟨128 * n + k, hlt⟩ ⟨j.val / 64, by omega⟩ ⟨j.val % 64, by omega⟩) :=
      dif_pos hlt
    rw [hh]
    constructor
    · refine (pay28_at _ _ _ _ _ b j).trans ?_
      rw [ihj.1, ihj.2, H.are, H.aim, ere]
    · refine (pay29_at _ _ _ _ _ b j).trans ?_
      rw [ihj.1, ihj.2, H.are, H.aim, eim]

/-- The state a block leaves is the model's. -/
theorem blk_state (h : Vec Ideal S8x2048 .f32) (hi : StateAt A (128 * n) (split h)) :
    StateAt A (128 * (n + 1)) (split (stateBlk x0 x1 x2 x3 h)) := by
  intro b j
  have hs := seq_at A n hn x0 x1 x2 x3 x4 x5 x6 x7 x8 H (split h) hi 128 le_rfl b j
  constructor
  · refine Eq.trans ?_ hs.1
    exact dif_pos (show j.val < 1024 from j.isLt)
  · refine Eq.trans ?_ hs.2
    refine (dif_neg (show ¬ 1024 + j.val < 1024 by omega)).trans ?_
    have e3 : (⟨1024 + j.val - 1024, by omega⟩ : Fin 1024) = j := Fin.ext (by show 1024 + j.val - 1024 = j.val; omega)
    show (seq (F := Ideal) x2 x3 (drive x0 x1) (split h) 128).2 (ix2 (n0 := 8) (n1 := 1024) b ⟨1024 + j.val - 1024, by omega⟩) = _
    rw [e3]

theorem states_re (init : Vec Ideal S8x1024 .f32 × Vec Ideal S8x1024 .f32) (hi : StateAt A (128 * n) init) (t : Fin 128) (b : Fin 8) (r : Fin 1024) (hr : r.val = 8 * t.val + b.val) (j : Fin 1024) :
    states (F := Ideal) x2 x3 (drive x0 x1) init (ix2 (n0 := 1024) (n1 := 2048) r ⟨j.val, by omega⟩)
      = (S5Model.hist A (128 * n + t.val + 1) b ⟨j.val / 64, by omega⟩ ⟨j.val % 64, by omega⟩).1 := by
  have hs := seq_at A n hn x0 x1 x2 x3 x4 x5 x6 x7 x8 H init hi (t.val + 1) (by omega) b j
  refine (dif_pos (show j.val < 1024 from j.isLt)).trans (Eq.trans ?_ hs.1)
  have e1 : r.val / 8 + 1 = t.val + 1 := by omega
  have e2 : (⟨r.val % 8, Nat.mod_lt _ (by decide)⟩ : Fin 8) = b := Fin.ext (by show r.val % 8 = b.val; omega)
  show (seq (F := Ideal) x2 x3 (drive x0 x1) init (r.val / 8 + 1)).1 (ix2 (n0 := 8) (n1 := 1024) ⟨r.val % 8, Nat.mod_lt _ (by decide)⟩ ⟨j.val, j.isLt⟩) = _
  rw [e1, e2]

theorem states_im (init : Vec Ideal S8x1024 .f32 × Vec Ideal S8x1024 .f32) (hi : StateAt A (128 * n) init) (t : Fin 128) (b : Fin 8) (r : Fin 1024) (hr : r.val = 8 * t.val + b.val) (j : Fin 1024) :
    states (F := Ideal) x2 x3 (drive x0 x1) init (ix2 (n0 := 1024) (n1 := 2048) r ⟨1024 + j.val, by omega⟩)
      = (S5Model.hist A (128 * n + t.val + 1) b ⟨j.val / 64, by omega⟩ ⟨j.val % 64, by omega⟩).2 := by
  have hs := seq_at A n hn x0 x1 x2 x3 x4 x5 x6 x7 x8 H init hi (t.val + 1) (by omega) b j
  refine (dif_neg (show ¬ 1024 + j.val < 1024 by omega)).trans (Eq.trans ?_ hs.2)
  have e1 : r.val / 8 + 1 = t.val + 1 := by omega
  have e2 : (⟨r.val % 8, Nat.mod_lt _ (by decide)⟩ : Fin 8) = b := Fin.ext (by show r.val % 8 = b.val; omega)
  have e3 : (⟨1024 + j.val - 1024, by omega⟩ : Fin 1024) = j := Fin.ext (by show 1024 + j.val - 1024 = j.val; omega)
  show (seq (F := Ideal) x2 x3 (drive x0 x1) init (r.val / 8 + 1)).2 (ix2 (n0 := 8) (n1 := 1024) ⟨r.val % 8, Nat.mod_lt _ (by decide)⟩ ⟨1024 + j.val - 1024, by omega⟩) = _
  rw [e1, e2, e3]

theorem pre_at (init : Vec Ideal S8x1024 .f32 × Vec Ideal S8x1024 .f32) (hi : StateAt A (128 * n) init) (t : Fin 128) (b : Fin 8) (r : Fin 1024) (hr : r.val = 8 * t.val + b.val) (k : Fin 256) :
    (∑ l : Fin 2048, states (F := Ideal) x2 x3 (drive x0 x1) init (ix2 (n0 := 1024) (n1 := 2048) r l) * x4 (ix2 (n0 := 2048) (n1 := 256) l k)) + x5 (ix2 (n0 := 1) (n1 := 256) 0 k) * inRow x0 r k
      = S5Model.pre A b ⟨128 * n + t.val, by omega⟩ k := by
  unfold S5Model.pre
  rw [H.d, row_at A n hn x0 x1 x2 x3 x4 x5 x6 x7 x8 H t b r hr]
  refine congrArg (· + _) ?_
  refine (S5Model.sum_two (n := 1024) (fun l : Fin 2048 => states (F := Ideal) x2 x3 (drive x0 x1) init (ix2 (n0 := 1024) (n1 := 2048) r l) * x4 (ix2 (n0 := 2048) (n1 := 256) l k))).trans ?_
  refine congrArg₂ (· + ·) ?_ ?_
  · refine Eq.trans (Finset.sum_congr rfl fun j _ => ?_)
      (sum_out (fun g p => (S5Model.hist A (128 * n + t.val + 1) b g p).1) (fun g p => A.cr g ⟨k.val % 16, by omega⟩ p) ⟨k.val / 16, by omega⟩)
    show states (F := Ideal) x2 x3 (drive x0 x1) init (ix2 (n0 := 1024) (n1 := 2048) r ⟨j.val, by omega⟩) * x4 (ix2 (n0 := 2048) (n1 := 256) ⟨j.val, by omega⟩ k) = _
    rw [states_re A n hn x0 x1 x2 x3 x4 x5 x6 x7 x8 H init hi t b r hr j, H.cre]
  · refine Eq.trans (Finset.sum_congr rfl fun j _ => ?_)
      (sum_out (fun g p => (S5Model.hist A (128 * n + t.val + 1) b g p).2) (fun g p => -A.ci g ⟨k.val % 16, by omega⟩ p) ⟨k.val / 16, by omega⟩)
    show states (F := Ideal) x2 x3 (drive x0 x1) init (ix2 (n0 := 1024) (n1 := 2048) r ⟨1024 + j.val, by omega⟩) * x4 (ix2 (n0 := 2048) (n1 := 256) ⟨1024 + j.val, by omega⟩ k) = _
    rw [states_im A n hn x0 x1 x2 x3 x4 x5 x6 x7 x8 H init hi t b r hr j, H.cim, EReal.neg_mul]

omit H in
theorem act_eq (v : EReal) : act v = S5Model.act v := by
  unfold act S5Model.act
  rw [Ideal.ofBits_one_f32]
  rfl

/-- A block's result is the model's. -/
theorem blk_out (h : Vec Ideal S8x2048 .f32) (hi : StateAt A (128 * n) (split h)) (b : Fin 8) (t : Fin 128) (k : Fin 256) :
    outBlk x0 x1 x2 x3 x4 x5 x6 x7 x8 h (ix3 (n0 := 8) (n1 := 128) (n2 := 256) b t k) = S5Model.out A b ⟨128 * n + t.val, by omega⟩ k := by
  refine (outBlk_at _ _ _ _ _ _ _ _ _ _ _ (⟨8 * t.val + b.val, by omega⟩ : Fin 1024) k rfl rfl).trans ?_
  unfold outRow
  refine (nrm_gate_congr _ (S5Model.pre A b ⟨128 * n + t.val, by omega⟩) x6 x7 x8 k (fun l => pre_at A n hn x0 x1 x2 x3 x4 x5 x6 x7 x8 H (split h) hi t b _ rfl l)).trans ?_
  unfold S5Model.out nrm S5Model.nrm
  have hg : ∀ l, gate (S5Model.pre A b ⟨128 * n + t.val, by omega⟩) x6 x7 l = S5Model.gate (S5Model.pre A b ⟨128 * n + t.val, by omega⟩) A.wg A.bg l := by
    intro l
    unfold gate S5Model.gate
    rw [Ideal.ofBits_one_f32, Ideal.ofBits_zero_f32, zero_sub, H.bg, act_eq]
    simp only [H.wg, act_eq]
    rfl
  simp only [hg, H.g]
  rfl

end Cert.KernelIdeal.Recur

end
-- ==== Proof.RecurIdeal.Eye.lean ====
/- The entries of the unit matrix. -/
module

public import Idealize.ShloMosaic.Lib.Pointwise

@[expose] public section

noncomputable section

namespace Cert.S5Model

open Idealize.ShloMosaic

theorem eye_at (a b : ℕ) (ha : a < 16) (hb : b < 16) :
    FloatOps.uitofp (F := Ideal) FTy.f32 (IntOp.cmpi CmpIPredicate.eq (IntOp.addi (BitVec.ofNat 32 a) 0#32) (BitVec.ofNat 32 b)) = if a = b then (1 : EReal) else 0 := by
  have e : IntOp.cmpi CmpIPredicate.eq (IntOp.addi (BitVec.ofNat 32 a) 0#32) (BitVec.ofNat 32 b) = if a = b then 1#1 else 0#1 := by
    have h : ∀ a b : Fin 16, IntOp.cmpi CmpIPredicate.eq (IntOp.addi (BitVec.ofNat 32 a.val) 0#32) (BitVec.ofNat 32 b.val) = if a.val = b.val then 1#1 else 0#1 := by decide
    exact h ⟨a, ha⟩ ⟨b, hb⟩
  rw [e]
  by_cases e : a = b
  · rw [if_pos e, if_pos e]
    show (((1#1 : BitVec 1).toNat : ℝ) : EReal) = 1
    norm_num
  · rw [if_neg e, if_neg e]
    show (((0#1 : BitVec 1).toNat : ℝ) : EReal) = 0
    norm_num

end Cert.S5Model

end
-- ==== Proof.RecurIdeal.Host.lean ====
/- What the arrays of the launch hold when it begins. -/
module

public import proofs.«01_k».proof.Proof.Gen.KernelIdeal.Frame
public import proofs.«01_k».proof.Proof.S5Model
public import proofs.«01_k».proof.Proof.RecurIdeal.Eye
public import Idealize.ShloMosaic.Lib.StableHlo.ReadAt
public import Idealize.ShloMosaic.Lib.Pointwise

@[expose] public section

set_option maxRecDepth 16384

noncomputable section

namespace Cert.KernelIdeal.Recur

open Cert.KernelIdeal Cert.KernelIdeal.Gen Cert.S5Model
open Idealize.ShloMosaic Idealize.ShloMosaic.TcCoe Idealize.ShloMosaic.Tactic

variable (m : (ℓ : Loc nD τ sig) → Buf (Elt Ideal) ℓ) (c : Dev nD)

/-- The arguments of a run. -/
def argsK : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
  (m ((c : Thread nD τ).loc main_arg11))

theorem V_are (b : Fin 8) (j : Fin 1024) : (V m c main_v80 : Vec Ideal S8x1024 .f32) (ix2 (n0 := 8) (n1 := 1024) b j)
    = abRe (argsK m c) ⟨j.val / 64, by omega⟩ ⟨j.val % 64, by omega⟩ := by
  unfold V
  after_reads_at
  rfl

theorem V_aim (b : Fin 8) (j : Fin 1024) : (V m c main_v82 : Vec Ideal S8x1024 .f32) (ix2 (n0 := 8) (n1 := 1024) b j)
    = abIm (argsK m c) ⟨j.val / 64, by omega⟩ ⟨j.val % 64, by omega⟩ := by
  unfold V
  after_reads_at
  rfl

theorem V_d (n : Fin 256) : (V m c main_v83 : Vec Ideal S1x256 .f32) (ix2 (n0 := 1) (n1 := 256) 0 n)
    = (argsK m c).d ⟨n.val / 16, by omega⟩ ⟨n.val % 16, by omega⟩ := by
  unfold V
  after_reads_at
  rfl

theorem V_wg (k n : Fin 256) : (V m c main_v84 : Vec Ideal S256x256 .bf16) (ix2 (n0 := 256) (n1 := 256) k n) = (argsK m c).wg k n := by
  unfold V
  after_reads_at
  rfl

theorem V_bg (n : Fin 256) : (V m c main_v85 : Vec Ideal S1x256 .f32) (ix2 (n0 := 1) (n1 := 256) 0 n) = (argsK m c).bg n := by
  unfold V
  after_reads_at
  rfl

theorem V_g (n : Fin 256) : (V m c main_v86 : Vec Ideal S1x256 .f32) (ix2 (n0 := 1) (n1 := 256) 0 n) = (argsK m c).g n := by
  unfold V
  after_reads_at
  rfl

theorem V_bre (k : Fin 256) (j : Fin 1024) : (V m c main_v61 : Vec Ideal S256x2048 .bf16) (ix2 (n0 := 256) (n1 := 2048) k ⟨j.val, by omega⟩)
    = bbRe (argsK m c) ⟨k.val / 16, by omega⟩ ⟨j.val % 64, by omega⟩ ⟨k.val % 16, by omega⟩ * (if k.val / 16 = j.val / 64 then 1 else 0) := by
  unfold V
  after_reads_at
  after_reads_at
  refine congrArg₂ (· * ·) ?_ (eye_at (k.val / 16) (j.val / 64) (by omega) (by omega))
  unfold bbRe fRe fIm abRe abIm den argsK argsOf
  with_reducible rfl

theorem V_bim (k : Fin 256) (j : Fin 1024) : (V m c main_v61 : Vec Ideal S256x2048 .bf16) (ix2 (n0 := 256) (n1 := 2048) k ⟨1024 + j.val, by omega⟩)
    = bbIm (argsK m c) ⟨k.val / 16, by omega⟩ ⟨j.val % 64, by omega⟩ ⟨k.val % 16, by omega⟩ * (if k.val / 16 = j.val / 64 then 1 else 0) := by
  unfold V
  after_reads_at
  after_reads_at
  refine congrArg₂ (· * ·) ?_ (eye_at (k.val / 16) (j.val / 64) (by omega) (by omega))
  unfold bbIm fRe fIm abRe abIm den argsK argsOf
  with_reducible rfl

theorem V_cre (j : Fin 1024) (n : Fin 256) : (V m c main_v78 : Vec Ideal S2048x256 .bf16) (ix2 (n0 := 2048) (n1 := 256) ⟨j.val, by omega⟩ n)
    = (argsK m c).cr ⟨j.val / 64, by omega⟩ ⟨n.val % 16, by omega⟩ ⟨j.val % 64, by omega⟩ * (if j.val / 64 = n.val / 16 then 1 else 0) := by
  unfold V
  after_reads_at
  after_reads_at
  exact congrArg₂ (· * ·) rfl (eye_at (j.val / 64) (n.val / 16) (by omega) (by omega))

theorem V_cim (j : Fin 1024) (n : Fin 256) : (V m c main_v78 : Vec Ideal S2048x256 .bf16) (ix2 (n0 := 2048) (n1 := 256) ⟨1024 + j.val, by omega⟩ n)
    = (-((argsK m c).ci ⟨j.val / 64, by omega⟩ ⟨n.val % 16, by omega⟩ ⟨j.val % 64, by omega⟩ * (if j.val / 64 = n.val / 16 then 1 else 0)) : EReal) := by
  unfold V
  after_reads_at
  after_reads_at
  exact congrArg Neg.neg (congrArg₂ (· * ·) rfl (eye_at (j.val / 64) (n.val / 16) (by omega) (by omega)))

end Cert.KernelIdeal.Recur

end
-- ==== Proof.RecurIdeal.Value.lean ====
/- The run of the recurrence's call: its result array is the model's result. -/
module

public import proofs.«01_k».proof.Proof.RecurIdeal.Frame
public import proofs.«01_k».proof.Proof.RecurIdeal.PointNext
public import proofs.«01_k».proof.Proof.RecurIdeal.PointFirst
public import proofs.«01_k».proof.Proof.RecurIdeal.Induct
public import proofs.«01_k».proof.Proof.RecurIdeal.Host

@[expose] public section

set_option maxRecDepth 16384

noncomputable section

namespace Cert.KernelIdeal.Recur

open Cert.KernelIdeal Cert.KernelIdeal.Gen
open Idealize.ShloMosaic Idealize.ShloMosaic.TcCoe Idealize.SL Idealize.SL.Sem

variable (m : (ℓ : Loc nD τ sig) → Buf (Elt Ideal) ℓ) (ρ : Dev nD → PrngReg) (c : Dev nD)

theorem idx_0 : ∀ t : Fin cfg0.N, win0_0.index t (0 : Fin 3) = 0 ∧ win0_0.index t (1 : Fin 3) = t.val ∧ win0_0.index t (2 : Fin 3) = 0 :=
  (by decide +kernel : ∀ t : Fin grid0.N, _)

theorem iblk_u (t : Fin cfg0.N) (b : Fin 8) (s : Fin 128) (k : Fin 256) (h : 128 * t.val + s.val < 4096) :
    (iblk m c 0 t : Vec Ideal S8x128x256 .f32) (ix3 (n0 := 8) (n1 := 128) (n2 := 256) b s k) = (argsK m c).u b ⟨128 * t.val + s.val, h⟩ k := by
  obtain ⟨e0, e1, e2⟩ := idx_0 t
  show V m c main_arg0 _ = m ((c : Thread nD τ).loc main_arg0) _
  rw [V_main_arg0]
  congr 1
  funext a
  apply Fin.ext
  match a with
  | ⟨0, _⟩ => show win0_0.index t (0 : Fin 3) * 8 + 1 * b.val = b.val; omega
  | ⟨1, _⟩ => show win0_0.index t (1 : Fin 3) * 128 + 1 * s.val = 128 * t.val + s.val; omega
  | ⟨2, _⟩ => show win0_0.index t (2 : Fin 3) * 256 + 1 * k.val = k.val; omega

theorem idx_1 : ∀ t : Fin cfg0.N, win0_1.index t (0 : Fin 2) = 0 ∧ win0_1.index t (1 : Fin 2) = 0 :=
  (by decide +kernel : ∀ t : Fin grid0.N, _)

theorem iblk_1 (t : Fin cfg0.N) : (iblk m c 1 t : Vec Ideal S256x2048 .bf16) = V m c main_v61 := by
  obtain ⟨e0, e1⟩ := idx_1 t
  funext j
  show V m c main_v61 (((cfg0.win 1).blk t).view.emb j) = V m c main_v61 j
  congr 1
  funext a
  apply Fin.ext
  match a with
  | ⟨0, _⟩ => show win0_1.index t (0 : Fin 2) * 256 + 1 * (j 0).val = (j 0).val; omega
  | ⟨1, _⟩ => show win0_1.index t (1 : Fin 2) * 2048 + 1 * (j 1).val = (j 1).val; omega

theorem idx_2 : ∀ t : Fin cfg0.N, win0_2.index t (0 : Fin 2) = 0 ∧ win0_2.index t (1 : Fin 2) = 0 :=
  (by decide +kernel : ∀ t : Fin grid0.N, _)

theorem iblk_2 (t : Fin cfg0.N) : (iblk m c 2 t : Vec Ideal S8x1024 .f32) = V m c main_v80 := by
  obtain ⟨e0, e1⟩ := idx_2 t
  funext j
  show V m c main_v80 (((cfg0.win 2).blk t).view.emb j) = V m c main_v80 j
  congr 1
  funext a
  apply Fin.ext
  match a with
  | ⟨0, _⟩ => show win0_2.index t (0 : Fin 2) * 8 + 1 * (j 0).val = (j 0).val; omega
  | ⟨1, _⟩ => show win0_2.index t (1 : Fin 2) * 1024 + 1 * (j 1).val = (j 1).val; omega

theorem idx_3 : ∀ t : Fin cfg0.N, win0_3.index t (0 : Fin 2) = 0 ∧ win0_3.index t (1 : Fin 2) = 0 :=
  (by decide +kernel : ∀ t : Fin grid0.N, _)

theorem iblk_3 (t : Fin cfg0.N) : (iblk m c 3 t : Vec Ideal S8x1024 .f32) = V m c main_v82 := by
  obtain ⟨e0, e1⟩ := idx_3 t
  funext j
  show V m c main_v82 (((cfg0.win 3).blk t).view.emb j) = V m c main_v82 j
  congr 1
  funext a
  apply Fin.ext
  match a with
  | ⟨0, _⟩ => show win0_3.index t (0 : Fin 2) * 8 + 1 * (j 0).val = (j 0).val; omega
  | ⟨1, _⟩ => show win0_3.index t (1 : Fin 2) * 1024 + 1 * (j 1).val = (j 1).val; omega

theorem idx_4 : ∀ t : Fin cfg0.N, win0_4.index t (0 : Fin 2) = 0 ∧ win0_4.index t (1 : Fin 2) = 0 :=
  (by decide +kernel : ∀ t : Fin grid0.N, _)

theorem iblk_4 (t : Fin cfg0.N) : (iblk m c 4 t : Vec Ideal S2048x256 .bf16) = V m c main_v78 := by
  obtain ⟨e0, e1⟩ := idx_4 t
  funext j
  show V m c main_v78 (((cfg0.win 4).blk t).view.emb j) = V m c main_v78 j
  congr 1
  funext a
  apply Fin.ext
  match a with
  | ⟨0, _⟩ => show win0_4.index t (0 : Fin 2) * 2048 + 1 * (j 0).val = (j 0).val; omega
  | ⟨1, _⟩ => show win0_4.index t (1 : Fin 2) * 256 + 1 * (j 1).val = (j 1).val; omega

theorem idx_5 : ∀ t : Fin cfg0.N, win0_5.index t (0 : Fin 2) = 0 ∧ win0_5.index t (1 : Fin 2) = 0 :=
  (by decide +kernel : ∀ t : Fin grid0.N, _)

theorem iblk_5 (t : Fin cfg0.N) : (iblk m c 5 t : Vec Ideal S1x256 .f32) = V m c main_v83 := by
  obtain ⟨e0, e1⟩ := idx_5 t
  funext j
  show V m c main_v83 (((cfg0.win 5).blk t).view.emb j) = V m c main_v83 j
  congr 1
  funext a
  apply Fin.ext
  match a with
  | ⟨0, _⟩ => show win0_5.index t (0 : Fin 2) * 1 + 1 * (j 0).val = (j 0).val; omega
  | ⟨1, _⟩ => show win0_5.index t (1 : Fin 2) * 256 + 1 * (j 1).val = (j 1).val; omega

theorem idx_6 : ∀ t : Fin cfg0.N, win0_6.index t (0 : Fin 2) = 0 ∧ win0_6.index t (1 : Fin 2) = 0 :=
  (by decide +kernel : ∀ t : Fin grid0.N, _)

theorem iblk_6 (t : Fin cfg0.N) : (iblk m c 6 t : Vec Ideal S256x256 .bf16) = V m c main_v84 := by
  obtain ⟨e0, e1⟩ := idx_6 t
  funext j
  show V m c main_v84 (((cfg0.win 6).blk t).view.emb j) = V m c main_v84 j
  congr 1
  funext a
  apply Fin.ext
  match a with
  | ⟨0, _⟩ => show win0_6.index t (0 : Fin 2) * 256 + 1 * (j 0).val = (j 0).val; omega
  | ⟨1, _⟩ => show win0_6.index t (1 : Fin 2) * 256 + 1 * (j 1).val = (j 1).val; omega

theorem idx_7 : ∀ t : Fin cfg0.N, win0_7.index t (0 : Fin 2) = 0 ∧ win0_7.index t (1 : Fin 2) = 0 :=
  (by decide +kernel : ∀ t : Fin grid0.N, _)

theorem iblk_7 (t : Fin cfg0.N) : (iblk m c 7 t : Vec Ideal S1x256 .f32) = V m c main_v85 := by
  obtain ⟨e0, e1⟩ := idx_7 t
  funext j
  show V m c main_v85 (((cfg0.win 7).blk t).view.emb j) = V m c main_v85 j
  congr 1
  funext a
  apply Fin.ext
  match a with
  | ⟨0, _⟩ => show win0_7.index t (0 : Fin 2) * 1 + 1 * (j 0).val = (j 0).val; omega
  | ⟨1, _⟩ => show win0_7.index t (1 : Fin 2) * 256 + 1 * (j 1).val = (j 1).val; omega

theorem idx_8 : ∀ t : Fin cfg0.N, win0_8.index t (0 : Fin 2) = 0 ∧ win0_8.index t (1 : Fin 2) = 0 :=
  (by decide +kernel : ∀ t : Fin grid0.N, _)

theorem iblk_8 (t : Fin cfg0.N) : (iblk m c 8 t : Vec Ideal S1x256 .f32) = V m c main_v86 := by
  obtain ⟨e0, e1⟩ := idx_8 t
  funext j
  show V m c main_v86 (((cfg0.win 8).blk t).view.emb j) = V m c main_v86 j
  congr 1
  funext a
  apply Fin.ext
  match a with
  | ⟨0, _⟩ => show win0_8.index t (0 : Fin 2) * 1 + 1 * (j 0).val = (j 0).val; omega
  | ⟨1, _⟩ => show win0_8.index t (1 : Fin 2) * 256 + 1 * (j 1).val = (j 1).val; omega

theorem lt_points (t : Fin cfg0.N) : t.val < 32 := lt_of_lt_of_eq t.isLt N_0

/-- Every point's blocks are the model's. -/
theorem holds (t : Fin cfg0.N) : Holds (argsK m c) t.val (lt_points t) (iblk m c 0 t) (iblk m c 1 t) (iblk m c 2 t) (iblk m c 3 t) (iblk m c 4 t) (iblk m c 5 t) (iblk m c 6 t) (iblk m c 7 t) (iblk m c 8 t) where
  u b s k := iblk_u m c t b s k _
  bre k j := by rw [iblk_1]; exact V_bre m c k j
  bim k j := by rw [iblk_1]; exact V_bim m c k j
  are b j := by rw [iblk_2]; exact V_are m c b j
  aim b j := by rw [iblk_3]; exact V_aim m c b j
  cre j k := by rw [iblk_4]; exact V_cre m c j k
  cim j k := by rw [iblk_4]; exact V_cim m c j k
  d k := by rw [iblk_5]; exact V_d m c k
  wg k l := by rw [iblk_6]; exact V_wg m c k l
  bg k := by rw [iblk_7]; exact V_bg m c k
  g k := by rw [iblk_8]; exact V_g m c k

theorem pairNext_eq (t : Fin cfg0.N) (h : ¬ starts (grid0.coords t)) (hprev : Vec Ideal S8x2048 .f32) :
    pairNext m c t h hprev = (outBlk (iblk m c 0 t) (iblk m c 1 t) (iblk m c 2 t) (iblk m c 3 t) (iblk m c 4 t) (iblk m c 5 t) (iblk m c 6 t) (iblk m c 7 t) (iblk m c 8 t) hprev, stateBlk (iblk m c 0 t) (iblk m c 1 t) (iblk m c 2 t) (iblk m c 3 t) hprev) := by
  unfold pairNext
  rw [next_out, next_state]

theorem pairFirst_eq (t : Fin cfg0.N) (h : starts (grid0.coords t)) :
    pairFirst m c t h = (outBlk (iblk m c 0 t) (iblk m c 1 t) (iblk m c 2 t) (iblk m c 3 t) (iblk m c 4 t) (iblk m c 5 t) (iblk m c 6 t) (iblk m c 7 t) (iblk m c 8 t) zeroState, stateBlk (iblk m c 0 t) (iblk m c 1 t) (iblk m c 2 t) (iblk m c 3 t) zeroState) := by
  unfold pairFirst
  rw [first_out, first_state]

theorem zero_at (A : S5Model.Args) : StateAt A (128 * 0) (split zeroState) := fun b j => by
  constructor
  · exact Ideal.ofBits_zero_f32
  · exact Ideal.ofBits_zero_f32

/-- The state a point leaves is the model's. -/
theorem after_state : ∀ (n : ℕ) (hn : n < cfg0.N), StateAt (argsK m c) (128 * (n + 1)) (split (after m c n hn).2) := by
  intro n
  induction n with
  | zero =>
    intro hn
    show StateAt _ _ (split (pairFirst m c ⟨0, hn⟩ _).2)
    rw [pairFirst_eq]
    exact blk_state _ _ _ _ _ _ _ _ _ _ _ _ (holds m c ⟨0, hn⟩) _ (zero_at _)
  | succ n ih =>
    intro hn
    show StateAt _ _ (split (pairNext m c ⟨n + 1, hn⟩ _ _).2)
    rw [pairNext_eq]
    exact blk_state _ _ _ _ _ _ _ _ _ _ _ _ (holds m c ⟨n + 1, hn⟩) _ (ih _)

/-- The block a point writes is the model's. -/
theorem after_out (n : ℕ) (hn : n < cfg0.N) (b : Fin 8) (s : Fin 128) (k : Fin 256) (h : 128 * n + s.val < 4096) :
    (after m c n hn).1 (ix3 (n0 := 8) (n1 := 128) (n2 := 256) b s k) = S5Model.out (argsK m c) b ⟨128 * n + s.val, h⟩ k := by
  cases n with
  | zero =>
    show (pairFirst m c ⟨0, hn⟩ _).1 _ = _
    rw [pairFirst_eq]
    exact blk_out _ _ _ _ _ _ _ _ _ _ _ _ (holds m c ⟨0, hn⟩) _ (zero_at _) b s k
  | succ n =>
    show (pairNext m c ⟨n + 1, hn⟩ _ _).1 _ = _
    rw [pairNext_eq]
    exact blk_out _ _ _ _ _ _ _ _ _ _ _ _ (holds m c ⟨n + 1, hn⟩) _ (after_state m c n _) b s k

/-- The result array. -/
def result : Vec Ideal S8x4096x256 .bf16 := fun y => S5Model.out (argsK m c) (y 0) (y 1) (y 2)

theorem idx_9 : ∀ t : Fin cfg0.N, (cfg0.win 9).flush t = true ∧ win0_9.index t (0 : Fin 3) = 0 ∧ win0_9.index t (1 : Fin 3) = t.val ∧ win0_9.index t (2 : Fin 3) = 0 :=
  (by decide +kernel : ∀ t : Fin grid0.N, _)

theorem flushed_9 (t : Fin cfg0.N) : (dats m 0 c).flushed 9 t = ((cfg0.win 9).blk t).view.read (Elt Ideal) (result m c) := by
  show (cfg0.win 9).cut (grid0.coords t) ((dats m 0 c).after 9 t) = _
  rw [after_9]
  obtain ⟨-, e0, e1, e2⟩ := idx_9 t
  have hl := lt_points t
  funext y
  have hy0 : (y 0).val < 8 := (y 0).isLt
  have hy1 : (y 1).val < 128 := (y 1).isLt
  have hy2 : (y 2).val < 256 := (y 2).isLt
  refine Eq.trans (congrArg (after m c t.val t.isLt).1 (?_ : _ = ix3 (n0 := 8) (n1 := 128) (n2 := 256) ⟨(y 0).val, hy0⟩ ⟨(y 1).val, hy1⟩ ⟨(y 2).val, hy2⟩))
    ((after_out m c t.val t.isLt ⟨(y 0).val, hy0⟩ ⟨(y 1).val, hy1⟩ ⟨(y 2).val, hy2⟩ (by show 128 * t.val + (y 1).val < 4096; omega)).trans ?_)
  · funext a
    match a with
    | ⟨0, _⟩ => rfl
    | ⟨1, _⟩ => rfl
    | ⟨2, _⟩ => rfl
  · show _ = S5Model.out (argsK m c) (((cfg0.win 9).blk t).view.emb y 0) (((cfg0.win 9).blk t).view.emb y 1) (((cfg0.win 9).blk t).view.emb y 2)
    congr 1
    · exact Fin.ext (by show (y 0).val = win0_9.index t (0 : Fin 3) * 8 + 1 * (y 0).val; omega)
    · exact Fin.ext (by show 128 * t.val + (y 1).val = win0_9.index t (1 : Fin 3) * 128 + 1 * (y 1).val; omega)
    · exact Fin.ext (by show (y 2).val = win0_9.index t (2 : Fin 3) * 256 + 1 * (y 2).val; omega)

theorem mem_blk9 (t : Fin cfg0.N) (i : S8x4096x256.Idx) :
    i ∈ ((cfg0.win 9).blk t).view.set ↔ ∀ a : Fin 3, win0_9.index t a * S8x128x256.size a ≤ (i a).val ∧ (i a).val < win0_9.index t a * S8x128x256.size a + S8x128x256.size a := by
  show i ∈ ((View.whole main_v87).slice (win0_9.rect t)).set ↔ _
  rw [View.set_slice_whole, Rect.mem_set_unit]
  exact Iff.rfl

theorem covered_9 (i : S8x4096x256.Idx) : ∃ t : Fin cfg0.N, (cfg0.win 9).flush t = true ∧ i ∈ ((cfg0.win 9).blk t).view.set := by
  have hi0 : (i 0).val < 8 := (i 0).isLt
  have hi1 : (i 1).val < 4096 := (i 1).isLt
  have hi2 : (i 2).val < 256 := (i 2).isLt
  obtain ⟨hf, e0, e1, e2⟩ := idx_9 ⟨(i 1).val / 128, lt_of_lt_of_eq (by omega) N_0.symm⟩
  refine ⟨_, hf, ?_⟩
  rw [mem_blk9]
  intro a
  match a with
  | ⟨0, _⟩ => show win0_9.index _ (0 : Fin 3) * 8 ≤ (i 0).val ∧ (i 0).val < win0_9.index _ (0 : Fin 3) * 8 + 8; omega
  | ⟨1, _⟩ => show win0_9.index _ (1 : Fin 3) * 128 ≤ (i 1).val ∧ (i 1).val < win0_9.index _ (1 : Fin 3) * 128 + 128; rw [e1]; show (i 1).val / 128 * 128 ≤ (i 1).val ∧ (i 1).val < (i 1).val / 128 * 128 + 128; omega
  | ⟨2, _⟩ => show win0_9.index _ (2 : Fin 3) * 256 ≤ (i 2).val ∧ (i 2).val < win0_9.index _ (2 : Fin 3) * 256 + 256; omega

theorem final_9 : (dats m 0 c).arrAt 9 cfg0.N = result m c :=
  (dats m 0 c).arrAt_eq_of_cover 9 _ (fun t _ => flushed_9 m c t) covered_9

theorem kept_0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- The run: the result array is the model's result, the arguments as launched. -/
theorem run : θ_run defs (onTc (τ := τ) (main (F := Ideal))) ⟨m, fun _ => 0, ρ⟩ fun r => ∀ c : Dev nD,
      r.2.mem ((c : Thread nD τ).loc main_v87) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 9).trans (final_9 m c), kept_0 m r h c, kept_1 m r h c, kept_2 m r h c, kept_3 m r h c, kept_4 m r h c, kept_5 m r h c, kept_6 m r h c, kept_7 m r h c, kept_8 m r h c, kept_9 m r h c, kept_10 m r h c, kept_11 m r h c⟩)
    (run_main m ρ)

end Cert.KernelIdeal.Recur

end
-- ==== Proof.RecurRef.Iter.lean ====
/- The reference of the recurrence, run as its step iterated from the zero state. -/
module

public import proofs.«01_k».proof.Proof.Gen.ReferenceIdeal.Run
public import proofs.«01_k».proof.Proof.Gen.ReferenceIdeal.Step

@[expose] public section

noncomputable section

namespace Cert.ReferenceIdeal.Iter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v47_6) = s.main_v47_6
  f_7 : V0 (Proc.devRef .tc main_v47_7) = s.main_v47_7
  f_8 : V0 (Proc.devRef .tc main_v47_8) = s.main_v47_8
  f_9 : V0 (Proc.devRef .tc main_v47_9) = s.main_v47_9
  f_0 : V0 (Proc.devRef .tc main_v47_0) = s.main_v47_0
  f_1 : V0 (Proc.devRef .tc main_v47_1) = s.main_v47_1
  f_2 : V0 (Proc.devRef .tc main_v47_2) = s.main_v47_2
  f_3 : V0 (Proc.devRef .tc main_v47_3) = s.main_v47_3
  n_4 : V0 (Proc.devRef .tc main_v47_4) = constantI S_ 32 (BitVec.ofNat 32 j)
  n_5 : V0 (Proc.devRef .tc main_v47_5) = constantI S_ 32 (BitVec.ofNat 32 j)

variable {V0 s j}

/-! One trip computes the next state. -/

set_option maxRecDepth 8192 in
theorem step_6 (h : Holds V0 s j) : step_main_v47_6 V0 = (step j s).main_v47_6 := by
  rw [Step.step_main_v47_6]
  simp only [step_main_v47_6, res_main_while0b_v108, h.f_0, h.f_2, h.f_3, h.f_6, h.f_7, h.n_5, id, Cert.ReferenceIdeal.Step.b0, Cert.ReferenceIdeal.Step.b1, Cert.ReferenceIdeal.Step.b2, Cert.ReferenceIdeal.Step.b3, Cert.ReferenceIdeal.Step.b4, Cert.ReferenceIdeal.Step.b5, Cert.ReferenceIdeal.Step.b6, Cert.ReferenceIdeal.Step.b7, Cert.ReferenceIdeal.Step.b8, Cert.ReferenceIdeal.Step.b9, Cert.ReferenceIdeal.Step.b10, Cert.ReferenceIdeal.Step.b11, Cert.ReferenceIdeal.Step.b12, Cert.ReferenceIdeal.Step.b13, Cert.ReferenceIdeal.Step.b14, Cert.ReferenceIdeal.Step.b15, Cert.ReferenceIdeal.Step.b16, Cert.ReferenceIdeal.Step.b17, Cert.ReferenceIdeal.Step.b18, Cert.ReferenceIdeal.Step.b19, Cert.ReferenceIdeal.Step.b20, Cert.ReferenceIdeal.Step.b21, Cert.ReferenceIdeal.Step.b22, Cert.ReferenceIdeal.Step.b23, Cert.ReferenceIdeal.Step.b24, Cert.ReferenceIdeal.Step.b25, Cert.ReferenceIdeal.Step.b26, Cert.ReferenceIdeal.Step.b27, Cert.ReferenceIdeal.Step.b28, Cert.ReferenceIdeal.Step.b29, Cert.ReferenceIdeal.Step.b30, Cert.ReferenceIdeal.Step.b31, Cert.ReferenceIdeal.Step.b32, Cert.ReferenceIdeal.Step.b33, Cert.ReferenceIdeal.Step.b34, Cert.ReferenceIdeal.Step.b35, Cert.ReferenceIdeal.Step.b36, Cert.ReferenceIdeal.Step.b37, Cert.ReferenceIdeal.Step.b38, Cert.ReferenceIdeal.Step.b39, Cert.ReferenceIdeal.Step.b40, Cert.ReferenceIdeal.Step.b41, Cert.ReferenceIdeal.Step.b42, Cert.ReferenceIdeal.Step.b43, Cert.ReferenceIdeal.Step.b44, Cert.ReferenceIdeal.Step.b45, Cert.ReferenceIdeal.Step.b46, Cert.ReferenceIdeal.Step.b47, Cert.ReferenceIdeal.Step.b48, Cert.ReferenceIdeal.Step.b49, Cert.ReferenceIdeal.Step.b50, Cert.ReferenceIdeal.Step.b51, Cert.ReferenceIdeal.Step.b52, Cert.ReferenceIdeal.Step.b53, Cert.ReferenceIdeal.Step.b54, Cert.ReferenceIdeal.Step.b55, Cert.ReferenceIdeal.Step.b56, Cert.ReferenceIdeal.Step.b57, Cert.ReferenceIdeal.Step.b58, Cert.ReferenceIdeal.Step.b59, Cert.ReferenceIdeal.Step.b60, Cert.ReferenceIdeal.Step.b61]
  rfl

set_option maxRecDepth 8192 in
theorem step_7 (h : Holds V0 s j) : step_main_v47_7 V0 = (step j s).main_v47_7 := by
  rw [Step.step_main_v47_7]
  simp only [step_main_v47_7, res_main_while0b_v116, h.f_1, h.f_2, h.f_3, h.f_6, h.f_7, h.n_5, id, Cert.ReferenceIdeal.Step.b0, Cert.ReferenceIdeal.Step.b1, Cert.ReferenceIdeal.Step.b2, Cert.ReferenceIdeal.Step.b3, Cert.ReferenceIdeal.Step.b4, Cert.ReferenceIdeal.Step.b5, Cert.ReferenceIdeal.Step.b6, Cert.ReferenceIdeal.Step.b7, Cert.ReferenceIdeal.Step.b8, Cert.ReferenceIdeal.Step.b9, Cert.ReferenceIdeal.Step.b10, Cert.ReferenceIdeal.Step.b11, Cert.ReferenceIdeal.Step.b12, Cert.ReferenceIdeal.Step.b13, Cert.ReferenceIdeal.Step.b14, Cert.ReferenceIdeal.Step.b15, Cert.ReferenceIdeal.Step.b16, Cert.ReferenceIdeal.Step.b17, Cert.ReferenceIdeal.Step.b18, Cert.ReferenceIdeal.Step.b19, Cert.ReferenceIdeal.Step.b20, Cert.ReferenceIdeal.Step.b21, Cert.ReferenceIdeal.Step.b22, Cert.ReferenceIdeal.Step.b23, Cert.ReferenceIdeal.Step.b24, Cert.ReferenceIdeal.Step.b25, Cert.ReferenceIdeal.Step.b26, Cert.ReferenceIdeal.Step.b27, Cert.ReferenceIdeal.Step.b28, Cert.ReferenceIdeal.Step.b29, Cert.ReferenceIdeal.Step.b30, Cert.ReferenceIdeal.Step.b31, Cert.ReferenceIdeal.Step.b32, Cert.ReferenceIdeal.Step.b33, Cert.ReferenceIdeal.Step.b34, Cert.ReferenceIdeal.Step.b35, Cert.ReferenceIdeal.Step.b36, Cert.ReferenceIdeal.Step.b37, Cert.ReferenceIdeal.Step.b38, Cert.ReferenceIdeal.Step.b39, Cert.ReferenceIdeal.Step.b40, Cert.ReferenceIdeal.Step.b41, Cert.ReferenceIdeal.Step.b42, Cert.ReferenceIdeal.Step.b43, Cert.ReferenceIdeal.Step.b44, Cert.ReferenceIdeal.Step.b45, Cert.ReferenceIdeal.Step.b46, Cert.ReferenceIdeal.Step.b47, Cert.ReferenceIdeal.Step.b48, Cert.ReferenceIdeal.Step.b49, Cert.ReferenceIdeal.Step.b50, Cert.ReferenceIdeal.Step.b51, Cert.ReferenceIdeal.Step.b52, Cert.ReferenceIdeal.Step.b53, Cert.ReferenceIdeal.Step.b54, Cert.ReferenceIdeal.Step.b55, Cert.ReferenceIdeal.Step.b56, Cert.ReferenceIdeal.Step.b57, Cert.ReferenceIdeal.Step.b58, Cert.ReferenceIdeal.Step.b59, Cert.ReferenceIdeal.Step.b60, Cert.ReferenceIdeal.Step.b61]
  rfl

set_option maxRecDepth 8192 in
theorem step_8 (h : Holds V0 s j) : step_main_v47_8 V0 = (step j s).main_v47_8 := by
  rw [Step.step_main_v47_8]
  simp only [step_main_v47_8, res_main_while0b_v108, h.f_0, h.f_2, h.f_3, h.f_6, h.f_7, h.f_8, h.n_5, id, Cert.ReferenceIdeal.Step.b0, Cert.ReferenceIdeal.Step.b1, Cert.ReferenceIdeal.Step.b2, Cert.ReferenceIdeal.Step.b3, Cert.ReferenceIdeal.Step.b4, Cert.ReferenceIdeal.Step.b5, Cert.ReferenceIdeal.Step.b6, Cert.ReferenceIdeal.Step.b7, Cert.ReferenceIdeal.Step.b8, Cert.ReferenceIdeal.Step.b9, Cert.ReferenceIdeal.Step.b10, Cert.ReferenceIdeal.Step.b11, Cert.ReferenceIdeal.Step.b12, Cert.ReferenceIdeal.Step.b13, Cert.ReferenceIdeal.Step.b14, Cert.ReferenceIdeal.Step.b15, Cert.ReferenceIdeal.Step.b16, Cert.ReferenceIdeal.Step.b17, Cert.ReferenceIdeal.Step.b18, Cert.ReferenceIdeal.Step.b19, Cert.ReferenceIdeal.Step.b20, Cert.ReferenceIdeal.Step.b21, Cert.ReferenceIdeal.Step.b22, Cert.ReferenceIdeal.Step.b23, Cert.ReferenceIdeal.Step.b24, Cert.ReferenceIdeal.Step.b25, Cert.ReferenceIdeal.Step.b26, Cert.ReferenceIdeal.Step.b27, Cert.ReferenceIdeal.Step.b28, Cert.ReferenceIdeal.Step.b29, Cert.ReferenceIdeal.Step.b30, Cert.ReferenceIdeal.Step.b31, Cert.ReferenceIdeal.Step.b32, Cert.ReferenceIdeal.Step.b33, Cert.ReferenceIdeal.Step.b34, Cert.ReferenceIdeal.Step.b35, Cert.ReferenceIdeal.Step.b36, Cert.ReferenceIdeal.Step.b37, Cert.ReferenceIdeal.Step.b38, Cert.ReferenceIdeal.Step.b39, Cert.ReferenceIdeal.Step.b40, Cert.ReferenceIdeal.Step.b41, Cert.ReferenceIdeal.Step.b42, Cert.ReferenceIdeal.Step.b43, Cert.ReferenceIdeal.Step.b44, Cert.ReferenceIdeal.Step.b45, Cert.ReferenceIdeal.Step.b46, Cert.ReferenceIdeal.Step.b47, Cert.ReferenceIdeal.Step.b48, Cert.ReferenceIdeal.Step.b49, Cert.ReferenceIdeal.Step.b50, Cert.ReferenceIdeal.Step.b51, Cert.ReferenceIdeal.Step.b52, Cert.ReferenceIdeal.Step.b53, Cert.ReferenceIdeal.Step.b54, Cert.ReferenceIdeal.Step.b55, Cert.ReferenceIdeal.Step.b56, Cert.ReferenceIdeal.Step.b57, Cert.ReferenceIdeal.Step.b58, Cert.ReferenceIdeal.Step.b59, Cert.ReferenceIdeal.Step.b60, Cert.ReferenceIdeal.Step.b61]
  rfl

set_option maxRecDepth 8192 in
theorem step_9 (h : Holds V0 s j) : step_main_v47_9 V0 = (step j s).main_v47_9 := by
  rw [Step.step_main_v47_9]
  simp only [step_main_v47_9, res_main_while0b_v116, h.f_1, h.f_2, h.f_3, h.f_6, h.f_7, h.f_9, h.n_5, id, Cert.ReferenceIdeal.Step.b0, Cert.ReferenceIdeal.Step.b1, Cert.ReferenceIdeal.Step.b2, Cert.ReferenceIdeal.Step.b3, Cert.ReferenceIdeal.Step.b4, Cert.ReferenceIdeal.Step.b5, Cert.ReferenceIdeal.Step.b6, Cert.ReferenceIdeal.Step.b7, Cert.ReferenceIdeal.Step.b8, Cert.ReferenceIdeal.Step.b9, Cert.ReferenceIdeal.Step.b10, Cert.ReferenceIdeal.Step.b11, Cert.ReferenceIdeal.Step.b12, Cert.ReferenceIdeal.Step.b13, Cert.ReferenceIdeal.Step.b14, Cert.ReferenceIdeal.Step.b15, Cert.ReferenceIdeal.Step.b16, Cert.ReferenceIdeal.Step.b17, Cert.ReferenceIdeal.Step.b18, Cert.ReferenceIdeal.Step.b19, Cert.ReferenceIdeal.Step.b20, Cert.ReferenceIdeal.Step.b21, Cert.ReferenceIdeal.Step.b22, Cert.ReferenceIdeal.Step.b23, Cert.ReferenceIdeal.Step.b24, Cert.ReferenceIdeal.Step.b25, Cert.ReferenceIdeal.Step.b26, Cert.ReferenceIdeal.Step.b27, Cert.ReferenceIdeal.Step.b28, Cert.ReferenceIdeal.Step.b29, Cert.ReferenceIdeal.Step.b30, Cert.ReferenceIdeal.Step.b31, Cert.ReferenceIdeal.Step.b32, Cert.ReferenceIdeal.Step.b33, Cert.ReferenceIdeal.Step.b34, Cert.ReferenceIdeal.Step.b35, Cert.ReferenceIdeal.Step.b36, Cert.ReferenceIdeal.Step.b37, Cert.ReferenceIdeal.Step.b38, Cert.ReferenceIdeal.Step.b39, Cert.ReferenceIdeal.Step.b40, Cert.ReferenceIdeal.Step.b41, Cert.ReferenceIdeal.Step.b42, Cert.ReferenceIdeal.Step.b43, Cert.ReferenceIdeal.Step.b44, Cert.ReferenceIdeal.Step.b45, Cert.ReferenceIdeal.Step.b46, Cert.ReferenceIdeal.Step.b47, Cert.ReferenceIdeal.Step.b48, Cert.ReferenceIdeal.Step.b49, Cert.ReferenceIdeal.Step.b50, Cert.ReferenceIdeal.Step.b51, Cert.ReferenceIdeal.Step.b52, Cert.ReferenceIdeal.Step.b53, Cert.ReferenceIdeal.Step.b54, Cert.ReferenceIdeal.Step.b55, Cert.ReferenceIdeal.Step.b56, Cert.ReferenceIdeal.Step.b57, Cert.ReferenceIdeal.Step.b58, Cert.ReferenceIdeal.Step.b59, Cert.ReferenceIdeal.Step.b60, Cert.ReferenceIdeal.Step.b61]
  rfl

theorem step_4 (h : Holds V0 s j) : step_main_v47_4 V0 = constantI S_ 32 (BitVec.ofNat 32 (j + 1)) := by
  unfold step_main_v47_4
  rw [h.n_4]
  funext i
  show BitVec.ofNat 32 j + 1#32 = BitVec.ofNat 32 (j + 1)
  simp only [BitVec.ofNat_add]
theorem step_5 (h : Holds V0 s j) : step_main_v47_5 V0 = constantI S_ 32 (BitVec.ofNat 32 (j + 1)) := by
  unfold step_main_v47_5
  rw [h.n_5]
  funext i
  show BitVec.ofNat 32 j + 1#32 = BitVec.ofNat 32 (j + 1)
  simp only [BitVec.ofNat_add]

set_option maxRecDepth 8192 in
theorem out_main_v97_holds (h : Holds V0 s j) {x_main_arg0 : (⟨S8x4096x256, .f32⟩ : BufTy).Contents (Elt F)} (h_main_arg0 : V0 (Proc.devRef .tc main_arg0) = x_main_arg0) {x_main_arg6 : (⟨S16x16x64, .f32⟩ : BufTy).Contents (Elt F)} (h_main_arg6 : V0 (Proc.devRef .tc main_arg6) = x_main_arg6) {x_main_arg7 : (⟨S16x16x64, .f32⟩ : BufTy).Contents (Elt F)} (h_main_arg7 : V0 (Proc.devRef .tc main_arg7) = x_main_arg7) {x_main_arg8 : (⟨S16x16, .f32⟩ : BufTy).Contents (Elt F)} (h_main_arg8 : V0 (Proc.devRef .tc main_arg8) = x_main_arg8) {x_main_arg9 : (⟨S256x256, .f32⟩ : BufTy).Contents (Elt F)} (h_main_arg9 : V0 (Proc.devRef .tc main_arg9) = x_main_arg9) {x_main_arg10 : (⟨S256, .f32⟩ : BufTy).Contents (Elt F)} (h_main_arg10 : V0 (Proc.devRef .tc main_arg10) = x_main_arg10) {x_main_arg11 : (⟨S256, .f32⟩ : BufTy).Contents (Elt F)} (h_main_arg11 : V0 (Proc.devRef .tc main_arg11) = x_main_arg11) : out_main_v97 V0 = Cert.ReferenceIdeal.Step.R_main_v97 s x_main_arg0 x_main_arg6 x_main_arg7 x_main_arg8 x_main_arg9 x_main_arg10 x_main_arg11 := by
  unfold out_main_v97 Cert.ReferenceIdeal.Step.R_main_v97
  rw [h.f_8, h.f_9, h_main_arg0, h_main_arg6, h_main_arg7, h_main_arg8, h_main_arg9, h_main_arg10, h_main_arg11]
  try rfl

/-- One trip keeps the valuation holding: `step` of the state, the same set-up values, the next number. -/
theorem holds_step (h : Holds V0 s j) : Holds (STEP V0) (step j s) (j + 1) where
  f_6 := (STEP_main_v47_6 V0).trans (step_6 h)
  f_7 := (STEP_main_v47_7 V0).trans (step_7 h)
  f_8 := (STEP_main_v47_8 V0).trans (step_8 h)
  f_9 := (STEP_main_v47_9 V0).trans (step_9 h)
  n_4 := (STEP_main_v47_4 V0).trans (step_4 h)
  n_5 := (STEP_main_v47_5 V0).trans (step_5 h)
  f_0 := (STEP_main_v47_0 V0).trans h.f_0
  f_1 := (STEP_main_v47_1 V0).trans h.f_1
  f_2 := (STEP_main_v47_2 V0).trans h.f_2
  f_3 := (STEP_main_v47_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The result of the reference: its last stretch at state 4096 of the sequence the step iterates. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v97) = Cert.ReferenceIdeal.Step.R_main_v97 (it c 4096) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have hk := holds_iter m c (it c) (h0 c) (hs c) 4096
    ⟨(h c).1.trans (out_main_v97_holds hk (iter_main_arg0 m c 4096) (iter_main_arg6 m c 4096) (iter_main_arg7 m c 4096) (iter_main_arg8 m c 4096) (iter_main_arg9 m c 4096) (iter_main_arg10 m c 4096) (iter_main_arg11 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.ReferenceIdeal.Iter

end
-- ==== Proof.RecurRef.Steps.lean ====
/- The reference of the recurrence: its states, trip by trip, are the model's. -/
module

public import proofs.«01_k».proof.Proof.Gen.ReferenceIdeal.Step
public import proofs.«01_k».proof.Proof.S5Model
public import Idealize.ShloMosaic.Lib.Pointwise
public import Idealize.ShloMosaic.Lib.DynamicIndex

@[expose] public section

set_option maxRecDepth 16384

noncomputable section

namespace Cert.ReferenceIdeal.Model

open Idealize.ShloMosaic Idealize.ShloMosaic.TcCoe Idealize.SL.Sem Idealize.ShloMosaic.StableHlo
open Cert.ReferenceIdeal Cert.ReferenceIdeal.Gen
open Cert.ReferenceIdeal.Step

/-- A slice of one step, at an index. -/
theorem slice_at (x : S8x4096x16x64.Idx → EReal) (start : Fin 4 → ℤ) (h : S8x4096x16x64.Slices (fun _ => 0) S8x1x16x64) (n : Fin 4096)
    (h0 : start 0 = 0) (h1 : start 1 = n.val) (h2 : start 2 = 0) (h3 : start 3 = 0) (b : Fin 8) (g : Fin 16) (p : Fin 64) :
    Host.dynamicSlice S8x1x16x64 x start h (ix4 (n0 := 8) (n1 := 1) (n2 := 16) (n3 := 64) b 0 g p) = x (ix4 (n0 := 8) (n1 := 4096) (n2 := 16) (n3 := 64) b n g p) := by
  have hs : S8x4096x16x64.Slices ![0, n.val, 0, 0] S8x1x16x64 := ⟨rfl, fun a => by
    have := n.isLt
    match a with
    | ⟨0, _⟩ => show 0 + 8 ≤ 8; omega
    | ⟨1, _⟩ => show n.val + 1 ≤ 4096; omega
    | ⟨2, _⟩ => show 0 + 16 ≤ 16; omega
    | ⟨3, _⟩ => show 0 + 64 ≤ 64; omega⟩
  rw [Host.dynamicSlice_eq_extractStridedSlice S8x1x16x64 x start ![0, n.val, 0, 0] h hs (fun a => by
    match a with
    | ⟨0, _⟩ => exact h0
    | ⟨1, _⟩ => exact h1
    | ⟨2, _⟩ => exact h2
    | ⟨3, _⟩ => exact h3)]
  unfold extractStridedSlice
  congr 1
  funext a
  apply Fin.ext
  match a with
  | ⟨0, _⟩ => show 0 + b.val = b.val; omega
  | ⟨1, _⟩ => show n.val + 0 = n.val; omega
  | ⟨2, _⟩ => show 0 + g.val = g.val; omega
  | ⟨3, _⟩ => show 0 + p.val = p.val; omega

/-- An update of one step, at an index. -/
theorem update_at (x : S8x4096x16x64.Idx → EReal) (upd : S8x1x16x64.Idx → EReal) (start : Fin 4 → ℤ) (h : S8x4096x16x64.Slices (fun _ => 0) S8x1x16x64) (n : Fin 4096)
    (h0 : start 0 = 0) (h1 : start 1 = n.val) (h2 : start 2 = 0) (h3 : start 3 = 0) (b : Fin 8) (t : Fin 4096) (g : Fin 16) (p : Fin 64) :
    Host.dynamicUpdateSlice x upd start h (ix4 (n0 := 8) (n1 := 4096) (n2 := 16) (n3 := 64) b t g p)
      = if t.val = n.val then upd (ix4 (n0 := 8) (n1 := 1) (n2 := 16) (n3 := 64) b 0 g p) else x (ix4 (n0 := 8) (n1 := 4096) (n2 := 16) (n3 := 64) b t g p) := by
  have hs : S8x4096x16x64.Slices ![0, n.val, 0, 0] S8x1x16x64 := ⟨rfl, fun a => by
    have := n.isLt
    match a with
    | ⟨0, _⟩ => show 0 + 8 ≤ 8; omega
    | ⟨1, _⟩ => show n.val + 1 ≤ 4096; omega
    | ⟨2, _⟩ => show 0 + 16 ≤ 16; omega
    | ⟨3, _⟩ => show 0 + 64 ≤ 64; omega⟩
  rw [Host.dynamicUpdateSlice_eq_updateSlice x upd start h ![0, n.val, 0, 0] (fun a => by
    have := n.isLt
    match a with
    | ⟨0, _⟩ => show (min (max (start 0) 0) ((8 - 8 : ℕ) : ℤ)).toNat = 0; rw [h0]; rfl
    | ⟨1, _⟩ => show (min (max (start 1) 0) ((4096 - 1 : ℕ) : ℤ)).toNat = n.val; rw [h1]; omega
    | ⟨2, _⟩ => show (min (max (start 2) 0) ((16 - 16 : ℕ) : ℤ)).toNat = 0; rw [h2]; rfl
    | ⟨3, _⟩ => show (min (max (start 3) 0) ((64 - 64 : ℕ) : ℤ)).toNat = 0; rw [h3]; rfl) hs]
  unfold updateSlice
  by_cases ht : t.val = n.val
  · rw [if_pos ht, dif_pos (fun a => by
      match a with
      | ⟨0, _⟩ => show 0 ≤ b.val ∧ b.val < 0 + 8; omega
      | ⟨1, _⟩ => show n.val ≤ t.val ∧ t.val < n.val + 1; omega
      | ⟨2, _⟩ => show 0 ≤ g.val ∧ g.val < 0 + 16; omega
      | ⟨3, _⟩ => show 0 ≤ p.val ∧ p.val < 0 + 64; omega)]
    congr 1
    funext a
    apply Fin.ext
    match a with
    | ⟨0, _⟩ => show b.val - 0 = b.val; omega
    | ⟨1, _⟩ => show t.val - n.val = 0; omega
    | ⟨2, _⟩ => show g.val - 0 = g.val; omega
    | ⟨3, _⟩ => show p.val - 0 = p.val; omega
  · rw [if_neg ht, dif_neg (fun hin => ht (by
      have h := hin ⟨1, by decide⟩
      have h' : n.val ≤ t.val ∧ t.val < n.val + 1 := h
      omega))]

theorem word_7 (j : ℕ) (hj : j < 4096) (s : State Ideal) (i : S_.Idx) : (b7 j s i).toInt = (j : ℤ) := by
  unfold b7 b3 b2 b6 b4 b5
  exact toInt_wrap_ofNat j (by omega)

theorem word_18 (j : ℕ) (hj : j < 4096) (s : State Ideal) (i : S_.Idx) : (b18 j s i).toInt = (j : ℤ) := by
  unfold b18 b14 b13 b17 b15 b16
  exact toInt_wrap_ofNat j (by omega)

theorem word_46 (j : ℕ) (hj : j < 4096) (s : State Ideal) (i : S_.Idx) : (b46 j s i).toInt = (j : ℤ) := by
  unfold b46 b42 b41 b45 b43 b44
  exact toInt_wrap_ofNat j (by omega)

theorem word_57 (j : ℕ) (hj : j < 4096) (s : State Ideal) (i : S_.Idx) : (b57 j s i).toInt = (j : ℤ) := by
  unfold b57 b53 b52 b56 b54 b55
  exact toInt_wrap_ofNat j (by omega)

variable (j : ℕ) (hj : j < 4096) (s : State Ideal) (b : Fin 8) (t : Fin 4096) (g : Fin 16) (p : Fin 64)

theorem in_re : (b12 j s (ix3 (n0 := 8) (n1 := 16) (n2 := 64) b g p) : EReal) = s.main_v47_0 (ix4 (n0 := 8) (n1 := 4096) (n2 := 16) (n3 := 64) b ⟨j, hj⟩ g p) := by
  have h : (b12 j s (ix3 (n0 := 8) (n1 := 16) (n2 := 64) b g p) : EReal) = b11 j s (ix4 (n0 := 8) (n1 := 1) (n2 := 16) (n3 := 64) b 0 g p) := by
    pointwise [b12]
  refine h.trans ?_
  unfold b11
  exact slice_at _ _ _ ⟨j, hj⟩ (by unfold b8; rfl) (word_7 j hj s _) (by unfold b9; rfl) (by unfold b10; rfl) b g p

theorem in_im : (b23 j s (ix3 (n0 := 8) (n1 := 16) (n2 := 64) b g p) : EReal) = s.main_v47_1 (ix4 (n0 := 8) (n1 := 4096) (n2 := 16) (n3 := 64) b ⟨j, hj⟩ g p) := by
  have h : (b23 j s (ix3 (n0 := 8) (n1 := 16) (n2 := 64) b g p) : EReal) = b22 j s (ix4 (n0 := 8) (n1 := 1) (n2 := 16) (n3 := 64) b 0 g p) := by
    pointwise [b23]
  refine h.trans ?_
  unfold b22
  exact slice_at _ _ _ ⟨j, hj⟩ (by unfold b19; rfl) (word_18 j hj s _) (by unfold b20; rfl) (by unfold b21; rfl) b g p

theorem re_at : (b31 j s (ix3 (n0 := 8) (n1 := 16) (n2 := 64) b g p) : EReal) = s.main_v47_2 (ix2 (n0 := 16) (n1 := 64) g p) * s.main_v47_6 (ix3 (n0 := 8) (n1 := 16) (n2 := 64) b g p) - s.main_v47_3 (ix2 (n0 := 16) (n1 := 64) g p) * s.main_v47_7 (ix3 (n0 := 8) (n1 := 16) (n2 := 64) b g p)
    + s.main_v47_0 (ix4 (n0 := 8) (n1 := 4096) (n2 := 16) (n3 := 64) b ⟨j, hj⟩ g p) := by
  rw [← in_re j hj s b g p]
  pointwise [b31, b30, b29, b28, b27, b26, b25, b24]

theorem im_at : (b39 j s (ix3 (n0 := 8) (n1 := 16) (n2 := 64) b g p) : EReal) = s.main_v47_2 (ix2 (n0 := 16) (n1 := 64) g p) * s.main_v47_7 (ix3 (n0 := 8) (n1 := 16) (n2 := 64) b g p) + s.main_v47_3 (ix2 (n0 := 16) (n1 := 64) g p) * s.main_v47_6 (ix3 (n0 := 8) (n1 := 16) (n2 := 64) b g p)
    + s.main_v47_1 (ix4 (n0 := 8) (n1 := 4096) (n2 := 16) (n3 := 64) b ⟨j, hj⟩ g p) := by
  rw [← in_im j hj s b g p]
  pointwise [b39, b38, b37, b36, b35, b34, b33, b32]

include hj in
theorem put_re : (b50 j s (ix4 (n0 := 8) (n1 := 4096) (n2 := 16) (n3 := 64) b t g p) : EReal) = if t.val = j then b31 j s (ix3 (n0 := 8) (n1 := 16) (n2 := 64) b g p) else s.main_v47_8 (ix4 (n0 := 8) (n1 := 4096) (n2 := 16) (n3 := 64) b t g p) := by
  have h : (b40 j s (ix4 (n0 := 8) (n1 := 1) (n2 := 16) (n3 := 64) b 0 g p) : EReal) = b31 j s (ix3 (n0 := 8) (n1 := 16) (n2 := 64) b g p) := by
    pointwise [b40]
  rw [← h]
  unfold b50
  exact update_at _ _ _ _ ⟨j, hj⟩ (by unfold b47; rfl) (word_46 j hj s _) (by unfold b48; rfl) (by unfold b49; rfl) b t g p

include hj in
theorem put_im : (b61 j s (ix4 (n0 := 8) (n1 := 4096) (n2 := 16) (n3 := 64) b t g p) : EReal) = if t.val = j then b39 j s (ix3 (n0 := 8) (n1 := 16) (n2 := 64) b g p) else s.main_v47_9 (ix4 (n0 := 8) (n1 := 4096) (n2 := 16) (n3 := 64) b t g p) := by
  have h : (b51 j s (ix4 (n0 := 8) (n1 := 1) (n2 := 16) (n3 := 64) b 0 g p) : EReal) = b39 j s (ix3 (n0 := 8) (n1 := 16) (n2 := 64) b g p) := by
    pointwise [b51]
  rw [← h]
  unfold b61
  exact update_at _ _ _ _ ⟨j, hj⟩ (by unfold b58; rfl) (word_57 j hj s _) (by unfold b59; rfl) (by unfold b60; rfl) b t g p

/-- The reference's state after `T` trips, in the model's terms. -/
structure Inv (A : S5Model.Args) (T : ℕ) (s : State Ideal) : Prop where
  re : ∀ (b : Fin 8) (g : Fin 16) (p : Fin 64), (s.main_v47_6 (ix3 (n0 := 8) (n1 := 16) (n2 := 64) b g p) : EReal) = (S5Model.hist A T b g p).1
  im : ∀ (b : Fin 8) (g : Fin 16) (p : Fin 64), (s.main_v47_7 (ix3 (n0 := 8) (n1 := 16) (n2 := 64) b g p) : EReal) = (S5Model.hist A T b g p).2
  hre : ∀ (b : Fin 8) (t : Fin 4096) (g : Fin 16) (p : Fin 64), t.val < T → (s.main_v47_8 (ix4 (n0 := 8) (n1 := 4096) (n2 := 16) (n3 := 64) b t g p) : EReal) = (S5Model.hist A (t.val + 1) b g p).1
  him : ∀ (b : Fin 8) (t : Fin 4096) (g : Fin 16) (p : Fin 64), t.val < T → (s.main_v47_9 (ix4 (n0 := 8) (n1 := 4096) (n2 := 16) (n3 := 64) b t g p) : EReal) = (S5Model.hist A (t.val + 1) b g p).2
  xre : ∀ (b : Fin 8) (t : Fin 4096) (g : Fin 16) (p : Fin 64), (s.main_v47_0 (ix4 (n0 := 8) (n1 := 4096) (n2 := 16) (n3 := 64) b t g p) : EReal) = S5Model.xRe A b t g p
  xim : ∀ (b : Fin 8) (t : Fin 4096) (g : Fin 16) (p : Fin 64), (s.main_v47_1 (ix4 (n0 := 8) (n1 := 4096) (n2 := 16) (n3 := 64) b t g p) : EReal) = S5Model.xIm A b t g p
  are : ∀ (g : Fin 16) (p : Fin 64), (s.main_v47_2 (ix2 (n0 := 16) (n1 := 64) g p) : EReal) = S5Model.abRe A g p
  aim : ∀ (g : Fin 16) (p : Fin 64), (s.main_v47_3 (ix2 (n0 := 16) (n1 := 64) g p) : EReal) = S5Model.abIm A g p

/-- One trip is one step of the model. -/
theorem inv_step (A : S5Model.Args) (T : ℕ) (hT : T < 4096) (s : State Ideal) (H : Inv A T s) : Inv A (T + 1) (step T s) := by
  have hh : ∀ (b : Fin 8) (g : Fin 16) (p : Fin 64), S5Model.hist A (T + 1) b g p =
      (S5Model.abRe A g p * (S5Model.hist A T b g p).1 - S5Model.abIm A g p * (S5Model.hist A T b g p).2 + S5Model.xRe A b ⟨T, hT⟩ g p,
       S5Model.abRe A g p * (S5Model.hist A T b g p).2 + S5Model.abIm A g p * (S5Model.hist A T b g p).1 + S5Model.xIm A b ⟨T, hT⟩ g p) :=
    fun b g p => dif_pos hT
  have ere : ∀ (b : Fin 8) (g : Fin 16) (p : Fin 64), (b31 T s (ix3 (n0 := 8) (n1 := 16) (n2 := 64) b g p) : EReal) = (S5Model.hist A (T + 1) b g p).1 := fun b g p => by
    rw [hh, re_at T hT, H.are, H.aim, H.re, H.im, H.xre]
  have eim : ∀ (b : Fin 8) (g : Fin 16) (p : Fin 64), (b39 T s (ix3 (n0 := 8) (n1 := 16) (n2 := 64) b g p) : EReal) = (S5Model.hist A (T + 1) b g p).2 := fun b g p => by
    rw [hh, im_at T hT, H.are, H.aim, H.re, H.im, H.xim]
  refine ⟨fun b g p => ?_, fun b g p => ?_, fun b t g p ht => ?_, fun b t g p ht => ?_, H.xre, H.xim, H.are, H.aim⟩
  · rw [step_main_v47_6]; exact ere b g p
  · rw [step_main_v47_7]; exact eim b g p
  · rw [step_main_v47_8, put_re T hT]
    by_cases h : t.val = T
    · rw [if_pos h, h]; exact ere b g p
    · rw [if_neg h]; exact H.hre b t g p (by omega)
  · rw [step_main_v47_9, put_im T hT]
    by_cases h : t.val = T
    · rw [if_pos h, h]; exact eim b g p
    · rw [if_neg h]; exact H.him b t g p (by omega)

variable (a0 : (⟨S8x4096x256, .f32⟩ : BufTy).Contents (Elt Ideal)) (a1 a2 : (⟨S16x64, .f32⟩ : BufTy).Contents (Elt Ideal)) (a3 : (⟨S16, .f32⟩ : BufTy).Contents (Elt Ideal))
  (a4 a5 : (⟨S16x64x16, .f32⟩ : BufTy).Contents (Elt Ideal)) (a6 a7 : (⟨S16x16x64, .f32⟩ : BufTy).Contents (Elt Ideal)) (a8 : (⟨S16x16, .f32⟩ : BufTy).Contents (Elt Ideal))
  (a9 : (⟨S256x256, .f32⟩ : BufTy).Contents (Elt Ideal)) (a10 a11 : (⟨S256, .f32⟩ : BufTy).Contents (Elt Ideal))

theorem are_at : (A_main_v9 a0 a1 a2 a3 a4 a5 (ix2 (n0 := 16) (n1 := 64) g p) : EReal) = S5Model.abRe (S5Model.argsOf a0 a1 a2 a3 a4 a5 a6 a7 a8 a9 a10 a11) g p := by
  unfold S5Model.abRe S5Model.argsOf
  pointwise [A_main_v9, A_main_v8, A_main_v7, A_main_v6, A_main_v5, A_main_v4, A_main_v3, A_main_v2, A_main_v1]
  try rfl

theorem aim_at : (A_main_v13 a0 a1 a2 a3 a4 a5 (ix2 (n0 := 16) (n1 := 64) g p) : EReal) = S5Model.abIm (S5Model.argsOf a0 a1 a2 a3 a4 a5 a6 a7 a8 a9 a10 a11) g p := by
  unfold S5Model.abIm S5Model.argsOf
  pointwise [A_main_v13, A_main_v12, A_main_v11, A_main_v10, A_main_v5, A_main_v4, A_main_v3, A_main_v2, A_main_v1]
  try rfl

theorem fre_at : (A_main_v22 a0 a1 a2 a3 a4 a5 (ix2 (n0 := 16) (n1 := 64) g p) : EReal) = S5Model.fRe (S5Model.argsOf a0 a1 a2 a3 a4 a5 a6 a7 a8 a9 a10 a11) g p := by
  unfold S5Model.fRe S5Model.den
  rw [← are_at, ← aim_at]
  unfold S5Model.argsOf
  pointwise [A_main_v22, A_main_v21, A_main_v20, A_main_v19, A_main_v18, A_main_v17, A_main_v16, A_main_v15, K_main_v14, K_main_cst]
  try rfl

theorem fim_at : (A_main_v26 a0 a1 a2 a3 a4 a5 (ix2 (n0 := 16) (n1 := 64) g p) : EReal) = S5Model.fIm (S5Model.argsOf a0 a1 a2 a3 a4 a5 a6 a7 a8 a9 a10 a11) g p := by
  unfold S5Model.fIm S5Model.den
  rw [← are_at, ← aim_at]
  unfold S5Model.argsOf
  pointwise [A_main_v26, A_main_v25, A_main_v24, A_main_v23, A_main_v18, A_main_v17, A_main_v16, A_main_v15, K_main_v14, K_main_cst]
  try rfl

theorem bre_at (c : Fin 16) : (A_main_v33 a0 a1 a2 a3 a4 a5 (ix3 (n0 := 16) (n1 := 64) (n2 := 16) g p c) : EReal) = S5Model.bbRe (S5Model.argsOf a0 a1 a2 a3 a4 a5 a6 a7 a8 a9 a10 a11) g p c := by
  unfold S5Model.bbRe
  rw [← fre_at, ← fim_at]
  unfold S5Model.argsOf
  pointwise [A_main_v33, A_main_v32, A_main_v31, A_main_v30, A_main_v29, A_main_v28, A_main_v27]
  try rfl

theorem bim_at (c : Fin 16) : (A_main_v40 a0 a1 a2 a3 a4 a5 (ix3 (n0 := 16) (n1 := 64) (n2 := 16) g p c) : EReal) = S5Model.bbIm (S5Model.argsOf a0 a1 a2 a3 a4 a5 a6 a7 a8 a9 a10 a11) g p c := by
  unfold S5Model.bbIm
  rw [← fre_at, ← fim_at]
  unfold S5Model.argsOf
  pointwise [A_main_v40, A_main_v39, A_main_v38, A_main_v37, A_main_v36, A_main_v35, A_main_v34]
  try rfl

theorem xre_at : (A_main_v42 a0 a1 a2 a3 a4 a5 (ix4 (n0 := 8) (n1 := 4096) (n2 := 16) (n3 := 64) b t g p) : EReal) = S5Model.xRe (S5Model.argsOf a0 a1 a2 a3 a4 a5 a6 a7 a8 a9 a10 a11) b t g p := by
  unfold S5Model.xRe
  simp only [← bre_at]
  unfold S5Model.argsOf S5Model.chan
  pointwise [A_main_v42, A_main_v41, A_main_v0]
  have e : ∀ x : Fin 16, (⟨g.val * 16 + x.val, by omega⟩ : Fin 256) = ⟨16 * g.val + x.val, by omega⟩ := fun x => Fin.ext (by show g.val * 16 + x.val = 16 * g.val + x.val; omega)
  simp only [e]

theorem xim_at : (A_main_v44 a0 a1 a2 a3 a4 a5 (ix4 (n0 := 8) (n1 := 4096) (n2 := 16) (n3 := 64) b t g p) : EReal) = S5Model.xIm (S5Model.argsOf a0 a1 a2 a3 a4 a5 a6 a7 a8 a9 a10 a11) b t g p := by
  unfold S5Model.xIm
  simp only [← bim_at]
  unfold S5Model.argsOf S5Model.chan
  pointwise [A_main_v44, A_main_v43, A_main_v0]
  have e : ∀ x : Fin 16, (⟨g.val * 16 + x.val, by omega⟩ : Fin 256) = ⟨16 * g.val + x.val, by omega⟩ := fun x => Fin.ext (by show g.val * 16 + x.val = 16 * g.val + x.val; omega)
  simp only [e]

theorem inv_init : Inv (S5Model.argsOf a0 a1 a2 a3 a4 a5 a6 a7 a8 a9 a10 a11) 0 (init a0 a1 a2 a3 a4 a5) where
  re b g p := by
    refine Eq.trans ?_ Ideal.ofBits_zero_f32
    rfl
  im b g p := by
    refine Eq.trans ?_ Ideal.ofBits_zero_f32
    rfl
  hre b t g p h := absurd h (Nat.not_lt_zero _)
  him b t g p h := absurd h (Nat.not_lt_zero _)
  xre b t g p := xre_at b t g p ..
  xim b t g p := xim_at b t g p ..
  are g p := are_at g p ..
  aim g p := aim_at g p ..

end Cert.ReferenceIdeal.Model

end
-- ==== Proof.RecurRef.Tail.lean ====
/- The reference of the recurrence: what follows its states, and its result, are the model's. -/
module

public import proofs.«01_k».proof.Proof.Gen.ReferenceIdeal.Step
public import proofs.«01_k».proof.Proof.S5Model
public import Idealize.ShloMosaic.Lib.Pointwise
public import proofs.«01_k».proof.Proof.RecurRef.Steps

@[expose] public section

set_option maxRecDepth 16384

noncomputable section

namespace Cert.ReferenceIdeal.Model

open Idealize.ShloMosaic Idealize.ShloMosaic.TcCoe Idealize.SL.Sem Idealize.ShloMosaic.StableHlo
open Cert.ReferenceIdeal Cert.ReferenceIdeal.Gen
open Cert.ReferenceIdeal.Step

variable {F : FTy → Type} [FloatOps F]

def preArr (s : State F) (main_arg0 : (⟨S8x4096x256, .f32⟩ : BufTy).Contents (Elt F)) (main_arg6 main_arg7 : (⟨S16x16x64, .f32⟩ : BufTy).Contents (Elt F)) (main_arg8 : (⟨S16x16, .f32⟩ : BufTy).Contents (Elt F)) : (⟨S8x4096x256, .f32⟩ : BufTy).Contents (Elt F) :=
  addf (shapeCast _ (addf (transpose S8x4096x16x16 [2, 3, 0, 1] (Host.dotGeneral dot_S16x16x64_S8x4096x16x64_S16x16x8x4096_2_3_1_01_0_2 none (main_arg6) (s.main_v47_8)) transposes_S16x16x8x4096_S8x4096x16x16_2_3_0_1) (transpose S8x4096x16x16 [2, 3, 0, 1] (Host.dotGeneral dot_S16x16x64_S8x4096x16x64_S16x16x8x4096_2_3_1_01_0_2 none (Host.negf (main_arg7)) (s.main_v47_9)) transposes_S16x16x8x4096_S8x4096x16x16_2_3_0_1)) shapeCasts_S8x4096x16x16_S8x4096x256) (mulf (broadcastInDim S8x4096x256 ![0, 1, 2] bcast_S1x1x256_S8x4096x256_0_1_2 (broadcastInDim S1x1x256 ![2] bcast_S256_S1x1x256_2 (shapeCast _ (main_arg8) shapeCasts_S16x16_S256))) (main_arg0))

def actArr (p : (⟨S8x4096x256, .f32⟩ : BufTy).Contents (Elt F)) : (⟨S8x4096x256, .f32⟩ : BufTy).Contents (Elt F) :=
  mulf p (mulf (broadcastInDim S8x4096x256 ![] bcast_S_S8x4096x256 (constant S_ .f32 0x3F000000#32)) (addf (broadcastInDim S8x4096x256 ![] bcast_S_S8x4096x256 (constant S_ .f32 0x3F800000#32)) (Host.tanh (mulf (broadcastInDim S8x4096x256 ![] bcast_S_S8x4096x256 (constant S_ .f32 0x3F4C422A#32)) (addf p (mulf (broadcastInDim S8x4096x256 ![] bcast_S_S8x4096x256 (constant S_ .f32 0x3D372713#32)) (mulf (mulf p p) p)))))))

def gateArr (z : (⟨S8x4096x256, .f32⟩ : BufTy).Contents (Elt F)) (main_arg9 : (⟨S256x256, .f32⟩ : BufTy).Contents (Elt F)) (main_arg10 : (⟨S256, .f32⟩ : BufTy).Contents (Elt F)) : (⟨S8x4096x256, .f32⟩ : BufTy).Contents (Elt F) :=
  mulf z (Host.divf (broadcastInDim S8x4096x256 ![] bcast_S_S8x4096x256 (constant S_ .f32 0x3F800000#32)) (addf (broadcastInDim S8x4096x256 ![] bcast_S_S8x4096x256 (constant S_ .f32 0x3F800000#32)) (Host.exp (Host.negf (addf (Host.dotGeneral dot_S8x4096x256_S256x256_S8x4096x256_2_0_01_1_n_n none z (main_arg9)) (broadcastInDim S8x4096x256 ![0, 1, 2] bcast_S1x1x256_S8x4096x256_0_1_2 (broadcastInDim S1x1x256 ![2] bcast_S256_S1x1x256_2 (main_arg10))))))))

def nrmArr (q : (⟨S8x4096x256, .f32⟩ : BufTy).Contents (Elt F)) (main_arg11 : (⟨S256, .f32⟩ : BufTy).Contents (Elt F)) : (⟨S8x4096x256, .bf16⟩ : BufTy).Contents (Elt F) :=
  truncf .bf16 (mulf (mulf q (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf q q) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32)))))) (broadcastInDim S8x4096x256 ![0, 1, 2] bcast_S1x1x256_S8x4096x256_0_1_2 (broadcastInDim S1x1x256 ![2] bcast_S256_S1x1x256_2 (main_arg11)))) bitsLt_bf16_f32

theorem result_eq (s : State F) (main_arg0 : (⟨S8x4096x256, .f32⟩ : BufTy).Contents (Elt F)) (main_arg6 main_arg7 : (⟨S16x16x64, .f32⟩ : BufTy).Contents (Elt F)) (main_arg8 : (⟨S16x16, .f32⟩ : BufTy).Contents (Elt F))
    (main_arg9 : (⟨S256x256, .f32⟩ : BufTy).Contents (Elt F)) (main_arg10 main_arg11 : (⟨S256, .f32⟩ : BufTy).Contents (Elt F)) :
    R_main_v97 s main_arg0 main_arg6 main_arg7 main_arg8 main_arg9 main_arg10 main_arg11
      = nrmArr (gateArr (actArr (preArr s main_arg0 main_arg6 main_arg7 main_arg8)) main_arg9 main_arg10) main_arg11 := by
  unfold R_main_v97 nrmArr gateArr actArr preArr
  rfl

variable (b : Fin 8) (t : Fin 4096) (n : Fin 256)
variable (a0 : (⟨S8x4096x256, .f32⟩ : BufTy).Contents (Elt Ideal)) (a1 a2 : (⟨S16x64, .f32⟩ : BufTy).Contents (Elt Ideal)) (a3 : (⟨S16, .f32⟩ : BufTy).Contents (Elt Ideal))
  (a4 a5 : (⟨S16x64x16, .f32⟩ : BufTy).Contents (Elt Ideal)) (a6 a7 : (⟨S16x16x64, .f32⟩ : BufTy).Contents (Elt Ideal)) (a8 : (⟨S16x16, .f32⟩ : BufTy).Contents (Elt Ideal))
  (a9 : (⟨S256x256, .f32⟩ : BufTy).Contents (Elt Ideal)) (a10 a11 : (⟨S256, .f32⟩ : BufTy).Contents (Elt Ideal))

theorem pre_sum (s : State Ideal) : (preArr s a0 a6 a7 a8 (ix3 (n0 := 8) (n1 := 4096) (n2 := 256) b t n) : EReal)
    = (∑ p : Fin 64, a6 (ix3 (n0 := 16) (n1 := 16) (n2 := 64) ⟨n.val / 16, by omega⟩ ⟨n.val % 16, by omega⟩ p) * s.main_v47_8 (ix4 (n0 := 8) (n1 := 4096) (n2 := 16) (n3 := 64) b t ⟨n.val / 16, by omega⟩ p))
      + (∑ p : Fin 64, (-(a7 (ix3 (n0 := 16) (n1 := 16) (n2 := 64) ⟨n.val / 16, by omega⟩ ⟨n.val % 16, by omega⟩ p) : EReal)) * s.main_v47_9 (ix4 (n0 := 8) (n1 := 4096) (n2 := 16) (n3 := 64) b t ⟨n.val / 16, by omega⟩ p))
      + a8 (ix2 (n0 := 16) (n1 := 16) ⟨n.val / 16, by omega⟩ ⟨n.val % 16, by omega⟩) * a0 (ix3 (n0 := 8) (n1 := 4096) (n2 := 256) b t n) := by
  pointwise [preArr]
  try rfl

theorem act_at (p : (⟨S8x4096x256, .f32⟩ : BufTy).Contents (Elt Ideal)) : (actArr p (ix3 (n0 := 8) (n1 := 4096) (n2 := 256) b t n) : EReal) = S5Model.act (p (ix3 (n0 := 8) (n1 := 4096) (n2 := 256) b t n)) := by
  unfold S5Model.act
  rw [mul_comm (Ideal.ofBits .f32 0x3F000000#32), mul_assoc]
  pointwise [actArr]
  try rfl

theorem gate_at (z : (⟨S8x4096x256, .f32⟩ : BufTy).Contents (Elt Ideal)) : (gateArr z a9 a10 (ix3 (n0 := 8) (n1 := 4096) (n2 := 256) b t n) : EReal)
    = z (ix3 (n0 := 8) (n1 := 4096) (n2 := 256) b t n) * Ideal.div 1 (1 + Ideal.exp (-(∑ k : Fin 256, (z (ix3 (n0 := 8) (n1 := 4096) (n2 := 256) b t k) : EReal) * a9 (ix2 (n0 := 256) (n1 := 256) k n) + a10 (ix1 (n0 := 256) n)))) := by
  pointwise [gateArr]
  try rfl

theorem nrm_at (q : (⟨S8x4096x256, .f32⟩ : BufTy).Contents (Elt Ideal)) : (nrmArr q a11 (ix3 (n0 := 8) (n1 := 4096) (n2 := 256) b t n) : EReal)
    = S5Model.nrm (fun k => q (ix3 (n0 := 8) (n1 := 4096) (n2 := 256) b t k)) (fun k => a11 (ix1 (n0 := 256) k)) n := by
  unfold S5Model.nrm
  pointwise [nrmArr]
  try rfl

/-- The reference's result is the model's. -/
theorem result_at (s : State Ideal) (H : Inv (S5Model.argsOf a0 a1 a2 a3 a4 a5 a6 a7 a8 a9 a10 a11) 4096 s) :
    (R_main_v97 s a0 a6 a7 a8 a9 a10 a11 (ix3 (n0 := 8) (n1 := 4096) (n2 := 256) b t n) : EReal)
      = S5Model.out (S5Model.argsOf a0 a1 a2 a3 a4 a5 a6 a7 a8 a9 a10 a11) b t n := by
  have hp : ∀ k, (preArr s a0 a6 a7 a8 (ix3 (n0 := 8) (n1 := 4096) (n2 := 256) b t k) : EReal) = S5Model.pre (S5Model.argsOf a0 a1 a2 a3 a4 a5 a6 a7 a8 a9 a10 a11) b t k := fun k => by
    rw [pre_sum]
    simp only [H.hre _ _ _ _ t.isLt, H.him _ _ _ _ t.isLt]
    rfl
  have hg : ∀ k, (gateArr (actArr (preArr s a0 a6 a7 a8)) a9 a10 (ix3 (n0 := 8) (n1 := 4096) (n2 := 256) b t k) : EReal)
      = S5Model.gate (S5Model.pre (S5Model.argsOf a0 a1 a2 a3 a4 a5 a6 a7 a8 a9 a10 a11) b t) (S5Model.argsOf a0 a1 a2 a3 a4 a5 a6 a7 a8 a9 a10 a11).wg (S5Model.argsOf a0 a1 a2 a3 a4 a5 a6 a7 a8 a9 a10 a11).bg k := fun k => by
    rw [gate_at]
    simp only [act_at, hp]
    rfl
  rw [result_eq, nrm_at]
  simp only [hg]
  rfl

end Cert.ReferenceIdeal.Model

end
-- ==== Proof.RecurClaims.lean ====
/- The claims about the recurrence's call: the reference's frame, and the equality of the two results. -/
module

public import proofs.«01_k».proof.Defs
public import proofs.«01_k».proof.Proof.RecurIdeal.Value
public import proofs.«01_k».proof.Proof.RecurRef.Iter
public import proofs.«01_k».proof.Proof.RecurRef.Tail
public import Idealize.ShloMosaic.Lib.Quiescent

@[expose] public section

set_option maxRecDepth 16384

noncomputable section

namespace Cert.Recur

open Idealize.ShloMosaic Idealize.ShloMosaic.TcCoe Idealize.SL.Sem
open Cert.ReferenceIdeal.Step Cert.ReferenceIdeal.Iter Cert.ReferenceIdeal.Model

/-- The reference's frame. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (run_iter m ρ (fun c n => Nat.rec (initState m c) (fun k s => step k s) n) (fun _ => rfl) (fun _ _ => rfl))

/-- The reference's states, from the first. -/
def states (m : (ℓ : Loc Cert.ReferenceIdeal.nD Cert.ReferenceIdeal.τ Cert.ReferenceIdeal.sig) → Buf (Elt Ideal) ℓ) (c : Dev Cert.ReferenceIdeal.nD) (n : ℕ) :
    State Ideal := Nat.rec (initState m c) (fun k s => step k s) n

/-- The arguments of a run of the reference. -/
def argsR (m : (ℓ : Loc Cert.ReferenceIdeal.nD Cert.ReferenceIdeal.τ Cert.ReferenceIdeal.sig) → Buf (Elt Ideal) ℓ) (c : Dev Cert.ReferenceIdeal.nD) : S5Model.Args :=
  S5Model.argsOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))

theorem inv_states (m : (ℓ : Loc Cert.ReferenceIdeal.nD Cert.ReferenceIdeal.τ Cert.ReferenceIdeal.sig) → Buf (Elt Ideal) ℓ) (c : Dev Cert.ReferenceIdeal.nD) :
    ∀ T, T ≤ 4096 → Inv (argsR m c) T (states m c T)
  | 0, _ => inv_init _ _ _ _ _ _ _ _ _ _ _ _
  | T + 1, h => inv_step (argsR m c) T (by omega) (states m c T) (inv_states m c T (by omega))

/-- The two results are one. -/
theorem algebraic : Cert.algebraic_KernelIdeal_ReferenceIdeal := by
  intro m ρ m' ρ' _ hag
  refine ⟨fun c => Cert.KernelIdeal.Recur.result m c, Cert.KernelIdeal.Recur.run m ρ, ?_⟩
  refine (θ_run Cert.ReferenceIdeal.defs _ _).mono (fun _ h c => ⟨(h c).1.trans ?_, (h c).2⟩)
    (run_iter m' ρ' (states m') (fun _ => rfl) (fun _ _ => rfl))
  have ha : argsR m' c = Cert.KernelIdeal.Recur.argsK m c := by
    obtain ⟨e0, e1, e2, e3, e4, e5, e6, e7, e8, e9, e10, e11⟩ := hag c
    unfold argsR Cert.KernelIdeal.Recur.argsK
    rw [e0, e1, e2, e3, e4, e5, e6, e7, e8, e9, e10, e11]
  funext y
  refine Eq.trans ?_ (congrArg (fun A => S5Model.out A (y 0) (y 1) (y 2)) ha)
  refine Eq.trans ?_ (result_at (y 0) (y 1) (y 2) _ _ _ _ _ _ _ _ _ _ _ _ (states m' c 4096) (inv_states m' c 4096 (le_refl _)))
  exact congrArg _ (eq_ix3 y)

end Cert.Recur

end
-- ==== Proof.MixModel.lean ====
/- The output projection with the gated feed-forward part as formulas, one token's row at a time. -/
module

public import Idealize.ShloMosaic.Lib.Pointwise

@[expose] public section

noncomputable section

namespace Cert.MixModel

open Idealize.ShloMosaic

/-- A layer's weights, by index. -/
structure Weights where
  ga : Fin 512 → EReal
  wo : Fin 1024 → Fin 1024 → EReal
  gf : Fin 1024 → EReal
  wgu : Fin 1024 → Fin 5632 → EReal
  wd : Fin 2816 → Fin 1024 → EReal
  gfin : Fin 1024 → EReal

/-- One token's inputs: the three branches' rows and the residual row. -/
structure Row where
  a : Fin 512 → EReal
  s : Fin 256 → EReal
  c : Fin 256 → EReal
  h : Fin 1024 → EReal

/-- The weights of layer `l`, out of the stacks. -/
def weightsAt (l : Fin 2) (x4 : (⟨2, ![2, 512]⟩ : Shape).Idx → EReal) (x5 : (⟨3, ![2, 1024, 1024]⟩ : Shape).Idx → EReal) (x6 : (⟨2, ![2, 1024]⟩ : Shape).Idx → EReal)
    (x7 : (⟨3, ![2, 1024, 5632]⟩ : Shape).Idx → EReal) (x8 : (⟨3, ![2, 2816, 1024]⟩ : Shape).Idx → EReal) (x9 : (⟨1, ![1024]⟩ : Shape).Idx → EReal) : Weights where
  ga k := x4 (ix2 l k)
  wo k n := x5 (ix3 l k n)
  gf k := x6 (ix2 l k)
  wgu k n := x7 (ix3 l k n)
  wd k n := x8 (ix3 l k n)
  gfin k := x9 (ix1 k)

/-- The row of token `s` of sequence `b`. -/
def rowAt (x0 : (⟨3, ![8, 4096, 512]⟩ : Shape).Idx → EReal) (x1 x2 : (⟨3, ![8, 4096, 256]⟩ : Shape).Idx → EReal) (x3 : (⟨3, ![8, 4096, 1024]⟩ : Shape).Idx → EReal)
    (b : Fin 8) (s : Fin 4096) : Row where
  a k := x0 (ix3 b s k)
  s k := x1 (ix3 b s k)
  c k := x2 (ix3 b s k)
  h k := x3 (ix3 b s k)

variable (W : Weights) (R : Row)

/-- The attention's row over the root of its mean square, times the gains. -/
def normed (k : Fin 512) : EReal :=
  R.a k * Ideal.rsqrt (Ideal.div (∑ j : Fin 512, R.a j * R.a j) (Ideal.ofBits .f32 0x44000000#32) + Ideal.ofBits .f32 0x358637BD#32) * W.ga k

/-- The three branches side by side. -/
def mixed (k : Fin 1024) : EReal :=
  if h : k.val < 512 then normed W R ⟨k.val, h⟩
  else if h' : k.val - 512 < 256 then R.s ⟨k.val - 512, h'⟩
  else R.c ⟨k.val - 512 - 256, by omega⟩

/-- The row after the output projection. -/
def h1 (n : Fin 1024) : EReal := R.h n + ∑ k : Fin 1024, mixed W R k * W.wo k n

/-- A row over the root of its mean square, times gains. -/
def nrm (x g : Fin 1024 → EReal) (n : Fin 1024) : EReal :=
  x n * Ideal.rsqrt (Ideal.div (∑ k : Fin 1024, x k * x k) (Ideal.ofBits .f32 0x44800000#32) + Ideal.ofBits .f32 0x358637BD#32) * g n

def hn (n : Fin 1024) : EReal := nrm (h1 W R) W.gf n

/-- A gated value of the two products. -/
def gated (g u : EReal) : EReal := g * Ideal.div 1 (1 + Ideal.exp (-g)) * u

def act (j : Fin 2816) : EReal :=
  gated (∑ k : Fin 1024, hn W R k * W.wgu k ⟨j.val, by omega⟩) (∑ k : Fin 1024, hn W R k * W.wgu k ⟨2816 + j.val, by omega⟩)

def h2 (n : Fin 1024) : EReal := h1 W R n + ∑ j : Fin 2816, act W R j * W.wd j n

/-- The result row. -/
def out (n : Fin 1024) : EReal := nrm (h2 W R) W.gfin n

end Cert.MixModel

end
-- ==== Proof.MixIdeal.Math.lean ====
/- What the kernel's values are at an index, from the blocks it reads. -/
module

public import proofs.«01_k».proof.Proof.Gen.Kernel2Ideal.Frame
public import proofs.«01_k».proof.Proof.MixModel
public import Idealize.ShloMosaic.Lib.Pointwise

@[expose] public section

set_option maxRecDepth 16384

noncomputable section

namespace Cert.Kernel2Ideal.Mix

open Cert.Kernel2Ideal Cert.Kernel2Ideal.Gen
open Idealize.ShloMosaic

/-- One row of a point's blocks. -/
def rowOf (x0 : Vec Ideal S1x1024x512 .bf16) (x1 x2 : Vec Ideal S1x1024x256 .bf16) (x3 : Vec Ideal S1x1024x1024 .f32) (r : Fin 1024) : MixModel.Row where
  a k := x0 (ix3 (n0 := 1) (n1 := 1024) (n2 := 512) 0 r k)
  s k := x1 (ix3 (n0 := 1) (n1 := 1024) (n2 := 256) 0 r k)
  c k := x2 (ix3 (n0 := 1) (n1 := 1024) (n2 := 256) 0 r k)
  h k := x3 (ix3 (n0 := 1) (n1 := 1024) (n2 := 1024) 0 r k)

/-- The weights of a point's blocks. -/
def weightsOf (x4 : Vec Ideal S1x512 .f32) (x5 : Vec Ideal S1x1024x1024 .bf16) (x6 : Vec Ideal S1x1024 .f32) (x7 : Vec Ideal S1x1024x5632 .bf16)
    (x8 : Vec Ideal S1x2816x1024 .bf16) (x9 : Vec Ideal S1x1024 .f32) : MixModel.Weights where
  ga k := x4 (ix2 (n0 := 1) (n1 := 512) 0 k)
  wo k n := x5 (ix3 (n0 := 1) (n1 := 1024) (n2 := 1024) 0 k n)
  gf k := x6 (ix2 (n0 := 1) (n1 := 1024) 0 k)
  wgu k n := x7 (ix3 (n0 := 1) (n1 := 1024) (n2 := 5632) 0 k n)
  wd k n := x8 (ix3 (n0 := 1) (n1 := 2816) (n2 := 1024) 0 k n)
  gfin k := x9 (ix2 (n0 := 1) (n1 := 1024) 0 k)

section Payloads

variable {F : FTy → Type} [FloatOps F]

/-- The attention's rows normed. -/
def normArr (v0 : Vec F S1x1024x512 .bf16) (v3 : Vec F S1x512 .f32) : FVec F S1024x512 .bf16 :=
  truncf .bf16 (mulf (mulf (extf .f32 (shapeCast S1024x512 v0 shapeCasts_S1x1024x512_S1024x512) bitsLt_bf16_f32) (broadcastTo S1024x512 (rsqrt (addf (divf (shapeCast S1024x1 (multiReduction .add [1] S1024 (mulf (extf .f32 (shapeCast S1024x512 v0 shapeCasts_S1x1024x512_S1024x512) bitsLt_bf16_f32) (extf .f32 (shapeCast S1024x512 v0 shapeCasts_S1x1024x512_S1024x512) bitsLt_bf16_f32)) 0x00000000#32 reduces_S1024x512_S1024 (.inl rfl) rfl) shapeCasts_S1024_S1024x1) (broadcast S1024x1 (Scalar.ofBits .f32 0x44000000#32))) (broadcast S1024x1 (Scalar.ofBits .f32 0x358637BD#32)))) broadcasts_S1024x1_S1024x512)) (broadcastTo S1024x512 (shapeCast S1x512 v3 shapeCasts_S1x512_S1x512) broadcasts_S1x512_S1024x512)) bitsLt_bf16_f32

/-- The branches side by side. -/
def mixArr (an : FVec F S1024x512 .bf16) (v18 v20 : Vec F S1x1024x256 .bf16) : FVec F S1024x1024 .bf16 :=
  concatenate S1024x1024 1 [⟨S1024x512, an⟩, ⟨S1024x256, shapeCast S1024x256 v18 shapeCasts_S1x1024x256_S1024x256⟩, ⟨S1024x256, shapeCast S1024x256 v20 shapeCasts_S1x1024x256_S1024x256⟩] concatenates_S1024x512_S1024x256_S1024x256_S1024x1024_d1

def h1Arr (mx : FVec F S1024x1024 .bf16) (v23 : Vec F S1x1024x1024 .f32) (v25 : Vec F S1x1024x1024 .bf16) : FVec F S1024x1024 .f32 :=
  addf (shapeCast S1024x1024 v23 shapeCasts_S1x1024x1024_S1024x1024) (matmul dot_S1024x1024_S1024x1024_S1024x1024_1_0_0_1_n_n none mx (shapeCast S1024x1024 v25 shapeCasts_S1x1024x1024_S1024x1024) (constant S1024x1024 .f32 0x00000000#32))

theorem pay3_eq (v0 : Vec F S1x1024x512 .bf16) (v3 : Vec F S1x512 .f32) (v18 v20 : Vec F S1x1024x256 .bf16) (v23 : Vec F S1x1024x1024 .f32) (v25 : Vec F S1x1024x1024 .bf16) :
    k0_pay3 v0 v3 v18 v20 v23 v25 = h1Arr (mixArr (normArr v0 v3) v18 v20) v23 v25 := by
  unfold k0_pay3 h1Arr mixArr normArr
  rfl

/-- A product with a block of columns. -/
def colsArr (v43 : FVec F S1024x1024 .bf16) (w : Vec F S1x1024x256 .bf16) : FVec F S1024x256 .f32 :=
  matmul dot_S1024x1024_S1024x256_S1024x256_1_0_0_1_n_n none v43 (shapeCast S1024x256 w shapeCasts_S1x1024x256_S1024x256) (constant S1024x256 .f32 0x00000000#32)

/-- A gated block. -/
def gatedArr (g u : FVec F S1024x256 .f32) : FVec F S1024x256 .bf16 :=
  shapeCast S1024x256 (truncf .bf16 (mulf (mulf g (divf (broadcast S1024x256 (Scalar.ofBits .f32 0x3F800000#32)) (addf (broadcast S1024x256 (Scalar.ofBits .f32 0x3F800000#32)) (exp (subf (broadcast S1024x256 (Scalar.ofBits .f32 0x00000000#32)) g))))) u) bitsLt_bf16_f32) shapeCasts_S1024x256_S1024x256

variable (v28 : FVec F S1024x1024 .f32) (v30 : FVec F S1x1024 .f32) (v33 : FVec F S1024x1 .f32) (z : FVec F S1024x1024 .bf16) (a b : Vec F S1x1024x256 .bf16)

theorem pay7_eq : k0_pay7 v28 v30 v33 a b = gatedArr (colsArr (k0_pay6 v28 v30 v33) a) (colsArr (k0_pay6 v28 v30 v33) b) := by
  unfold k0_pay7 gatedArr colsArr; rfl
theorem pay10_eq : k0_pay10 (k0_pay8 v28 v30 v33 a) (k0_pay9 v28 v30 v33 b) (Scalar.ofBits .f32 0x00000000#32) = gatedArr (colsArr (k0_pay6 v28 v30 v33) a) (colsArr (k0_pay6 v28 v30 v33) b) := by
  unfold k0_pay10 k0_pay8 k0_pay9 gatedArr colsArr; rfl
theorem pay11_eq : k0_pay11 z a b = gatedArr (colsArr z a) (colsArr z b) := by unfold k0_pay11 gatedArr colsArr; rfl
theorem pay13_eq : k0_pay13 z (k0_pay12 z a) b = gatedArr (colsArr z a) (colsArr z b) := by unfold k0_pay13 k0_pay12 gatedArr colsArr; rfl
theorem pay14_eq : k0_pay14 z a b = gatedArr (colsArr z a) (colsArr z b) := by unfold k0_pay14 gatedArr colsArr; rfl
theorem pay15_eq : k0_pay15 z a b = gatedArr (colsArr z a) (colsArr z b) := by unfold k0_pay15 gatedArr colsArr; rfl
theorem pay17_eq : k0_pay17 (k0_pay16 z a b) = gatedArr (colsArr z a) (colsArr z b) := by unfold k0_pay17 k0_pay16 gatedArr colsArr; rfl
theorem pay18_eq : k0_pay18 z a b = gatedArr (colsArr z a) (colsArr z b) := by unfold k0_pay18 gatedArr colsArr; rfl
theorem pay22_eq : k0_pay22 (k0_pay19 z a) (k0_pay20 z b) (k0_pay21 z a) = gatedArr (colsArr z a) (colsArr z b) := by
  unfold k0_pay22 k0_pay19 k0_pay20 k0_pay21 k0_pay19 gatedArr colsArr; rfl
theorem pay23_eq : k0_pay23 z a b = gatedArr (colsArr z a) (colsArr z b) := by unfold k0_pay23 gatedArr colsArr; rfl
theorem pay1_eq : k0_pay1 (k0_pay24 z a) (k0_pay25 z b) (k0_pay26 z a) = gatedArr (colsArr z a) (colsArr z b) := by
  unfold k0_pay1 k0_pay24 k0_pay25 k0_pay26 k0_pay24 gatedArr colsArr; rfl

end Payloads

theorem normArr_at (v0 : Vec Ideal S1x1024x512 .bf16) (v3 : Vec Ideal S1x512 .f32) (r : Fin 1024) (k : Fin 512) :
    (normArr v0 v3 (ix2 (n0 := 1024) (n1 := 512) r k) : EReal)
      = v0 (ix3 (n0 := 1) (n1 := 1024) (n2 := 512) 0 r k) * Ideal.rsqrt (Ideal.div (∑ j : Fin 512, v0 (ix3 (n0 := 1) (n1 := 1024) (n2 := 512) 0 r j) * v0 (ix3 (n0 := 1) (n1 := 1024) (n2 := 512) 0 r j)) (Ideal.ofBits .f32 0x44000000#32) + Ideal.ofBits .f32 0x358637BD#32) * v3 (ix2 (n0 := 1) (n1 := 512) 0 k) := by
  pointwise [normArr]

theorem mixArr_at (an : FVec Ideal S1024x512 .bf16) (v18 v20 : Vec Ideal S1x1024x256 .bf16) (r k : Fin 1024) :
    (mixArr an v18 v20 (ix2 (n0 := 1024) (n1 := 1024) r k) : EReal)
      = if h : k.val < 512 then an (ix2 (n0 := 1024) (n1 := 512) r ⟨k.val, h⟩)
        else if h' : k.val - 512 < 256 then v18 (ix3 (n0 := 1) (n1 := 1024) (n2 := 256) 0 r ⟨k.val - 512, h'⟩)
        else v20 (ix3 (n0 := 1) (n1 := 1024) (n2 := 256) 0 r ⟨k.val - 512 - 256, by omega⟩) := by
  pointwise [mixArr]

theorem h1Arr_at (mx : FVec Ideal S1024x1024 .bf16) (v23 : Vec Ideal S1x1024x1024 .f32) (v25 : Vec Ideal S1x1024x1024 .bf16) (r n : Fin 1024) :
    (h1Arr mx v23 v25 (ix2 (n0 := 1024) (n1 := 1024) r n) : EReal)
      = v23 (ix3 (n0 := 1) (n1 := 1024) (n2 := 1024) 0 r n) + ∑ k : Fin 1024, mx (ix2 (n0 := 1024) (n1 := 1024) r k) * v25 (ix3 (n0 := 1) (n1 := 1024) (n2 := 1024) 0 k n) := by
  pointwise [h1Arr]

theorem colsArr_at (z : FVec Ideal S1024x1024 .bf16) (w : Vec Ideal S1x1024x256 .bf16) (r : Fin 1024) (q : Fin 256) :
    (colsArr z w (ix2 (n0 := 1024) (n1 := 256) r q) : EReal)
      = ∑ k : Fin 1024, z (ix2 (n0 := 1024) (n1 := 1024) r k) * w (ix3 (n0 := 1) (n1 := 1024) (n2 := 256) 0 k q) := by
  pointwise [colsArr]

theorem gatedArr_at (g u : FVec Ideal S1024x256 .f32) (r : Fin 1024) (q : Fin 256) :
    (gatedArr g u (ix2 (n0 := 1024) (n1 := 256) r q) : EReal)
      = MixModel.gated (g (ix2 (n0 := 1024) (n1 := 256) r q)) (u (ix2 (n0 := 1024) (n1 := 256) r q)) := by
  have e (x : EReal) : -x = 0 - x := (zero_sub x).symm
  unfold MixModel.gated
  rw [e]
  pointwise [gatedArr]

theorem pay6_at (v28 : FVec Ideal S1024x1024 .f32) (v29 : Vec Ideal S1x1024 .f32) (v33 : FVec Ideal S1024x1 .f32) (r n : Fin 1024) :
    (k0_pay6 v28 (k0_pay4 v29) v33 (ix2 (n0 := 1024) (n1 := 1024) r n) : EReal)
      = v28 (ix2 (n0 := 1024) (n1 := 1024) r n) * Ideal.rsqrt (Ideal.div (v33 (ix2 (n0 := 1024) (n1 := 1) r 0)) (Ideal.ofBits .f32 0x44800000#32) + Ideal.ofBits .f32 0x358637BD#32) * v29 (ix2 (n0 := 1) (n1 := 1024) 0 n) := by
  pointwise [k0_pay6, k0_pay4]

theorem pay5_at (v0 : Vec Ideal S1x1024x512 .bf16) (v3 : Vec Ideal S1x512 .f32) (v18 v20 : Vec Ideal S1x1024x256 .bf16) (v23 : Vec Ideal S1x1024x1024 .f32) (v25 : Vec Ideal S1x1024x1024 .bf16) (r : Fin 1024) :
    (k0_pay5 v0 v3 v18 v20 v23 v25 (ix2 (n0 := 1024) (n1 := 1) r 0) : EReal)
      = ∑ k : Fin 1024, k0_pay3 v0 v3 v18 v20 v23 v25 (ix2 (n0 := 1024) (n1 := 1024) r k) * k0_pay3 v0 v3 v18 v20 v23 v25 (ix2 (n0 := 1024) (n1 := 1024) r k) := by
  unfold k0_pay5
  generalize k0_pay3 v0 v3 v18 v20 v23 v25 = y
  pointwise

/-- The row before the final norm, from the buffer of gated values. -/
def h2Arr (v28 : FVec Ideal S1024x1024 .f32) (v253 : Vec Ideal S1024x2816 .bf16) (v254 : Vec Ideal S1x2816x1024 .bf16) (r n : Fin 1024) : EReal :=
  v28 (ix2 (n0 := 1024) (n1 := 1024) r n) + ∑ j : Fin 2816, v253 (ix2 (n0 := 1024) (n1 := 2816) r j) * v254 (ix3 (n0 := 1) (n1 := 2816) (n2 := 1024) 0 j n)

theorem pay2_at (v28 : FVec Ideal S1024x1024 .f32) (v253 : Vec Ideal S1024x2816 .bf16) (v254 : Vec Ideal S1x2816x1024 .bf16) (v258 : Vec Ideal S1x1024 .f32) (r n : Fin 1024) :
    (k0_pay2 v28 v253 v254 v258 (ix3 (n0 := 1) (n1 := 1024) (n2 := 1024) 0 r n) : EReal)
      = MixModel.nrm (h2Arr v28 v253 v254 r) (fun k => v258 (ix2 (n0 := 1) (n1 := 1024) 0 k)) n := by
  pointwise [k0_pay2, MixModel.nrm, h2Arr]

end Cert.Kernel2Ideal.Mix

end
-- ==== Proof.MixIdeal.Point.lean ====
/- What the gated buffer and the result hold at a grid point. -/
module

public import proofs.«01_k».proof.Proof.MixIdeal.Math
public import Idealize.ShloMosaic.Lib.Pipeline.CanonAppend

@[expose] public section

set_option pp.maxSteps 1500
set_option maxRecDepth 16384

noncomputable section

namespace Cert.Kernel2Ideal.Mix

open Cert.Kernel2Ideal Cert.Kernel2Ideal.Gen
open Idealize.ShloMosaic
open Idealize.ShloMosaic.View

theorem read_whole {s : Shape} {e : EltTy} (arg : Memref sig .tc .vmem s e) (harg : arg.IsWhole) (x : Vec Ideal s e) (off : Fin s.rank → ℕ) (hz : ∀ a, off a = 0)
    (inb : ∀ a, off a + s.size a ≤ s.size a) :
    arg.view.readAt (Elt Ideal) (Rect.unit off s.size inb).toLoadRect (harg.unread x) = x := by
  funext y
  rw [View.readAt_apply, harg.read_unread]
  congr 1
  funext a
  apply Fin.ext
  show off a + 1 * (y a).val = (y a).val
  rw [hz a]
  omega

theorem zero3 : ∀ a : Fin 3, (![0, 0, 0] : Fin 3 → ℕ) a = 0 := by decide
theorem zero2 : ∀ a : Fin 2, (![0, 0] : Fin 2 → ℕ) a = 0 := by decide

theorem eq_ix2' {a b : ℕ} (x : (Shape.mk 2 ![a, b]).Idx) : x = ix2 (n0 := a) (n1 := b) (x 0) (x 1) := by
  funext k
  match k with
  | 0 => rfl
  | 1 => rfl

variable (c : Dev nD) (i : grid0.Coords) (arg2 : Memref sig .tc .vmem S1x1024x512 .bf16) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x1024 .f32) (harg5 : arg5.IsWhole) (arg6 : Memref sig .tc .vmem S1x512 .f32) (harg6 : arg6.IsWhole) (arg7 : Memref sig .tc .vmem S1x1024x1024 .bf16) (harg7 : arg7.IsWhole) (arg8 : Memref sig .tc .vmem S1x1024 .f32) (harg8 : arg8.IsWhole) (arg9 : Memref sig .tc .vmem S1x1024x5632 .bf16) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x2816 .bf16) (harg13 : arg13.IsWhole)
variable (x0 : Vec Ideal S1x1024x512 .bf16) (x1 : Vec Ideal S1x1024x256 .bf16) (x2 : Vec Ideal S1x1024x256 .bf16) (x3 : Vec Ideal S1x1024x1024 .f32) (x4 : Vec Ideal S1x512 .f32) (x5 : Vec Ideal S1x1024x1024 .bf16) (x6 : Vec Ideal S1x1024 .f32) (x7 : Vec Ideal S1x1024x5632 .bf16) (x8 : Vec Ideal S1x2816x1024 .bf16) (x9 : Vec Ideal S1x1024 .f32)

/-- The residual row after the output projection, of a point's blocks. -/
abbrev hB : FVec Ideal S1024x1024 .f32 := k0_pay3 x0 x4 x1 x2 x3 x5

/-- Its normed form. -/
abbrev nB : FVec Ideal S1024x1024 .bf16 := k0_pay6 (k0_pay3 x0 x4 x1 x2 x3 x5) (k0_pay4 x6) (k0_pay5 x0 x4 x1 x2 x3 x5)

abbrev WB : MixModel.Weights := weightsOf x4 x5 x6 x7 x8 x9

theorem hB_at (r n : Fin 1024) : (hB x0 x1 x2 x3 x4 x5 (ix2 (n0 := 1024) (n1 := 1024) r n) : EReal) = MixModel.h1 (WB x4 x5 x6 x7 x8 x9) (rowOf x0 x1 x2 x3 r) n := by
  unfold hB
  rw [pay3_eq, h1Arr_at]
  unfold MixModel.h1
  refine congrArg₂ (· + ·) rfl (Finset.sum_congr rfl fun k _ => ?_)
  rw [mixArr_at]
  refine congrArg₂ (· * ·) ?_ rfl
  unfold MixModel.mixed
  by_cases h : k.val < 512
  · rw [dif_pos h, dif_pos h, normArr_at]
    rfl
  · rw [dif_neg h, dif_neg h]
    rfl

theorem nB_at (r n : Fin 1024) : (nB x0 x1 x2 x3 x4 x5 x6 (ix2 (n0 := 1024) (n1 := 1024) r n) : EReal) = MixModel.hn (WB x4 x5 x6 x7 x8 x9) (rowOf x0 x1 x2 x3 r) n := by
  unfold nB
  rw [pay6_at, pay5_at]
  have e (k : Fin 1024) : (k0_pay3 x0 x4 x1 x2 x3 x5 (ix2 (n0 := 1024) (n1 := 1024) r k) : EReal) = MixModel.h1 (WB x4 x5 x6 x7 x8 x9) (rowOf x0 x1 x2 x3 r) k := hB_at x0 x1 x2 x3 x4 x5 x6 x7 x8 x9 r k
  unfold MixModel.hn MixModel.nrm
  rw [e n, Finset.sum_congr rfl fun k _ => congrArg₂ (· * ·) (e k) (e k)]
  rfl

theorem r_eq : kernelRun0_A.sl.r (F := Ideal) c arg2 harg2 arg3 harg3 arg4 harg4 arg5 harg5 arg6 harg6 arg7 harg7 x0 x1 x2 x3 x4 x5 = hB x0 x1 x2 x3 x4 x5 := by
  unfold kernelRun0_A.sl.r hB
  rw [read_whole arg2 harg2 x0 _ zero3, read_whole arg3 harg3 x1 _ zero3, read_whole arg4 harg4 x2 _ zero3, read_whole arg5 harg5 x3 _ zero3, read_whole arg6 harg6 x4 _ zero2, read_whole arg7 harg7 x5 _ zero3]

theorem r_1_eq : kernelRun0_A.sl.r_1 (F := Ideal) c arg8 harg8 x6 = k0_pay4 x6 := by
  unfold kernelRun0_A.sl.r_1
  rw [read_whole arg8 harg8 x6 _ zero2]

theorem r_2_eq : kernelRun0_A.sl.r_2 (F := Ideal) c arg2 harg2 arg3 harg3 arg4 harg4 arg5 harg5 arg6 harg6 arg7 harg7 x0 x1 x2 x3 x4 x5 = k0_pay5 x0 x4 x1 x2 x3 x5 := by
  unfold kernelRun0_A.sl.r_2
  rw [read_whole arg2 harg2 x0 _ zero3, read_whole arg3 harg3 x1 _ zero3, read_whole arg4 harg4 x2 _ zero3, read_whole arg5 harg5 x3 _ zero3, read_whole arg6 harg6 x4 _ zero2, read_whole arg7 harg7 x5 _ zero3]

theorem r_3_eq : kernelRun0_A.sl.r_3 (F := Ideal) c arg2 harg2 arg3 harg3 arg4 harg4 arg5 harg5 arg6 harg6 arg7 harg7 arg8 harg8 x0 x1 x2 x3 x4 x5 x6 = nB x0 x1 x2 x3 x4 x5 x6 := by
  unfold kernelRun0_A.sl.r_3 nB
  rw [r_eq, r_1_eq, r_2_eq]

theorem read_cols (o : ℕ) (inb : ∀ a, (![0, 0, o] : Fin 3 → ℕ) a + S1x1024x256.size a ≤ S1x1024x5632.size a) (k : Fin 1024) (q : Fin 256) (h : o + q.val < 5632) :
    arg9.view.readAt (Elt Ideal) (Rect.unit (s := S1x1024x5632) ![0, 0, o] S1x1024x256.size inb).toLoadRect (harg9.unread x7) (ix3 (n0 := 1) (n1 := 1024) (n2 := 256) 0 k q)
      = x7 (ix3 (n0 := 1) (n1 := 1024) (n2 := 5632) 0 k ⟨o + q.val, h⟩) := by
  rw [View.readAt_apply, harg9.read_unread]
  congr 1
  funext a
  apply Fin.ext
  match a with
  | 0 => show 0 + 1 * 0 = 0; omega
  | 1 => show 0 + 1 * k.val = k.val; omega
  | 2 => show o + 1 * q.val = o + q.val; omega

/-- The gated values of a point. -/
def actBlk (y : S1024x2816.Idx) : EReal := MixModel.act (WB x4 x5 x6 x7 x8 x9) (rowOf x0 x1 x2 x3 (y 0)) (y 1)

theorem chunk_at (o o' : ℕ) (ho : o + 256 ≤ 2816) (ho' : o' = 2816 + o)
    (inb : ∀ a, (![0, 0, o] : Fin 3 → ℕ) a + S1x1024x256.size a ≤ S1x1024x5632.size a) (inb' : ∀ a, (![0, 0, o'] : Fin 3 → ℕ) a + S1x1024x256.size a ≤ S1x1024x5632.size a)
    (r : Fin 1024) (q : Fin 256) (y : S1024x2816.Idx) (hy0 : (y 0).val = r.val) (hy1 : (y 1).val = o + q.val) :
    (gatedArr (colsArr (nB x0 x1 x2 x3 x4 x5 x6) (arg9.view.readAt (Elt Ideal) (Rect.unit (s := S1x1024x5632) ![0, 0, o] S1x1024x256.size inb).toLoadRect (harg9.unread x7)))
      (colsArr (nB x0 x1 x2 x3 x4 x5 x6) (arg9.view.readAt (Elt Ideal) (Rect.unit (s := S1x1024x5632) ![0, 0, o'] S1x1024x256.size inb').toLoadRect (harg9.unread x7)))
      (ix2 (n0 := 1024) (n1 := 256) r q) : EReal) = actBlk x0 x1 x2 x3 x4 x5 x6 x7 x8 x9 y := by
  subst ho'
  rw [gatedArr_at, colsArr_at, colsArr_at]
  unfold actBlk MixModel.act
  have hr : (y 0 : Fin 1024) = r := Fin.ext hy0
  rw [hr]
  refine congrArg₂ MixModel.gated (Finset.sum_congr rfl fun k _ => ?_) (Finset.sum_congr rfl fun k _ => ?_)
  · rw [nB_at x0 x1 x2 x3 x4 x5 x6 x7 x8 x9, read_cols arg9 harg9 x7 o inb k q (by omega)]
    refine congrArg₂ (· * ·) rfl (congrArg x7 (congrArg (ix3 (n0 := 1) (n1 := 1024) (n2 := 5632) 0 k) (Fin.ext ?_)))
    show o + q.val = (y 1).val
    omega
  · rw [nB_at x0 x1 x2 x3 x4 x5 x6 x7 x8 x9, read_cols arg9 harg9 x7 (2816 + o) inb' k q (by omega)]
    refine congrArg₂ (· * ·) rfl (congrArg x7 (congrArg (ix3 (n0 := 1) (n1 := 1024) (n2 := 5632) 0 k) (Fin.ext ?_)))
    show 2816 + o + q.val = 2816 + (y 1).val
    omega

theorem pieces : ∀ p ∈ kernelRun0_A.sl.HS0_11 (F := Ideal) c arg2 harg2 arg3 harg3 arg4 harg4 arg5 harg5 arg6 harg6 arg7 harg7 arg8 harg8 arg9 harg9 x0 x1 x2 x3 x4 x5 x6 x7, ∀ x : p.1.shape.Idx, p.2 x = actBlk x0 x1 x2 x3 x4 x5 x6 x7 x8 x9 (p.1.emb x) := by
  unfold kernelRun0_A.sl.HS0_11
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_11 kernelRun0_A.sl.r_12 kernelRun0_A.sl.r_13
    rw [r_3_eq]
    refine (congrFun (pay1_eq _ _ _) _).trans ?_
    exact chunk_at arg9 harg9 x0 x1 x2 x3 x4 x5 x6 x7 x8 x9 2560 5376 (by decide) (by rfl) _ _ r q _ (by show 0 + 1 * r.val = r.val; omega) (by show 2560 + 1 * q.val = 2560 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay23_eq _ _ _) _).trans ?_
    exact chunk_at arg9 harg9 x0 x1 x2 x3 x4 x5 x6 x7 x8 x9 2304 5120 (by decide) (by rfl) _ _ r q _ (by show 0 + 1 * r.val = r.val; omega) (by show 2304 + 1 * q.val = 2304 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_8 kernelRun0_A.sl.r_9 kernelRun0_A.sl.r_10
    rw [r_3_eq]
    refine (congrFun (pay22_eq _ _ _) _).trans ?_
    exact chunk_at arg9 harg9 x0 x1 x2 x3 x4 x5 x6 x7 x8 x9 2048 4864 (by decide) (by rfl) _ _ r q _ (by show 0 + 1 * r.val = r.val; omega) (by show 2048 + 1 * q.val = 2048 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay18_eq _ _ _) _).trans ?_
    exact chunk_at arg9 harg9 x0 x1 x2 x3 x4 x5 x6 x7 x8 x9 1792 4608 (by decide) (by rfl) _ _ r q _ (by show 0 + 1 * r.val = r.val; omega) (by show 1792 + 1 * q.val = 1792 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_7
    rw [r_3_eq]
    refine (congrFun (pay17_eq _ _ _) _).trans ?_
    exact chunk_at arg9 harg9 x0 x1 x2 x3 x4 x5 x6 x7 x8 x9 1536 4352 (by decide) (by rfl) _ _ r q _ (by show 0 + 1 * r.val = r.val; omega) (by show 1536 + 1 * q.val = 1536 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay15_eq _ _ _) _).trans ?_
    exact chunk_at arg9 harg9 x0 x1 x2 x3 x4 x5 x6 x7 x8 x9 1280 4096 (by decide) (by rfl) _ _ r q _ (by show 0 + 1 * r.val = r.val; omega) (by show 1280 + 1 * q.val = 1280 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay14_eq _ _ _) _).trans ?_
    exact chunk_at arg9 harg9 x0 x1 x2 x3 x4 x5 x6 x7 x8 x9 1024 3840 (by decide) (by rfl) _ _ r q _ (by show 0 + 1 * r.val = r.val; omega) (by show 1024 + 1 * q.val = 1024 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_6
    rw [r_3_eq]
    refine (congrFun (pay13_eq _ _ _) _).trans ?_
    exact chunk_at arg9 harg9 x0 x1 x2 x3 x4 x5 x6 x7 x8 x9 768 3584 (by decide) (by rfl) _ _ r q _ (by show 0 + 1 * r.val = r.val; omega) (by show 768 + 1 * q.val = 768 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay11_eq _ _ _) _).trans ?_
    exact chunk_at arg9 harg9 x0 x1 x2 x3 x4 x5 x6 x7 x8 x9 512 3328 (by decide) (by rfl) _ _ r q _ (by show 0 + 1 * r.val = r.val; omega) (by show 512 + 1 * q.val = 512 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_4 kernelRun0_A.sl.r_5 kernelRun0_A.sl.cst_42
    rw [r_eq, r_1_eq, r_2_eq]
    refine (congrFun (pay10_eq _ _ _ _ _) _).trans ?_
    exact chunk_at arg9 harg9 x0 x1 x2 x3 x4 x5 x6 x7 x8 x9 256 3072 (by decide) (by rfl) _ _ r q _ (by show 0 + 1 * r.val = r.val; omega) (by show 256 + 1 * q.val = 256 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_eq, r_1_eq, r_2_eq]
    refine (congrFun (pay7_eq _ _ _ _ _) _).trans ?_
    exact chunk_at arg9 harg9 x0 x1 x2 x3 x4 x5 x6 x7 x8 x9 0 2816 (by decide) (by rfl) _ _ r q _ (by show 0 + 1 * r.val = r.val; omega) (by show 0 + 1 * q.val = 0 + q.val; omega)
  exact List.forall_mem_nil _

theorem v253_at (r : Fin 1024) (j : Fin 2816) :
    kernelRun0_A.sl.v253 (F := Ideal) c arg2 harg2 arg3 harg3 arg4 harg4 arg5 harg5 arg6 harg6 arg7 harg7 arg8 harg8 arg9 harg9 arg13 x0 x1 x2 x3 x4 x5 x6 x7 (ix2 (n0 := 1024) (n1 := 2816) r j) = MixModel.act (WB x4 x5 x6 x7 x8 x9) (rowOf x0 x1 x2 x3 r) j := by
  unfold kernelRun0_A.sl.v253
  rw [View.readCov_eq_canon']
  beta_reduce
  rw [View.canon_apply_of_pieces (actBlk x0 x1 x2 x3 x4 x5 x6 x7 x8 x9) _ (pieces c arg2 harg2 arg3 harg3 arg4 harg4 arg5 harg5 arg6 harg6 arg7 harg7 arg8 harg8 arg9 harg9 x0 x1 x2 x3 x4 x5 x6 x7 x8 x9) _ (View.cover_of_tiled _ ![1024, 256] (by rfl) _)]
  unfold actBlk
  congr 1
  · congr 1
    apply Fin.ext; show 0 + 1 * r.val = r.val; omega
  · apply Fin.ext; show 0 + 1 * j.val = j.val; omega

/-- The block a point writes. -/
def outBlk (y : S1x1024x1024.Idx) : EReal := MixModel.out (WB x4 x5 x6 x7 x8 x9) (rowOf x0 x1 x2 x3 (y 1)) (y 2)

theorem out_at (r n : Fin 1024) :
    k0_pay2 (F := Ideal) (kernelRun0_A.sl.r c arg2 harg2 arg3 harg3 arg4 harg4 arg5 harg5 arg6 harg6 arg7 harg7 x0 x1 x2 x3 x4 x5) (kernelRun0_A.sl.v253 c arg2 harg2 arg3 harg3 arg4 harg4 arg5 harg5 arg6 harg6 arg7 harg7 arg8 harg8 arg9 harg9 arg13 x0 x1 x2 x3 x4 x5 x6 x7) x8 x9 (ix3 (n0 := 1) (n1 := 1024) (n2 := 1024) 0 r n)
      = MixModel.out (WB x4 x5 x6 x7 x8 x9) (rowOf x0 x1 x2 x3 r) n := by
  refine (pay2_at _ _ _ _ r n).trans ?_
  unfold MixModel.out
  refine congrFun (congrArg₂ MixModel.nrm (funext fun k => ?_) rfl) n
  unfold h2Arr MixModel.h2
  rw [r_eq, hB_at x0 x1 x2 x3 x4 x5 x6 x7 x8 x9]
  refine congrArg₂ (· + ·) rfl (Finset.sum_congr rfl fun j _ => ?_)
  rw [v253_at c arg2 harg2 arg3 harg3 arg4 harg4 arg5 harg5 arg6 harg6 arg7 harg7 arg8 harg8 arg9 harg9 arg13 x0 x1 x2 x3 x4 x5 x6 x7 x8 x9]
  rfl

theorem out_eq : out0_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = outBlk x0 x1 x2 x3 x4 x5 x6 x7 x8 x9 := by
  funext y
  unfold out0_A_10
  rw [View.read_writes_junk_apply_eq_canon]
  refine View.canon_apply_of_pieces (Val := Elt Ideal) (e := .f32) (outBlk x0 x1 x2 x3 x4 x5 x6 x7 x8 x9) (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 ?_ y (View.cover_of_tiled _ ![1, 1024, 1024] (by rfl) y)
  refine List.forall_mem_cons.mpr ⟨fun x => ?_, List.forall_mem_nil _⟩
  obtain ⟨r, n, rfl⟩ : ∃ (r n : Fin 1024), x = ix3 (n0 := 1) (n1 := 1024) (n2 := 1024) 0 r n := ⟨x 1, x 2, by
    funext a
    match a with
    | 0 => exact Fin.ext (by have h : (x 0).val < 1 := (x 0).isLt; show (x 0).val = 0; omega)
    | 1 => rfl
    | 2 => rfl⟩
  rw [read_whole arg10 harg10 x8 _ zero3, read_whole arg11 harg11 x9 _ zero2]
  refine (out_at c arg2 harg2 arg3 harg3 arg4 harg4 arg5 harg5 arg6 harg6 arg7 harg7 arg8 harg8 arg9 harg9 arg13 x0 x1 x2 x3 x4 x5 x6 x7 x8 x9 r n).trans ?_
  unfold outBlk
  congr 1
  · congr 1
    apply Fin.ext; show r.val = 0 + 1 * r.val; omega
  · apply Fin.ext; show n.val = 0 + 1 * n.val; omega

end Cert.Kernel2Ideal.Mix

end
-- ==== Proof.MixIdeal.Value.lean ====
/- The run of the call: its result array is the model's result. -/
module

public import proofs.«01_k».proof.Proof.MixIdeal.Point
public import proofs.«01_k».proof.Proof.Gen.Kernel2Ideal.Value
public import Idealize.ShloMosaic.Lib.StableHlo.ReadAt
public import Idealize.ShloMosaic.Lib.Pointwise

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic Idealize.SL Idealize.SL.Sem

variable (m : (ℓ : Loc nD τ sig) → Buf (Elt Ideal) ℓ) (ρ : Dev nD → PrngReg) (c : Dev nD)

theorem lt_points (t : Fin cfg0.N) : t.val < 32 := lt_of_lt_of_eq t.isLt N_0

theorem idx_0 : ∀ t : Fin cfg0.N, win0_0.index t (0 : Fin 3) = t.val % 8 ∧ win0_0.index t (1 : Fin 3) = t.val / 8 ∧ win0_0.index t (2 : Fin 3) = 0 :=
  (by decide +kernel : ∀ t : Fin grid0.N, _)

theorem iblk_0 (t : Fin cfg0.N) (r : Fin 1024) (k : Fin 512) (hb : t.val % 8 < 8) (hs : 1024 * (t.val / 8) + r.val < 4096) :
    (iblk m c 0 t : Vec Ideal S1x1024x512 _) (ix3 (n0 := 1) (n1 := 1024) (n2 := 512) 0 r k) = m ((c : Thread nD τ).loc main_arg0) (ix3 (n0 := 8) (n1 := 4096) (n2 := 512) ⟨t.val % 8, hb⟩ ⟨1024 * (t.val / 8) + r.val, hs⟩ k) := by
  obtain ⟨e0, e1, e2⟩ := idx_0 t
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val % 8; omega
  | ⟨1, _⟩ => show win0_0.index t (1 : Fin 3) * 1024 + 1 * r.val = 1024 * (t.val / 8) + r.val; omega
  | ⟨2, _⟩ => show win0_0.index t (2 : Fin 3) * 512 + 1 * k.val = k.val; omega

theorem idx_1 : ∀ t : Fin cfg0.N, win0_1.index t (0 : Fin 3) = t.val % 8 ∧ win0_1.index t (1 : Fin 3) = t.val / 8 ∧ win0_1.index t (2 : Fin 3) = 0 :=
  (by decide +kernel : ∀ t : Fin grid0.N, _)

theorem iblk_1 (t : Fin cfg0.N) (r : Fin 1024) (k : Fin 256) (hb : t.val % 8 < 8) (hs : 1024 * (t.val / 8) + r.val < 4096) :
    (iblk m c 1 t : Vec Ideal S1x1024x256 _) (ix3 (n0 := 1) (n1 := 1024) (n2 := 256) 0 r k) = m ((c : Thread nD τ).loc main_arg1) (ix3 (n0 := 8) (n1 := 4096) (n2 := 256) ⟨t.val % 8, hb⟩ ⟨1024 * (t.val / 8) + r.val, hs⟩ k) := by
  obtain ⟨e0, e1, e2⟩ := idx_1 t
  show V m c main_arg1 _ = m ((c : Thread nD τ).loc main_arg1) _
  rw [V_main_arg1]
  congr 1
  funext a
  apply Fin.ext
  match a with
  | ⟨0, _⟩ => show win0_1.index t (0 : Fin 3) * 1 + 1 * 0 = t.val % 8; omega
  | ⟨1, _⟩ => show win0_1.index t (1 : Fin 3) * 1024 + 1 * r.val = 1024 * (t.val / 8) + r.val; omega
  | ⟨2, _⟩ => show win0_1.index t (2 : Fin 3) * 256 + 1 * k.val = k.val; omega

theorem idx_2 : ∀ t : Fin cfg0.N, win0_2.index t (0 : Fin 3) = t.val % 8 ∧ win0_2.index t (1 : Fin 3) = t.val / 8 ∧ win0_2.index t (2 : Fin 3) = 0 :=
  (by decide +kernel : ∀ t : Fin grid0.N, _)

theorem iblk_2 (t : Fin cfg0.N) (r : Fin 1024) (k : Fin 256) (hb : t.val % 8 < 8) (hs : 1024 * (t.val / 8) + r.val < 4096) :
    (iblk m c 2 t : Vec Ideal S1x1024x256 _) (ix3 (n0 := 1) (n1 := 1024) (n2 := 256) 0 r k) = m ((c : Thread nD τ).loc main_arg2) (ix3 (n0 := 8) (n1 := 4096) (n2 := 256) ⟨t.val % 8, hb⟩ ⟨1024 * (t.val / 8) + r.val, hs⟩ k) := by
  obtain ⟨e0, e1, e2⟩ := idx_2 t
  show V m c main_arg2 _ = m ((c : Thread nD τ).loc main_arg2) _
  rw [V_main_arg2]
  congr 1
  funext a
  apply Fin.ext
  match a with
  | ⟨0, _⟩ => show win0_2.index t (0 : Fin 3) * 1 + 1 * 0 = t.val % 8; omega
  | ⟨1, _⟩ => show win0_2.index t (1 : Fin 3) * 1024 + 1 * r.val = 1024 * (t.val / 8) + r.val; omega
  | ⟨2, _⟩ => show win0_2.index t (2 : Fin 3) * 256 + 1 * k.val = k.val; omega

theorem idx_3 : ∀ t : Fin cfg0.N, win0_3.index t (0 : Fin 3) = t.val % 8 ∧ win0_3.index t (1 : Fin 3) = t.val / 8 ∧ win0_3.index t (2 : Fin 3) = 0 :=
  (by decide +kernel : ∀ t : Fin grid0.N, _)

theorem iblk_3 (t : Fin cfg0.N) (r : Fin 1024) (k : Fin 1024) (hb : t.val % 8 < 8) (hs : 1024 * (t.val / 8) + r.val < 4096) :
    (iblk m c 3 t : Vec Ideal S1x1024x1024 _) (ix3 (n0 := 1) (n1 := 1024) (n2 := 1024) 0 r k) = m ((c : Thread nD τ).loc main_arg3) (ix3 (n0 := 8) (n1 := 4096) (n2 := 1024) ⟨t.val % 8, hb⟩ ⟨1024 * (t.val / 8) + r.val, hs⟩ k) := by
  obtain ⟨e0, e1, e2⟩ := idx_3 t
  show V m c main_arg3 _ = m ((c : Thread nD τ).loc main_arg3) _
  rw [V_main_arg3]
  congr 1
  funext a
  apply Fin.ext
  match a with
  | ⟨0, _⟩ => show win0_3.index t (0 : Fin 3) * 1 + 1 * 0 = t.val % 8; omega
  | ⟨1, _⟩ => show win0_3.index t (1 : Fin 3) * 1024 + 1 * r.val = 1024 * (t.val / 8) + r.val; omega
  | ⟨2, _⟩ => show win0_3.index t (2 : Fin 3) * 1024 + 1 * k.val = k.val; omega

theorem idx_4 : ∀ t : Fin cfg0.N, win0_4.index t (0 : Fin 2) = 0 ∧ win0_4.index t (1 : Fin 2) = 0 :=
  (by decide +kernel : ∀ t : Fin grid0.N, _)

theorem V_4 (k : Fin 512) : (V m c main_v5 : Vec Ideal S1x512 .f32) (ix2 (n0 := 1) (n1 := 512) 0 k) = m ((c : Thread nD τ).loc main_arg4) (ix2 (n0 := 2) (n1 := 512) 1 k) := by
  unfold V
  after_reads_at

theorem iblk_4 (t : Fin cfg0.N) (k : Fin 512) : (iblk m c 4 t : Vec Ideal S1x512 .f32) (ix2 (n0 := 1) (n1 := 512) 0 k) = m ((c : Thread nD τ).loc main_arg4) (ix2 (n0 := 2) (n1 := 512) 1 k) := by
  obtain ⟨e0, e1⟩ := idx_4 t
  refine Eq.trans ?_ (V_4 m c k)
  show V m c main_v5 (((cfg0.win 4).blk t).view.emb _) = V m c main_v5 _
  congr 1
  funext a
  apply Fin.ext
  match a with
  | ⟨0, _⟩ => show win0_4.index t (0 : Fin 2) * 1 + 1 * 0 = 0; omega
  | ⟨1, _⟩ => show win0_4.index t (1 : Fin 2) * 512 + 1 * k.val = k.val; omega

theorem idx_6 : ∀ t : Fin cfg0.N, win0_6.index t (0 : Fin 2) = 0 ∧ win0_6.index t (1 : Fin 2) = 0 :=
  (by decide +kernel : ∀ t : Fin grid0.N, _)

theorem V_6 (k : Fin 1024) : (V m c main_v8 : Vec Ideal S1x1024 .f32) (ix2 (n0 := 1) (n1 := 1024) 0 k) = m ((c : Thread nD τ).loc main_arg6) (ix2 (n0 := 2) (n1 := 1024) 1 k) := by
  unfold V
  after_reads_at

theorem iblk_6 (t : Fin cfg0.N) (k : Fin 1024) : (iblk m c 6 t : Vec Ideal S1x1024 .f32) (ix2 (n0 := 1) (n1 := 1024) 0 k) = m ((c : Thread nD τ).loc main_arg6) (ix2 (n0 := 2) (n1 := 1024) 1 k) := by
  obtain ⟨e0, e1⟩ := idx_6 t
  refine Eq.trans ?_ (V_6 m c k)
  show V m c main_v8 (((cfg0.win 6).blk t).view.emb _) = V m c main_v8 _
  congr 1
  funext a
  apply Fin.ext
  match a with
  | ⟨0, _⟩ => show win0_6.index t (0 : Fin 2) * 1 + 1 * 0 = 0; omega
  | ⟨1, _⟩ => show win0_6.index t (1 : Fin 2) * 1024 + 1 * k.val = k.val; omega

theorem idx_9 : ∀ t : Fin cfg0.N, win0_9.index t (0 : Fin 2) = 0 ∧ win0_9.index t (1 : Fin 2) = 0 :=
  (by decide +kernel : ∀ t : Fin grid0.N, _)

theorem V_9 (k : Fin 1024) : (V m c main_v9 : Vec Ideal S1x1024 .f32) (ix2 (n0 := 1) (n1 := 1024) 0 k) = m ((c : Thread nD τ).loc main_arg9) (ix1 (n0 := 1024) k) := by
  unfold V
  after_reads_at

theorem iblk_9 (t : Fin cfg0.N) (k : Fin 1024) : (iblk m c 9 t : Vec Ideal S1x1024 .f32) (ix2 (n0 := 1) (n1 := 1024) 0 k) = m ((c : Thread nD τ).loc main_arg9) (ix1 (n0 := 1024) k) := by
  obtain ⟨e0, e1⟩ := idx_9 t
  refine Eq.trans ?_ (V_9 m c k)
  show V m c main_v9 (((cfg0.win 9).blk t).view.emb _) = V m c main_v9 _
  congr 1
  funext a
  apply Fin.ext
  match a with
  | ⟨0, _⟩ => show win0_9.index t (0 : Fin 2) * 1 + 1 * 0 = 0; omega
  | ⟨1, _⟩ => show win0_9.index t (1 : Fin 2) * 1024 + 1 * k.val = k.val; omega

theorem idx_5 : ∀ t : Fin cfg0.N, win0_5.index t (0 : Fin 3) = 1 ∧ win0_5.index t (1 : Fin 3) = 0 ∧ win0_5.index t (2 : Fin 3) = 0 :=
  (by decide +kernel : ∀ t : Fin grid0.N, _)

theorem V_5 (l : Fin 2) (k : Fin 1024) (n : Fin 1024) : (V m c main_v0 : Vec Ideal S2x1024x1024 .bf16) (ix3 (n0 := 2) (n1 := 1024) (n2 := 1024) l k n) = m ((c : Thread nD τ).loc main_arg5) (ix3 (n0 := 2) (n1 := 1024) (n2 := 1024) l k n) := by
  unfold V
  after_reads_at

theorem iblk_5 (t : Fin cfg0.N) (k : Fin 1024) (n : Fin 1024) : (iblk m c 5 t : Vec Ideal S1x1024x1024 .bf16) (ix3 (n0 := 1) (n1 := 1024) (n2 := 1024) 0 k n) = m ((c : Thread nD τ).loc main_arg5) (ix3 (n0 := 2) (n1 := 1024) (n2 := 1024) 1 k n) := by
  obtain ⟨e0, e1, e2⟩ := idx_5 t
  refine Eq.trans ?_ (V_5 m c 1 k n)
  show V m c main_v0 (((cfg0.win 5).blk t).view.emb _) = V m c main_v0 _
  congr 1
  funext a
  apply Fin.ext
  match a with
  | ⟨0, _⟩ => show win0_5.index t (0 : Fin 3) * 1 + 1 * 0 = 1; omega
  | ⟨1, _⟩ => show win0_5.index t (1 : Fin 3) * 1024 + 1 * k.val = k.val; omega
  | ⟨2, _⟩ => show win0_5.index t (2 : Fin 3) * 1024 + 1 * n.val = n.val; omega

theorem idx_7 : ∀ t : Fin cfg0.N, win0_7.index t (0 : Fin 3) = 1 ∧ win0_7.index t (1 : Fin 3) = 0 ∧ win0_7.index t (2 : Fin 3) = 0 :=
  (by decide +kernel : ∀ t : Fin grid0.N, _)

theorem V_7 (l : Fin 2) (k : Fin 1024) (n : Fin 5632) : (V m c main_v1 : Vec Ideal S2x1024x5632 .bf16) (ix3 (n0 := 2) (n1 := 1024) (n2 := 5632) l k n) = m ((c : Thread nD τ).loc main_arg7) (ix3 (n0 := 2) (n1 := 1024) (n2 := 5632) l k n) := by
  unfold V
  after_reads_at

theorem iblk_7 (t : Fin cfg0.N) (k : Fin 1024) (n : Fin 5632) : (iblk m c 7 t : Vec Ideal S1x1024x5632 .bf16) (ix3 (n0 := 1) (n1 := 1024) (n2 := 5632) 0 k n) = m ((c : Thread nD τ).loc main_arg7) (ix3 (n0 := 2) (n1 := 1024) (n2 := 5632) 1 k n) := by
  obtain ⟨e0, e1, e2⟩ := idx_7 t
  refine Eq.trans ?_ (V_7 m c 1 k n)
  show V m c main_v1 (((cfg0.win 7).blk t).view.emb _) = V m c main_v1 _
  congr 1
  funext a
  apply Fin.ext
  match a with
  | ⟨0, _⟩ => show win0_7.index t (0 : Fin 3) * 1 + 1 * 0 = 1; omega
  | ⟨1, _⟩ => show win0_7.index t (1 : Fin 3) * 1024 + 1 * k.val = k.val; omega
  | ⟨2, _⟩ => show win0_7.index t (2 : Fin 3) * 5632 + 1 * n.val = n.val; omega

theorem idx_8 : ∀ t : Fin cfg0.N, win0_8.index t (0 : Fin 3) = 1 ∧ win0_8.index t (1 : Fin 3) = 0 ∧ win0_8.index t (2 : Fin 3) = 0 :=
  (by decide +kernel : ∀ t : Fin grid0.N, _)

theorem V_8 (l : Fin 2) (k : Fin 2816) (n : Fin 1024) : (V m c main_v2 : Vec Ideal S2x2816x1024 .bf16) (ix3 (n0 := 2) (n1 := 2816) (n2 := 1024) l k n) = m ((c : Thread nD τ).loc main_arg8) (ix3 (n0 := 2) (n1 := 2816) (n2 := 1024) l k n) := by
  unfold V
  after_reads_at

theorem iblk_8 (t : Fin cfg0.N) (k : Fin 2816) (n : Fin 1024) : (iblk m c 8 t : Vec Ideal S1x2816x1024 .bf16) (ix3 (n0 := 1) (n1 := 2816) (n2 := 1024) 0 k n) = m ((c : Thread nD τ).loc main_arg8) (ix3 (n0 := 2) (n1 := 2816) (n2 := 1024) 1 k n) := by
  obtain ⟨e0, e1, e2⟩ := idx_8 t
  refine Eq.trans ?_ (V_8 m c 1 k n)
  show V m c main_v2 (((cfg0.win 8).blk t).view.emb _) = V m c main_v2 _
  congr 1
  funext a
  apply Fin.ext
  match a with
  | ⟨0, _⟩ => show win0_8.index t (0 : Fin 3) * 1 + 1 * 0 = 1; omega
  | ⟨1, _⟩ => show win0_8.index t (1 : Fin 3) * 2816 + 1 * k.val = k.val; omega
  | ⟨2, _⟩ => show win0_8.index t (2 : Fin 3) * 1024 + 1 * n.val = n.val; omega

/-- The weights of the run. -/
def weightsK : MixModel.Weights := MixModel.weightsAt 1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The rows of the run. -/
def rowK (b : Fin 8) (s : Fin 4096) : MixModel.Row := MixModel.rowAt (m ((c : Thread nD τ).loc main_arg0)) (m ((c : Thread nD τ).loc main_arg1)) (m ((c : Thread nD τ).loc main_arg2)) (m ((c : Thread nD τ).loc main_arg3)) b s

theorem weights_eq (t : Fin cfg0.N) : weightsOf (iblk m c 4 t) (iblk m c 5 t) (iblk m c 6 t) (iblk m c 7 t) (iblk m c 8 t) (iblk m c 9 t) = weightsK m c := by
  have e4 := iblk_4 m c t
  have e5 := iblk_5 m c t
  have e6 := iblk_6 m c t
  have e7 := iblk_7 m c t
  have e8 := iblk_8 m c t
  have e9 := iblk_9 m c t
  unfold weightsOf weightsK MixModel.weightsAt
  rw [MixModel.Weights.mk.injEq]
  exact ⟨funext e4, funext fun k => funext (e5 k), funext e6, funext fun k => funext (e7 k), funext fun k => funext (e8 k), funext e9⟩

theorem row_eq (t : Fin cfg0.N) (r : Fin 1024) (hb : t.val % 8 < 8) (hs : 1024 * (t.val / 8) + r.val < 4096) :
    rowOf (iblk m c 0 t) (iblk m c 1 t) (iblk m c 2 t) (iblk m c 3 t) r = rowK m c ⟨t.val % 8, hb⟩ ⟨1024 * (t.val / 8) + r.val, hs⟩ := by
  unfold rowOf rowK MixModel.rowAt
  rw [MixModel.Row.mk.injEq]
  exact ⟨funext fun k => iblk_0 m c t r k hb hs, funext fun k => iblk_1 m c t r k hb hs, funext fun k => iblk_2 m c t r k hb hs, funext fun k => iblk_3 m c t r k hb hs⟩

/-- The result array. -/
def result : Vec Ideal S8x4096x1024 .f32 := fun y => MixModel.out (weightsK m c) (rowK m c (y 0) (y 1)) (y 2)

theorem idx_10 : ∀ t : Fin cfg0.N, (cfg0.win 10).flush t = true ∧ win0_10.index t (0 : Fin 3) = t.val % 8 ∧ win0_10.index t (1 : Fin 3) = t.val / 8 ∧ win0_10.index t (2 : Fin 3) = 0 :=
  (by decide +kernel : ∀ t : Fin grid0.N, _)

theorem flushed_10 (t : Fin cfg0.N) : (dats m 0 c).flushed 10 t = ((cfg0.win 10).blk t).view.read (Elt Ideal) (result m c) := by
  rw [Value.flushed10_A, out_eq]
  obtain ⟨-, e0, e1, e2⟩ := idx_10 t
  have hl := lt_points t
  funext y
  have hy0 : (y 0).val < 1 := (y 0).isLt
  have hy1 : (y 1).val < 1024 := (y 1).isLt
  have hy2 : (y 2).val < 1024 := (y 2).isLt
  show MixModel.out (weightsOf (iblk m c 4 t) (iblk m c 5 t) (iblk m c 6 t) (iblk m c 7 t) (iblk m c 8 t) (iblk m c 9 t)) (rowOf (iblk m c 0 t) (iblk m c 1 t) (iblk m c 2 t) (iblk m c 3 t) ⟨(y 1).val, hy1⟩) ⟨(y 2).val, hy2⟩
    = MixModel.out (weightsK m c) (rowK m c (((cfg0.win 10).blk t).view.emb y 0) (((cfg0.win 10).blk t).view.emb y 1)) (((cfg0.win 10).blk t).view.emb y 2)
  rw [weights_eq, row_eq m c t ⟨(y 1).val, hy1⟩ (by omega) (by show 1024 * (t.val / 8) + (y 1).val < 4096; omega)]
  congr 1
  · congr 1
    · exact Fin.ext (by show t.val % 8 = win0_10.index t (0 : Fin 3) * 1 + 1 * (y 0).val; omega)
    · exact Fin.ext (by show 1024 * (t.val / 8) + (y 1).val = win0_10.index t (1 : Fin 3) * 1024 + 1 * (y 1).val; omega)
  · exact Fin.ext (by show (y 2).val = win0_10.index t (2 : Fin 3) * 1024 + 1 * (y 2).val; omega)

theorem mem_blk10 (t : Fin cfg0.N) (i : S8x4096x1024.Idx) :
    i ∈ ((cfg0.win 10).blk t).view.set ↔ ∀ a : Fin 3, win0_10.index t a * S1x1024x1024.size a ≤ (i a).val ∧ (i a).val < win0_10.index t a * S1x1024x1024.size a + S1x1024x1024.size a := by
  show i ∈ ((View.whole main_v10).slice (win0_10.rect t)).set ↔ _
  rw [View.set_slice_whole, Rect.mem_set_unit]
  exact Iff.rfl

theorem covered_10 (i : S8x4096x1024.Idx) : ∃ t : Fin cfg0.N, (cfg0.win 10).flush t = true ∧ i ∈ ((cfg0.win 10).blk t).view.set := by
  have hi0 : (i 0).val < 8 := (i 0).isLt
  have hi1 : (i 1).val < 4096 := (i 1).isLt
  have hi2 : (i 2).val < 1024 := (i 2).isLt
  obtain ⟨hf, e0, e1, e2⟩ := idx_10 ⟨(i 1).val / 1024 * 8 + (i 0).val, lt_of_lt_of_eq (by omega) N_0.symm⟩
  refine ⟨_, hf, ?_⟩
  rw [mem_blk10]
  intro a
  match a with
  | ⟨0, _⟩ => show win0_10.index _ (0 : Fin 3) * 1 ≤ (i 0).val ∧ (i 0).val < win0_10.index _ (0 : Fin 3) * 1 + 1; rw [e0]; show ((i 1).val / 1024 * 8 + (i 0).val) % 8 * 1 ≤ (i 0).val ∧ (i 0).val < ((i 1).val / 1024 * 8 + (i 0).val) % 8 * 1 + 1; omega
  | ⟨1, _⟩ => show win0_10.index _ (1 : Fin 3) * 1024 ≤ (i 1).val ∧ (i 1).val < win0_10.index _ (1 : Fin 3) * 1024 + 1024; rw [e1]; show ((i 1).val / 1024 * 8 + (i 0).val) / 8 * 1024 ≤ (i 1).val ∧ (i 1).val < ((i 1).val / 1024 * 8 + (i 0).val) / 8 * 1024 + 1024; omega
  | ⟨2, _⟩ => show win0_10.index _ (2 : Fin 3) * 1024 ≤ (i 2).val ∧ (i 2).val < win0_10.index _ (2 : Fin 3) * 1024 + 1024; omega

theorem final_10 : (dats m 0 c).arrAt 10 cfg0.N = result m c :=
  (dats m 0 c).arrAt_eq_of_cover 10 _ (fun t _ => flushed_10 m c t) covered_10

end Cert.Kernel2Ideal.Mix

end
-- ==== Proof.MixRef.Value.lean ====
/- The reference's result, one token's row at a time. -/
module

public import proofs.«01_k».proof.Proof.Gen.Reference2Ideal.Read
public import proofs.«01_k».proof.Proof.MixModel
public import Idealize.ShloMosaic.Lib.Pointwise

@[expose] public section

set_option maxRecDepth 16384

noncomputable section

namespace Cert.Reference2Ideal.Mix

open Cert.Reference2Ideal Cert.Reference2Ideal.Read
open Idealize.ShloMosaic

variable (x0 : Vec Ideal S8x4096x512 .bf16) (x1 x2 : Vec Ideal S8x4096x256 .bf16) (x3 : Vec Ideal S8x4096x1024 .f32) (x4 : Vec Ideal S2x512 .f32) (x5 : Vec Ideal S2x1024x1024 .f32)
  (x6 : Vec Ideal S2x1024 .f32) (x7 : Vec Ideal S2x1024x5632 .f32) (x8 : Vec Ideal S2x2816x1024 .f32) (x9 : Vec Ideal S1024 .f32)

/-- The weights. -/
abbrev W : MixModel.Weights := MixModel.weightsAt 1 x4 x5 x6 x7 x8 x9

/-- A token's row. -/
abbrev R (b : Fin 8) (s : Fin 4096) : MixModel.Row := MixModel.rowAt x0 x1 x2 x3 b s

theorem v17_at (b : Fin 8) (s : Fin 4096) (k : Fin 512) :
    (val_main_v17 (F := Ideal) x0 x4 (ix3 (n0 := 8) (n1 := 4096) (n2 := 512) b s k) : EReal) = MixModel.normed (W x4 x5 x6 x7 x8 x9) (R x0 x1 x2 x3 b s) k := by
  unfold MixModel.normed W R MixModel.rowAt MixModel.weightsAt
  pointwise [val_main_v17, val_main_v16, val_main_v15, val_main_v14, val_main_v13, val_main_v12, val_main_v11, val_main_v10, val_main_v9, val_main_v8, val_main_v7, val_main_v6, val_main_v5, val_main_v4, val_main_v3, val_main_v0, val_main_cst, val_main_cst_0, val_main_cst_1]

theorem v18_at (b : Fin 8) (s : Fin 4096) (k : Fin 1024) :
    (val_main_v18 (F := Ideal) x0 x1 x2 x4 (ix3 (n0 := 8) (n1 := 4096) (n2 := 1024) b s k) : EReal) = MixModel.mixed (W x4 x5 x6 x7 x8 x9) (R x0 x1 x2 x3 b s) k := by
  have e := v17_at x0 x1 x2 x3 x4 x5 x6 x7 x8 x9 b s
  unfold val_main_v18 MixModel.mixed
  generalize val_main_v17 (F := Ideal) x0 x4 = y at e
  simp only [← e]
  unfold R MixModel.rowAt
  pointwise [val_main_v1, val_main_v2]

theorem v22_at (b : Fin 8) (s : Fin 4096) (n : Fin 1024) :
    (val_main_v22 (F := Ideal) x0 x1 x2 x3 x4 x5 (ix3 (n0 := 8) (n1 := 4096) (n2 := 1024) b s n) : EReal) = MixModel.h1 (W x4 x5 x6 x7 x8 x9) (R x0 x1 x2 x3 b s) n := by
  have e := v18_at x0 x1 x2 x3 x4 x5 x6 x7 x8 x9 b s
  unfold val_main_v22 val_main_v21 MixModel.h1
  generalize val_main_v18 (F := Ideal) x0 x1 x2 x4 = y at e
  simp only [← e]
  unfold R W MixModel.rowAt MixModel.weightsAt
  pointwise [val_main_v20, val_main_v19]

theorem v37_at (b : Fin 8) (s : Fin 4096) (n : Fin 1024) :
    (val_main_v37 (F := Ideal) x0 x1 x2 x3 x4 x5 x6 (ix3 (n0 := 8) (n1 := 4096) (n2 := 1024) b s n) : EReal) = MixModel.hn (W x4 x5 x6 x7 x8 x9) (R x0 x1 x2 x3 b s) n := by
  have e := v22_at x0 x1 x2 x3 x4 x5 x6 x7 x8 x9 b s
  unfold val_main_v37 val_main_v34 val_main_v33 val_main_v32 val_main_v31 val_main_v29 val_main_v27 val_main_v26 val_main_v25 MixModel.hn MixModel.nrm
  generalize val_main_v22 (F := Ideal) x0 x1 x2 x3 x4 x5 = y at e
  simp only [← e]
  unfold W MixModel.weightsAt
  pointwise [val_main_v36, val_main_v35, val_main_v30, val_main_v28, val_main_v24, val_main_v23, val_main_cst_2, val_main_cst_3, val_main_cst_4]

theorem v40_at (b : Fin 8) (s : Fin 4096) (j : Fin 5632) :
    (val_main_v40 (F := Ideal) x0 x1 x2 x3 x4 x5 x6 x7 (ix3 (n0 := 8) (n1 := 4096) (n2 := 5632) b s j) : EReal)
      = ∑ k : Fin 1024, MixModel.hn (W x4 x5 x6 x7 x8 x9) (R x0 x1 x2 x3 b s) k * (W x4 x5 x6 x7 x8 x9).wgu k j := by
  have e := v37_at x0 x1 x2 x3 x4 x5 x6 x7 x8 x9 b s
  unfold val_main_v40
  generalize val_main_v37 (F := Ideal) x0 x1 x2 x3 x4 x5 x6 = y at e
  simp only [← e]
  unfold W MixModel.weightsAt
  pointwise [val_main_v39, val_main_v38]

theorem v44_at (b : Fin 8) (s : Fin 4096) (j : Fin 2816) :
    (val_main_v44 (F := Ideal) x0 x1 x2 x3 x4 x5 x6 x7 (ix3 (n0 := 8) (n1 := 4096) (n2 := 2816) b s j) : EReal) = MixModel.act (W x4 x5 x6 x7 x8 x9) (R x0 x1 x2 x3 b s) j := by
  have e := v40_at x0 x1 x2 x3 x4 x5 x6 x7 x8 x9 b s
  unfold val_main_v44 val_main_v43 val_main_call0_v5 val_main_call0_v3 val_main_call0_v1 val_main_call0_v0 val_main_v41 val_main_v42 MixModel.act MixModel.gated
  generalize val_main_v40 (F := Ideal) x0 x1 x2 x3 x4 x5 x6 x7 = y at e
  simp only [← e]
  pointwise [val_main_call0_v4, val_main_call0_v2, val_main_call0_cst, val_main_call0_cst_0]

theorem v48_at (b : Fin 8) (s : Fin 4096) (n : Fin 1024) :
    (val_main_v48 (F := Ideal) x0 x1 x2 x3 x4 x5 x6 x7 x8 (ix3 (n0 := 8) (n1 := 4096) (n2 := 1024) b s n) : EReal) = MixModel.h2 (W x4 x5 x6 x7 x8 x9) (R x0 x1 x2 x3 b s) n := by
  have e := v22_at x0 x1 x2 x3 x4 x5 x6 x7 x8 x9 b s
  have e' := v44_at x0 x1 x2 x3 x4 x5 x6 x7 x8 x9 b s
  unfold val_main_v48 val_main_v47 MixModel.h2
  generalize val_main_v22 (F := Ideal) x0 x1 x2 x3 x4 x5 = y at e
  generalize val_main_v44 (F := Ideal) x0 x1 x2 x3 x4 x5 x6 x7 = z at e'
  simp only [← e, ← e']
  unfold W MixModel.weightsAt
  pointwise [val_main_v46, val_main_v45]

theorem v61_at (b : Fin 8) (s : Fin 4096) (n : Fin 1024) :
    (val_main_v61 (F := Ideal) x0 x1 x2 x3 x4 x5 x6 x7 x8 x9 (ix3 (n0 := 8) (n1 := 4096) (n2 := 1024) b s n) : EReal) = MixModel.out (W x4 x5 x6 x7 x8 x9) (R x0 x1 x2 x3 b s) n := by
  have e := v48_at x0 x1 x2 x3 x4 x5 x6 x7 x8 x9 b s
  unfold val_main_v61 val_main_v58 val_main_v57 val_main_v56 val_main_v55 val_main_v53 val_main_v51 val_main_v50 val_main_v49 MixModel.out MixModel.nrm
  generalize val_main_v48 (F := Ideal) x0 x1 x2 x3 x4 x5 x6 x7 x8 = y at e
  simp only [← e]
  unfold W MixModel.weightsAt
  pointwise [val_main_v60, val_main_v59, val_main_v54, val_main_v52, val_main_cst_5, val_main_cst_6, val_main_cst_7]

end Cert.Reference2Ideal.Mix

end
-- ==== Proof.MixClaims.lean ====
/- The claims about the output projection with the feed-forward part. -/
module

public import proofs.«01_k».proof.Defs
public import proofs.«01_k».proof.Proof.MixIdeal.Value
public import proofs.«01_k».proof.Proof.MixRef.Value
public import Idealize.ShloMosaic.Lib.Quiescent

@[expose] public section

set_option maxRecDepth 16384

noncomputable section

namespace Cert.Mix

open Idealize.ShloMosaic Idealize.ShloMosaic.TcCoe Idealize.SL.Sem

/-- The reference's frame. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem reference_result (m : (ℓ : Loc Cert.Reference2Ideal.nD Cert.Reference2Ideal.τ Cert.Reference2Ideal.sig) → Buf (Elt Ideal) ℓ) (c : Dev Cert.Reference2Ideal.nD)
    (b : Fin 8) (s : Fin 4096) (n : Fin 1024) :
    Cert.Reference2Ideal.Value.res_main_v61 (F := Ideal) m c (ix3 (n0 := 8) (n1 := 4096) (n2 := 1024) b s n)
      = MixModel.out (MixModel.weightsAt 1 (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))
          (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)))
        (MixModel.rowAt (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
          (m ((c.tc : Thread Cert.Reference2Ideal.nD Cert.Reference2Ideal.τ).loc Cert.Reference2Ideal.main_arg3)) b s) n := by
  rw [Cert.Reference2Ideal.Read.val_main_v61_eq]
  exact Cert.Reference2Ideal.Mix.v61_at _ _ _ _ _ _ _ _ _ _ b s n

/-- The two results are one. -/
theorem algebraic : Cert.algebraic_Kernel2Ideal_Reference2Ideal := by
  intro m ρ m' ρ' _ hag
  refine ⟨fun c => Cert.Kernel2Ideal.Mix.result m c,
    (θ_run Cert.Kernel2Ideal.defs _ _).mono (fun _ h c => ⟨(h c).1.trans (Cert.Kernel2Ideal.Mix.final_10 m c), (h c).2⟩) (Cert.Kernel2Ideal.Value.run_blocks m ρ), ?_⟩
  refine (θ_run Cert.Reference2Ideal.defs _ _).mono (fun _ h c => ⟨(h c).1.trans ?_, (h c).2⟩) (Cert.Reference2Ideal.Value.run (F := Ideal) m' ρ')
  obtain ⟨e0, e1, e2, e3, e4, e5, e6, e7, e8, e9⟩ := hag c
  funext y
  have e := reference_result m' c (y 0) (y 1) (y 2)
  rw [e0, e1, e2, e3, e4, e5, e6, e7, e8, e9] at e
  refine Eq.trans (congrArg _ (eq_ix3 y)) (e.trans ?_)
  rfl

end Cert.Mix

end
-- ==== Proof.Mix0Ideal.Math.lean ====
/- What the kernel's values are at an index, from the blocks it reads. -/
module

public import proofs.«01_k».proof.Proof.Gen.Kernel3Ideal.Frame
public import proofs.«01_k».proof.Proof.MixModel
public import Idealize.ShloMosaic.Lib.Pointwise

@[expose] public section

set_option maxRecDepth 16384

noncomputable section

namespace Cert.Kernel3Ideal.Mix

open Cert.Kernel3Ideal Cert.Kernel3Ideal.Gen
open Idealize.ShloMosaic

/-- One row of a point's blocks. -/
def rowOf (x0 : Vec Ideal S1x1024x512 .bf16) (x1 x2 : Vec Ideal S1x1024x256 .bf16) (x3 : Vec Ideal S1x1024x1024 .f32) (r : Fin 1024) : MixModel.Row where
  a k := x0 (ix3 (n0 := 1) (n1 := 1024) (n2 := 512) 0 r k)
  s k := x1 (ix3 (n0 := 1) (n1 := 1024) (n2 := 256) 0 r k)
  c k := x2 (ix3 (n0 := 1) (n1 := 1024) (n2 := 256) 0 r k)
  h k := x3 (ix3 (n0 := 1) (n1 := 1024) (n2 := 1024) 0 r k)

/-- The weights of a point's blocks. -/
def weightsOf (x4 : Vec Ideal S1x512 .f32) (x5 : Vec Ideal S1x1024x1024 .bf16) (x6 : Vec Ideal S1x1024 .f32) (x7 : Vec Ideal S1x1024x5632 .bf16)
    (x8 : Vec Ideal S1x2816x1024 .bf16) (x9 : Vec Ideal S1x1024 .f32) : MixModel.Weights where
  ga k := x4 (ix2 (n0 := 1) (n1 := 512) 0 k)
  wo k n := x5 (ix3 (n0 := 1) (n1 := 1024) (n2 := 1024) 0 k n)
  gf k := x6 (ix2 (n0 := 1) (n1 := 1024) 0 k)
  wgu k n := x7 (ix3 (n0 := 1) (n1 := 1024) (n2 := 5632) 0 k n)
  wd k n := x8 (ix3 (n0 := 1) (n1 := 2816) (n2 := 1024) 0 k n)
  gfin k := x9 (ix2 (n0 := 1) (n1 := 1024) 0 k)

section Payloads

variable {F : FTy → Type} [FloatOps F]

/-- The attention's rows normed. -/
def normArr (v0 : Vec F S1x1024x512 .bf16) (v3 : Vec F S1x512 .f32) : FVec F S1024x512 .bf16 :=
  truncf .bf16 (mulf (mulf (extf .f32 (shapeCast S1024x512 v0 shapeCasts_S1x1024x512_S1024x512) bitsLt_bf16_f32) (broadcastTo S1024x512 (rsqrt (addf (divf (shapeCast S1024x1 (multiReduction .add [1] S1024 (mulf (extf .f32 (shapeCast S1024x512 v0 shapeCasts_S1x1024x512_S1024x512) bitsLt_bf16_f32) (extf .f32 (shapeCast S1024x512 v0 shapeCasts_S1x1024x512_S1024x512) bitsLt_bf16_f32)) 0x00000000#32 reduces_S1024x512_S1024 (.inl rfl) rfl) shapeCasts_S1024_S1024x1) (broadcast S1024x1 (Scalar.ofBits .f32 0x44000000#32))) (broadcast S1024x1 (Scalar.ofBits .f32 0x358637BD#32)))) broadcasts_S1024x1_S1024x512)) (broadcastTo S1024x512 (shapeCast S1x512 v3 shapeCasts_S1x512_S1x512) broadcasts_S1x512_S1024x512)) bitsLt_bf16_f32

/-- The branches side by side. -/
def mixArr (an : FVec F S1024x512 .bf16) (v18 v20 : Vec F S1x1024x256 .bf16) : FVec F S1024x1024 .bf16 :=
  concatenate S1024x1024 1 [⟨S1024x512, an⟩, ⟨S1024x256, shapeCast S1024x256 v18 shapeCasts_S1x1024x256_S1024x256⟩, ⟨S1024x256, shapeCast S1024x256 v20 shapeCasts_S1x1024x256_S1024x256⟩] concatenates_S1024x512_S1024x256_S1024x256_S1024x1024_d1

def h1Arr (mx : FVec F S1024x1024 .bf16) (v23 : Vec F S1x1024x1024 .f32) (v25 : Vec F S1x1024x1024 .bf16) : FVec F S1024x1024 .f32 :=
  addf (shapeCast S1024x1024 v23 shapeCasts_S1x1024x1024_S1024x1024) (matmul dot_S1024x1024_S1024x1024_S1024x1024_1_0_0_1_n_n none mx (shapeCast S1024x1024 v25 shapeCasts_S1x1024x1024_S1024x1024) (constant S1024x1024 .f32 0x00000000#32))

theorem pay3_eq (v0 : Vec F S1x1024x512 .bf16) (v3 : Vec F S1x512 .f32) (v18 v20 : Vec F S1x1024x256 .bf16) (v23 : Vec F S1x1024x1024 .f32) (v25 : Vec F S1x1024x1024 .bf16) :
    k0_pay3 v0 v3 v18 v20 v23 v25 = h1Arr (mixArr (normArr v0 v3) v18 v20) v23 v25 := by
  unfold k0_pay3 h1Arr mixArr normArr
  rfl

/-- A product with a block of columns. -/
def colsArr (v43 : FVec F S1024x1024 .bf16) (w : Vec F S1x1024x256 .bf16) : FVec F S1024x256 .f32 :=
  matmul dot_S1024x1024_S1024x256_S1024x256_1_0_0_1_n_n none v43 (shapeCast S1024x256 w shapeCasts_S1x1024x256_S1024x256) (constant S1024x256 .f32 0x00000000#32)

/-- A gated block. -/
def gatedArr (g u : FVec F S1024x256 .f32) : FVec F S1024x256 .bf16 :=
  shapeCast S1024x256 (truncf .bf16 (mulf (mulf g (divf (broadcast S1024x256 (Scalar.ofBits .f32 0x3F800000#32)) (addf (broadcast S1024x256 (Scalar.ofBits .f32 0x3F800000#32)) (exp (subf (broadcast S1024x256 (Scalar.ofBits .f32 0x00000000#32)) g))))) u) bitsLt_bf16_f32) shapeCasts_S1024x256_S1024x256

variable (v28 : FVec F S1024x1024 .f32) (v30 : FVec F S1x1024 .f32) (v33 : FVec F S1024x1 .f32) (z : FVec F S1024x1024 .bf16) (a b : Vec F S1x1024x256 .bf16)

theorem pay7_eq : k0_pay7 v28 v30 v33 a b = gatedArr (colsArr (k0_pay6 v28 v30 v33) a) (colsArr (k0_pay6 v28 v30 v33) b) := by
  unfold k0_pay7 gatedArr colsArr; rfl
theorem pay10_eq : k0_pay10 (k0_pay8 v28 v30 v33 a) (k0_pay9 v28 v30 v33 b) (Scalar.ofBits .f32 0x00000000#32) = gatedArr (colsArr (k0_pay6 v28 v30 v33) a) (colsArr (k0_pay6 v28 v30 v33) b) := by
  unfold k0_pay10 k0_pay8 k0_pay9 gatedArr colsArr; rfl
theorem pay11_eq : k0_pay11 z a b = gatedArr (colsArr z a) (colsArr z b) := by unfold k0_pay11 gatedArr colsArr; rfl
theorem pay13_eq : k0_pay13 z (k0_pay12 z a) b = gatedArr (colsArr z a) (colsArr z b) := by unfold k0_pay13 k0_pay12 gatedArr colsArr; rfl
theorem pay14_eq : k0_pay14 z a b = gatedArr (colsArr z a) (colsArr z b) := by unfold k0_pay14 gatedArr colsArr; rfl
theorem pay15_eq : k0_pay15 z a b = gatedArr (colsArr z a) (colsArr z b) := by unfold k0_pay15 gatedArr colsArr; rfl
theorem pay17_eq : k0_pay17 (k0_pay16 z a b) = gatedArr (colsArr z a) (colsArr z b) := by unfold k0_pay17 k0_pay16 gatedArr colsArr; rfl
theorem pay18_eq : k0_pay18 z a b = gatedArr (colsArr z a) (colsArr z b) := by unfold k0_pay18 gatedArr colsArr; rfl
theorem pay22_eq : k0_pay22 (k0_pay19 z a) (k0_pay20 z b) (k0_pay21 z a) = gatedArr (colsArr z a) (colsArr z b) := by
  unfold k0_pay22 k0_pay19 k0_pay20 k0_pay21 k0_pay19 gatedArr colsArr; rfl
theorem pay23_eq : k0_pay23 z a b = gatedArr (colsArr z a) (colsArr z b) := by unfold k0_pay23 gatedArr colsArr; rfl
theorem pay1_eq : k0_pay1 (k0_pay24 z a) (k0_pay25 z b) (k0_pay26 z a) = gatedArr (colsArr z a) (colsArr z b) := by
  unfold k0_pay1 k0_pay24 k0_pay25 k0_pay26 k0_pay24 gatedArr colsArr; rfl

end Payloads

theorem normArr_at (v0 : Vec Ideal S1x1024x512 .bf16) (v3 : Vec Ideal S1x512 .f32) (r : Fin 1024) (k : Fin 512) :
    (normArr v0 v3 (ix2 (n0 := 1024) (n1 := 512) r k) : EReal)
      = v0 (ix3 (n0 := 1) (n1 := 1024) (n2 := 512) 0 r k) * Ideal.rsqrt (Ideal.div (∑ j : Fin 512, v0 (ix3 (n0 := 1) (n1 := 1024) (n2 := 512) 0 r j) * v0 (ix3 (n0 := 1) (n1 := 1024) (n2 := 512) 0 r j)) (Ideal.ofBits .f32 0x44000000#32) + Ideal.ofBits .f32 0x358637BD#32) * v3 (ix2 (n0 := 1) (n1 := 512) 0 k) := by
  pointwise [normArr]

theorem mixArr_at (an : FVec Ideal S1024x512 .bf16) (v18 v20 : Vec Ideal S1x1024x256 .bf16) (r k : Fin 1024) :
    (mixArr an v18 v20 (ix2 (n0 := 1024) (n1 := 1024) r k) : EReal)
      = if h : k.val < 512 then an (ix2 (n0 := 1024) (n1 := 512) r ⟨k.val, h⟩)
        else if h' : k.val - 512 < 256 then v18 (ix3 (n0 := 1) (n1 := 1024) (n2 := 256) 0 r ⟨k.val - 512, h'⟩)
        else v20 (ix3 (n0 := 1) (n1 := 1024) (n2 := 256) 0 r ⟨k.val - 512 - 256, by omega⟩) := by
  pointwise [mixArr]

theorem h1Arr_at (mx : FVec Ideal S1024x1024 .bf16) (v23 : Vec Ideal S1x1024x1024 .f32) (v25 : Vec Ideal S1x1024x1024 .bf16) (r n : Fin 1024) :
    (h1Arr mx v23 v25 (ix2 (n0 := 1024) (n1 := 1024) r n) : EReal)
      = v23 (ix3 (n0 := 1) (n1 := 1024) (n2 := 1024) 0 r n) + ∑ k : Fin 1024, mx (ix2 (n0 := 1024) (n1 := 1024) r k) * v25 (ix3 (n0 := 1) (n1 := 1024) (n2 := 1024) 0 k n) := by
  pointwise [h1Arr]

theorem colsArr_at (z : FVec Ideal S1024x1024 .bf16) (w : Vec Ideal S1x1024x256 .bf16) (r : Fin 1024) (q : Fin 256) :
    (colsArr z w (ix2 (n0 := 1024) (n1 := 256) r q) : EReal)
      = ∑ k : Fin 1024, z (ix2 (n0 := 1024) (n1 := 1024) r k) * w (ix3 (n0 := 1) (n1 := 1024) (n2 := 256) 0 k q) := by
  pointwise [colsArr]

theorem gatedArr_at (g u : FVec Ideal S1024x256 .f32) (r : Fin 1024) (q : Fin 256) :
    (gatedArr g u (ix2 (n0 := 1024) (n1 := 256) r q) : EReal)
      = MixModel.gated (g (ix2 (n0 := 1024) (n1 := 256) r q)) (u (ix2 (n0 := 1024) (n1 := 256) r q)) := by
  have e (x : EReal) : -x = 0 - x := (zero_sub x).symm
  unfold MixModel.gated
  rw [e]
  pointwise [gatedArr]

theorem pay6_at (v28 : FVec Ideal S1024x1024 .f32) (v29 : Vec Ideal S1x1024 .f32) (v33 : FVec Ideal S1024x1 .f32) (r n : Fin 1024) :
    (k0_pay6 v28 (k0_pay4 v29) v33 (ix2 (n0 := 1024) (n1 := 1024) r n) : EReal)
      = v28 (ix2 (n0 := 1024) (n1 := 1024) r n) * Ideal.rsqrt (Ideal.div (v33 (ix2 (n0 := 1024) (n1 := 1) r 0)) (Ideal.ofBits .f32 0x44800000#32) + Ideal.ofBits .f32 0x358637BD#32) * v29 (ix2 (n0 := 1) (n1 := 1024) 0 n) := by
  pointwise [k0_pay6, k0_pay4]

theorem pay5_at (v0 : Vec Ideal S1x1024x512 .bf16) (v3 : Vec Ideal S1x512 .f32) (v18 v20 : Vec Ideal S1x1024x256 .bf16) (v23 : Vec Ideal S1x1024x1024 .f32) (v25 : Vec Ideal S1x1024x1024 .bf16) (r : Fin 1024) :
    (k0_pay5 v0 v3 v18 v20 v23 v25 (ix2 (n0 := 1024) (n1 := 1) r 0) : EReal)
      = ∑ k : Fin 1024, k0_pay3 v0 v3 v18 v20 v23 v25 (ix2 (n0 := 1024) (n1 := 1024) r k) * k0_pay3 v0 v3 v18 v20 v23 v25 (ix2 (n0 := 1024) (n1 := 1024) r k) := by
  unfold k0_pay5
  generalize k0_pay3 v0 v3 v18 v20 v23 v25 = y
  pointwise

/-- The result row, from the buffer of gated values. -/
def h2Arr (v28 : FVec Ideal S1024x1024 .f32) (v253 : Vec Ideal S1024x2816 .bf16) (v254 : Vec Ideal S1x2816x1024 .bf16) (r n : Fin 1024) : EReal :=
  v28 (ix2 (n0 := 1024) (n1 := 1024) r n) + ∑ j : Fin 2816, v253 (ix2 (n0 := 1024) (n1 := 2816) r j) * v254 (ix3 (n0 := 1) (n1 := 2816) (n2 := 1024) 0 j n)

theorem pay2_at (v28 : FVec Ideal S1024x1024 .f32) (v253 : Vec Ideal S1024x2816 .bf16) (v254 : Vec Ideal S1x2816x1024 .bf16) (r n : Fin 1024) :
    (k0_pay2 v28 v253 v254 (ix3 (n0 := 1) (n1 := 1024) (n2 := 1024) 0 r n) : EReal) = h2Arr v28 v253 v254 r n := by
  pointwise [k0_pay2, h2Arr]

end Cert.Kernel3Ideal.Mix

end
-- ==== Proof.Mix0Ideal.Point.lean ====
/- What the gated buffer and the result hold at a grid point. -/
module

public import proofs.«01_k».proof.Proof.Mix0Ideal.Math
public import Idealize.ShloMosaic.Lib.Pipeline.CanonAppend

@[expose] public section

set_option pp.maxSteps 1500
set_option maxRecDepth 16384

noncomputable section

namespace Cert.Kernel3Ideal.Mix

open Cert.Kernel3Ideal Cert.Kernel3Ideal.Gen
open Idealize.ShloMosaic
open Idealize.ShloMosaic.View

theorem read_whole {s : Shape} {e : EltTy} (arg : Memref sig .tc .vmem s e) (harg : arg.IsWhole) (x : Vec Ideal s e) (off : Fin s.rank → ℕ) (hz : ∀ a, off a = 0)
    (inb : ∀ a, off a + s.size a ≤ s.size a) :
    arg.view.readAt (Elt Ideal) (Rect.unit off s.size inb).toLoadRect (harg.unread x) = x := by
  funext y
  rw [View.readAt_apply, harg.read_unread]
  congr 1
  funext a
  apply Fin.ext
  show off a + 1 * (y a).val = (y a).val
  rw [hz a]
  omega

theorem zero3 : ∀ a : Fin 3, (![0, 0, 0] : Fin 3 → ℕ) a = 0 := by decide
theorem zero2 : ∀ a : Fin 2, (![0, 0] : Fin 2 → ℕ) a = 0 := by decide

theorem eq_ix2' {a b : ℕ} (x : (Shape.mk 2 ![a, b]).Idx) : x = ix2 (n0 := a) (n1 := b) (x 0) (x 1) := by
  funext k
  match k with
  | 0 => rfl
  | 1 => rfl

variable (c : Dev nD) (i : grid0.Coords) (arg2 : Memref sig .tc .vmem S1x1024x512 .bf16) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x1024 .f32) (harg5 : arg5.IsWhole) (arg6 : Memref sig .tc .vmem S1x512 .f32) (harg6 : arg6.IsWhole) (arg7 : Memref sig .tc .vmem S1x1024x1024 .bf16) (harg7 : arg7.IsWhole) (arg8 : Memref sig .tc .vmem S1x1024 .f32) (harg8 : arg8.IsWhole) (arg9 : Memref sig .tc .vmem S1x1024x5632 .bf16) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x2816 .bf16) (harg13 : arg13.IsWhole)
variable (x0 : Vec Ideal S1x1024x512 .bf16) (x1 : Vec Ideal S1x1024x256 .bf16) (x2 : Vec Ideal S1x1024x256 .bf16) (x3 : Vec Ideal S1x1024x1024 .f32) (x4 : Vec Ideal S1x512 .f32) (x5 : Vec Ideal S1x1024x1024 .bf16) (x6 : Vec Ideal S1x1024 .f32) (x7 : Vec Ideal S1x1024x5632 .bf16) (x8 : Vec Ideal S1x2816x1024 .bf16) (x9 : Vec Ideal S1x1024 .f32)

/-- The residual row after the output projection, of a point's blocks. -/
abbrev hB : FVec Ideal S1024x1024 .f32 := k0_pay3 x0 x4 x1 x2 x3 x5

/-- Its normed form. -/
abbrev nB : FVec Ideal S1024x1024 .bf16 := k0_pay6 (k0_pay3 x0 x4 x1 x2 x3 x5) (k0_pay4 x6) (k0_pay5 x0 x4 x1 x2 x3 x5)

abbrev WB : MixModel.Weights := weightsOf x4 x5 x6 x7 x8 x9

theorem hB_at (r n : Fin 1024) : (hB x0 x1 x2 x3 x4 x5 (ix2 (n0 := 1024) (n1 := 1024) r n) : EReal) = MixModel.h1 (WB x4 x5 x6 x7 x8 x9) (rowOf x0 x1 x2 x3 r) n := by
  unfold hB
  rw [pay3_eq, h1Arr_at]
  unfold MixModel.h1
  refine congrArg₂ (· + ·) rfl (Finset.sum_congr rfl fun k _ => ?_)
  rw [mixArr_at]
  refine congrArg₂ (· * ·) ?_ rfl
  unfold MixModel.mixed
  by_cases h : k.val < 512
  · rw [dif_pos h, dif_pos h, normArr_at]
    rfl
  · rw [dif_neg h, dif_neg h]
    rfl

theorem nB_at (r n : Fin 1024) : (nB x0 x1 x2 x3 x4 x5 x6 (ix2 (n0 := 1024) (n1 := 1024) r n) : EReal) = MixModel.hn (WB x4 x5 x6 x7 x8 x9) (rowOf x0 x1 x2 x3 r) n := by
  unfold nB
  rw [pay6_at, pay5_at]
  have e (k : Fin 1024) : (k0_pay3 x0 x4 x1 x2 x3 x5 (ix2 (n0 := 1024) (n1 := 1024) r k) : EReal) = MixModel.h1 (WB x4 x5 x6 x7 x8 x9) (rowOf x0 x1 x2 x3 r) k := hB_at x0 x1 x2 x3 x4 x5 x6 x7 x8 x9 r k
  unfold MixModel.hn MixModel.nrm
  rw [e n, Finset.sum_congr rfl fun k _ => congrArg₂ (· * ·) (e k) (e k)]
  rfl

theorem r_eq : kernelRun0_A.sl.r (F := Ideal) c arg2 harg2 arg3 harg3 arg4 harg4 arg5 harg5 arg6 harg6 arg7 harg7 x0 x1 x2 x3 x4 x5 = hB x0 x1 x2 x3 x4 x5 := by
  unfold kernelRun0_A.sl.r hB
  rw [read_whole arg2 harg2 x0 _ zero3, read_whole arg3 harg3 x1 _ zero3, read_whole arg4 harg4 x2 _ zero3, read_whole arg5 harg5 x3 _ zero3, read_whole arg6 harg6 x4 _ zero2, read_whole arg7 harg7 x5 _ zero3]

theorem r_1_eq : kernelRun0_A.sl.r_1 (F := Ideal) c arg8 harg8 x6 = k0_pay4 x6 := by
  unfold kernelRun0_A.sl.r_1
  rw [read_whole arg8 harg8 x6 _ zero2]

theorem r_2_eq : kernelRun0_A.sl.r_2 (F := Ideal) c arg2 harg2 arg3 harg3 arg4 harg4 arg5 harg5 arg6 harg6 arg7 harg7 x0 x1 x2 x3 x4 x5 = k0_pay5 x0 x4 x1 x2 x3 x5 := by
  unfold kernelRun0_A.sl.r_2
  rw [read_whole arg2 harg2 x0 _ zero3, read_whole arg3 harg3 x1 _ zero3, read_whole arg4 harg4 x2 _ zero3, read_whole arg5 harg5 x3 _ zero3, read_whole arg6 harg6 x4 _ zero2, read_whole arg7 harg7 x5 _ zero3]

theorem r_3_eq : kernelRun0_A.sl.r_3 (F := Ideal) c arg2 harg2 arg3 harg3 arg4 harg4 arg5 harg5 arg6 harg6 arg7 harg7 arg8 harg8 x0 x1 x2 x3 x4 x5 x6 = nB x0 x1 x2 x3 x4 x5 x6 := by
  unfold kernelRun0_A.sl.r_3 nB
  rw [r_eq, r_1_eq, r_2_eq]

theorem read_cols (o : ℕ) (inb : ∀ a, (![0, 0, o] : Fin 3 → ℕ) a + S1x1024x256.size a ≤ S1x1024x5632.size a) (k : Fin 1024) (q : Fin 256) (h : o + q.val < 5632) :
    arg9.view.readAt (Elt Ideal) (Rect.unit (s := S1x1024x5632) ![0, 0, o] S1x1024x256.size inb).toLoadRect (harg9.unread x7) (ix3 (n0 := 1) (n1 := 1024) (n2 := 256) 0 k q)
      = x7 (ix3 (n0 := 1) (n1 := 1024) (n2 := 5632) 0 k ⟨o + q.val, h⟩) := by
  rw [View.readAt_apply, harg9.read_unread]
  congr 1
  funext a
  apply Fin.ext
  match a with
  | 0 => show 0 + 1 * 0 = 0; omega
  | 1 => show 0 + 1 * k.val = k.val; omega
  | 2 => show o + 1 * q.val = o + q.val; omega

/-- The gated values of a point. -/
def actBlk (y : S1024x2816.Idx) : EReal := MixModel.act (WB x4 x5 x6 x7 x8 x9) (rowOf x0 x1 x2 x3 (y 0)) (y 1)

theorem chunk_at (o o' : ℕ) (ho : o + 256 ≤ 2816) (ho' : o' = 2816 + o)
    (inb : ∀ a, (![0, 0, o] : Fin 3 → ℕ) a + S1x1024x256.size a ≤ S1x1024x5632.size a) (inb' : ∀ a, (![0, 0, o'] : Fin 3 → ℕ) a + S1x1024x256.size a ≤ S1x1024x5632.size a)
    (r : Fin 1024) (q : Fin 256) (y : S1024x2816.Idx) (hy0 : (y 0).val = r.val) (hy1 : (y 1).val = o + q.val) :
    (gatedArr (colsArr (nB x0 x1 x2 x3 x4 x5 x6) (arg9.view.readAt (Elt Ideal) (Rect.unit (s := S1x1024x5632) ![0, 0, o] S1x1024x256.size inb).toLoadRect (harg9.unread x7)))
      (colsArr (nB x0 x1 x2 x3 x4 x5 x6) (arg9.view.readAt (Elt Ideal) (Rect.unit (s := S1x1024x5632) ![0, 0, o'] S1x1024x256.size inb').toLoadRect (harg9.unread x7)))
      (ix2 (n0 := 1024) (n1 := 256) r q) : EReal) = actBlk x0 x1 x2 x3 x4 x5 x6 x7 x8 x9 y := by
  subst ho'
  rw [gatedArr_at, colsArr_at, colsArr_at]
  unfold actBlk MixModel.act
  have hr : (y 0 : Fin 1024) = r := Fin.ext hy0
  rw [hr]
  refine congrArg₂ MixModel.gated (Finset.sum_congr rfl fun k _ => ?_) (Finset.sum_congr rfl fun k _ => ?_)
  · rw [nB_at x0 x1 x2 x3 x4 x5 x6 x7 x8 x9, read_cols arg9 harg9 x7 o inb k q (by omega)]
    refine congrArg₂ (· * ·) rfl (congrArg x7 (congrArg (ix3 (n0 := 1) (n1 := 1024) (n2 := 5632) 0 k) (Fin.ext ?_)))
    show o + q.val = (y 1).val
    omega
  · rw [nB_at x0 x1 x2 x3 x4 x5 x6 x7 x8 x9, read_cols arg9 harg9 x7 (2816 + o) inb' k q (by omega)]
    refine congrArg₂ (· * ·) rfl (congrArg x7 (congrArg (ix3 (n0 := 1) (n1 := 1024) (n2 := 5632) 0 k) (Fin.ext ?_)))
    show 2816 + o + q.val = 2816 + (y 1).val
    omega

theorem pieces : ∀ p ∈ kernelRun0_A.sl.HS0_11 (F := Ideal) c arg2 harg2 arg3 harg3 arg4 harg4 arg5 harg5 arg6 harg6 arg7 harg7 arg8 harg8 arg9 harg9 x0 x1 x2 x3 x4 x5 x6 x7, ∀ x : p.1.shape.Idx, p.2 x = actBlk x0 x1 x2 x3 x4 x5 x6 x7 x8 x9 (p.1.emb x) := by
  unfold kernelRun0_A.sl.HS0_11
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_11 kernelRun0_A.sl.r_12 kernelRun0_A.sl.r_13
    rw [r_3_eq]
    refine (congrFun (pay1_eq _ _ _) _).trans ?_
    exact chunk_at arg9 harg9 x0 x1 x2 x3 x4 x5 x6 x7 x8 x9 2560 5376 (by decide) (by rfl) _ _ r q _ (by show 0 + 1 * r.val = r.val; omega) (by show 2560 + 1 * q.val = 2560 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay23_eq _ _ _) _).trans ?_
    exact chunk_at arg9 harg9 x0 x1 x2 x3 x4 x5 x6 x7 x8 x9 2304 5120 (by decide) (by rfl) _ _ r q _ (by show 0 + 1 * r.val = r.val; omega) (by show 2304 + 1 * q.val = 2304 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_8 kernelRun0_A.sl.r_9 kernelRun0_A.sl.r_10
    rw [r_3_eq]
    refine (congrFun (pay22_eq _ _ _) _).trans ?_
    exact chunk_at arg9 harg9 x0 x1 x2 x3 x4 x5 x6 x7 x8 x9 2048 4864 (by decide) (by rfl) _ _ r q _ (by show 0 + 1 * r.val = r.val; omega) (by show 2048 + 1 * q.val = 2048 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay18_eq _ _ _) _).trans ?_
    exact chunk_at arg9 harg9 x0 x1 x2 x3 x4 x5 x6 x7 x8 x9 1792 4608 (by decide) (by rfl) _ _ r q _ (by show 0 + 1 * r.val = r.val; omega) (by show 1792 + 1 * q.val = 1792 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_7
    rw [r_3_eq]
    refine (congrFun (pay17_eq _ _ _) _).trans ?_
    exact chunk_at arg9 harg9 x0 x1 x2 x3 x4 x5 x6 x7 x8 x9 1536 4352 (by decide) (by rfl) _ _ r q _ (by show 0 + 1 * r.val = r.val; omega) (by show 1536 + 1 * q.val = 1536 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay15_eq _ _ _) _).trans ?_
    exact chunk_at arg9 harg9 x0 x1 x2 x3 x4 x5 x6 x7 x8 x9 1280 4096 (by decide) (by rfl) _ _ r q _ (by show 0 + 1 * r.val = r.val; omega) (by show 1280 + 1 * q.val = 1280 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay14_eq _ _ _) _).trans ?_
    exact chunk_at arg9 harg9 x0 x1 x2 x3 x4 x5 x6 x7 x8 x9 1024 3840 (by decide) (by rfl) _ _ r q _ (by show 0 + 1 * r.val = r.val; omega) (by show 1024 + 1 * q.val = 1024 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_6
    rw [r_3_eq]
    refine (congrFun (pay13_eq _ _ _) _).trans ?_
    exact chunk_at arg9 harg9 x0 x1 x2 x3 x4 x5 x6 x7 x8 x9 768 3584 (by decide) (by rfl) _ _ r q _ (by show 0 + 1 * r.val = r.val; omega) (by show 768 + 1 * q.val = 768 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_3_eq]
    refine (congrFun (pay11_eq _ _ _) _).trans ?_
    exact chunk_at arg9 harg9 x0 x1 x2 x3 x4 x5 x6 x7 x8 x9 512 3328 (by decide) (by rfl) _ _ r q _ (by show 0 + 1 * r.val = r.val; omega) (by show 512 + 1 * q.val = 512 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    unfold kernelRun0_A.sl.r_4 kernelRun0_A.sl.r_5 kernelRun0_A.sl.cst_42
    rw [r_eq, r_1_eq, r_2_eq]
    refine (congrFun (pay10_eq _ _ _ _ _) _).trans ?_
    exact chunk_at arg9 harg9 x0 x1 x2 x3 x4 x5 x6 x7 x8 x9 256 3072 (by decide) (by rfl) _ _ r q _ (by show 0 + 1 * r.val = r.val; omega) (by show 256 + 1 * q.val = 256 + q.val; omega)
  refine List.forall_mem_cons.mpr ⟨fun x => ?_, ?_⟩
  · obtain ⟨r, q, rfl⟩ : ∃ (r : Fin 1024) (q : Fin 256), x = ix2 (n0 := 1024) (n1 := 256) r q := ⟨x 0, x 1, eq_ix2' x⟩
    dsimp only
    rw [r_eq, r_1_eq, r_2_eq]
    refine (congrFun (pay7_eq _ _ _ _ _) _).trans ?_
    exact chunk_at arg9 harg9 x0 x1 x2 x3 x4 x5 x6 x7 x8 x9 0 2816 (by decide) (by rfl) _ _ r q _ (by show 0 + 1 * r.val = r.val; omega) (by show 0 + 1 * q.val = 0 + q.val; omega)
  exact List.forall_mem_nil _

theorem v253_at (r : Fin 1024) (j : Fin 2816) :
    kernelRun0_A.sl.v253 (F := Ideal) c arg2 harg2 arg3 harg3 arg4 harg4 arg5 harg5 arg6 harg6 arg7 harg7 arg8 harg8 arg9 harg9 arg13 x0 x1 x2 x3 x4 x5 x6 x7 (ix2 (n0 := 1024) (n1 := 2816) r j) = MixModel.act (WB x4 x5 x6 x7 x8 x9) (rowOf x0 x1 x2 x3 r) j := by
  unfold kernelRun0_A.sl.v253
  rw [View.readCov_eq_canon']
  beta_reduce
  rw [View.canon_apply_of_pieces (actBlk x0 x1 x2 x3 x4 x5 x6 x7 x8 x9) _ (pieces c arg2 harg2 arg3 harg3 arg4 harg4 arg5 harg5 arg6 harg6 arg7 harg7 arg8 harg8 arg9 harg9 x0 x1 x2 x3 x4 x5 x6 x7 x8 x9) _ (View.cover_of_tiled _ ![1024, 256] (by rfl) _)]
  unfold actBlk
  congr 1
  · congr 1
    apply Fin.ext; show 0 + 1 * r.val = r.val; omega
  · apply Fin.ext; show 0 + 1 * j.val = j.val; omega

/-- The block a point writes. -/
def outBlk (y : S1x1024x1024.Idx) : EReal := MixModel.h2 (WB x4 x5 x6 x7 x8 x9) (rowOf x0 x1 x2 x3 (y 1)) (y 2)

theorem out_at (r n : Fin 1024) :
    k0_pay2 (F := Ideal) (kernelRun0_A.sl.r c arg2 harg2 arg3 harg3 arg4 harg4 arg5 harg5 arg6 harg6 arg7 harg7 x0 x1 x2 x3 x4 x5) (kernelRun0_A.sl.v253 c arg2 harg2 arg3 harg3 arg4 harg4 arg5 harg5 arg6 harg6 arg7 harg7 arg8 harg8 arg9 harg9 arg13 x0 x1 x2 x3 x4 x5 x6 x7) x8 (ix3 (n0 := 1) (n1 := 1024) (n2 := 1024) 0 r n)
      = MixModel.h2 (WB x4 x5 x6 x7 x8 x9) (rowOf x0 x1 x2 x3 r) n := by
  refine (pay2_at _ _ _ r n).trans ?_
  unfold h2Arr MixModel.h2
  rw [r_eq, hB_at x0 x1 x2 x3 x4 x5 x6 x7 x8 x9]
  refine congrArg₂ (· + ·) rfl (Finset.sum_congr rfl fun j _ => ?_)
  rw [v253_at c arg2 harg2 arg3 harg3 arg4 harg4 arg5 harg5 arg6 harg6 arg7 harg7 arg8 harg8 arg9 harg9 arg13 x0 x1 x2 x3 x4 x5 x6 x7 x8 x9]
  rfl

theorem out_eq : out0_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = outBlk x0 x1 x2 x3 x4 x5 x6 x7 x8 x9 := by
  funext y
  unfold out0_A_10
  rw [View.read_writes_junk_apply_eq_canon]
  refine View.canon_apply_of_pieces (Val := Elt Ideal) (e := .f32) (outBlk x0 x1 x2 x3 x4 x5 x6 x7 x8 x9) (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 ?_ y (View.cover_of_tiled _ ![1, 1024, 1024] (by rfl) y)
  refine List.forall_mem_cons.mpr ⟨fun x => ?_, List.forall_mem_nil _⟩
  obtain ⟨r, n, rfl⟩ : ∃ (r n : Fin 1024), x = ix3 (n0 := 1) (n1 := 1024) (n2 := 1024) 0 r n := ⟨x 1, x 2, by
    funext a
    match a with
    | 0 => exact Fin.ext (by have h : (x 0).val < 1 := (x 0).isLt; show (x 0).val = 0; omega)
    | 1 => rfl
    | 2 => rfl⟩
  rw [read_whole arg10 harg10 x8 _ zero3]
  refine (out_at c arg2 harg2 arg3 harg3 arg4 harg4 arg5 harg5 arg6 harg6 arg7 harg7 arg8 harg8 arg9 harg9 arg13 x0 x1 x2 x3 x4 x5 x6 x7 x8 x9 r n).trans ?_
  unfold outBlk
  congr 1
  · congr 1
    apply Fin.ext; show r.val = 0 + 1 * r.val; omega
  · apply Fin.ext; show n.val = 0 + 1 * n.val; omega

end Cert.Kernel3Ideal.Mix

end
-- ==== Proof.Mix0Ideal.Value.lean ====
/- The run of the call: its result array is the model's result. -/
module

public import proofs.«01_k».proof.Proof.Mix0Ideal.Point
public import proofs.«01_k».proof.Proof.Gen.Kernel3Ideal.Value
public import Idealize.ShloMosaic.Lib.StableHlo.ReadAt
public import Idealize.ShloMosaic.Lib.Pointwise

@[expose] public section

set_option maxRecDepth 16384

noncomputable section

namespace Cert.Kernel3Ideal.Mix

open Cert.Kernel3Ideal Cert.Kernel3Ideal.Gen
open Idealize.ShloMosaic Idealize.ShloMosaic.TcCoe Idealize.ShloMosaic.Tactic Idealize.SL Idealize.SL.Sem

variable (m : (ℓ : Loc nD τ sig) → Buf (Elt Ideal) ℓ) (ρ : Dev nD → PrngReg) (c : Dev nD)

theorem lt_points (t : Fin cfg0.N) : t.val < 32 := lt_of_lt_of_eq t.isLt N_0

theorem idx_0 : ∀ t : Fin cfg0.N, win0_0.index t (0 : Fin 3) = t.val % 8 ∧ win0_0.index t (1 : Fin 3) = t.val / 8 ∧ win0_0.index t (2 : Fin 3) = 0 :=
  (by decide +kernel : ∀ t : Fin grid0.N, _)

theorem iblk_0 (t : Fin cfg0.N) (r : Fin 1024) (k : Fin 512) (hb : t.val % 8 < 8) (hs : 1024 * (t.val / 8) + r.val < 4096) :
    (iblk m c 0 t : Vec Ideal S1x1024x512 _) (ix3 (n0 := 1) (n1 := 1024) (n2 := 512) 0 r k) = m ((c : Thread nD τ).loc main_arg0) (ix3 (n0 := 8) (n1 := 4096) (n2 := 512) ⟨t.val % 8, hb⟩ ⟨1024 * (t.val / 8) + r.val, hs⟩ k) := by
  obtain ⟨e0, e1, e2⟩ := idx_0 t
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val % 8; omega
  | ⟨1, _⟩ => show win0_0.index t (1 : Fin 3) * 1024 + 1 * r.val = 1024 * (t.val / 8) + r.val; omega
  | ⟨2, _⟩ => show win0_0.index t (2 : Fin 3) * 512 + 1 * k.val = k.val; omega

theorem idx_1 : ∀ t : Fin cfg0.N, win0_1.index t (0 : Fin 3) = t.val % 8 ∧ win0_1.index t (1 : Fin 3) = t.val / 8 ∧ win0_1.index t (2 : Fin 3) = 0 :=
  (by decide +kernel : ∀ t : Fin grid0.N, _)

theorem iblk_1 (t : Fin cfg0.N) (r : Fin 1024) (k : Fin 256) (hb : t.val % 8 < 8) (hs : 1024 * (t.val / 8) + r.val < 4096) :
    (iblk m c 1 t : Vec Ideal S1x1024x256 _) (ix3 (n0 := 1) (n1 := 1024) (n2 := 256) 0 r k) = m ((c : Thread nD τ).loc main_arg1) (ix3 (n0 := 8) (n1 := 4096) (n2 := 256) ⟨t.val % 8, hb⟩ ⟨1024 * (t.val / 8) + r.val, hs⟩ k) := by
  obtain ⟨e0, e1, e2⟩ := idx_1 t
  show V m c main_arg1 _ = m ((c : Thread nD τ).loc main_arg1) _
  rw [V_main_arg1]
  congr 1
  funext a
  apply Fin.ext
  match a with
  | ⟨0, _⟩ => show win0_1.index t (0 : Fin 3) * 1 + 1 * 0 = t.val % 8; omega
  | ⟨1, _⟩ => show win0_1.index t (1 : Fin 3) * 1024 + 1 * r.val = 1024 * (t.val / 8) + r.val; omega
  | ⟨2, _⟩ => show win0_1.index t (2 : Fin 3) * 256 + 1 * k.val = k.val; omega

theorem idx_2 : ∀ t : Fin cfg0.N, win0_2.index t (0 : Fin 3) = t.val % 8 ∧ win0_2.index t (1 : Fin 3) = t.val / 8 ∧ win0_2.index t (2 : Fin 3) = 0 :=
  (by decide +kernel : ∀ t : Fin grid0.N, _)

theorem iblk_2 (t : Fin cfg0.N) (r : Fin 1024) (k : Fin 256) (hb : t.val % 8 < 8) (hs : 1024 * (t.val / 8) + r.val < 4096) :
    (iblk m c 2 t : Vec Ideal S1x1024x256 _) (ix3 (n0 := 1) (n1 := 1024) (n2 := 256) 0 r k) = m ((c : Thread nD τ).loc main_arg2) (ix3 (n0 := 8) (n1 := 4096) (n2 := 256) ⟨t.val % 8, hb⟩ ⟨1024 * (t.val / 8) + r.val, hs⟩ k) := by
  obtain ⟨e0, e1, e2⟩ := idx_2 t
  show V m c main_arg2 _ = m ((c : Thread nD τ).loc main_arg2) _
  rw [V_main_arg2]
  congr 1
  funext a
  apply Fin.ext
  match a with
  | ⟨0, _⟩ => show win0_2.index t (0 : Fin 3) * 1 + 1 * 0 = t.val % 8; omega
  | ⟨1, _⟩ => show win0_2.index t (1 : Fin 3) * 1024 + 1 * r.val = 1024 * (t.val / 8) + r.val; omega
  | ⟨2, _⟩ => show win0_2.index t (2 : Fin 3) * 256 + 1 * k.val = k.val; omega

theorem idx_3 : ∀ t : Fin cfg0.N, win0_3.index t (0 : Fin 3) = t.val % 8 ∧ win0_3.index t (1 : Fin 3) = t.val / 8 ∧ win0_3.index t (2 : Fin 3) = 0 :=
  (by decide +kernel : ∀ t : Fin grid0.N, _)

theorem iblk_3 (t : Fin cfg0.N) (r : Fin 1024) (k : Fin 1024) (hb : t.val % 8 < 8) (hs : 1024 * (t.val / 8) + r.val < 4096) :
    (iblk m c 3 t : Vec Ideal S1x1024x1024 _) (ix3 (n0 := 1) (n1 := 1024) (n2 := 1024) 0 r k) = m ((c : Thread nD τ).loc main_arg3) (ix3 (n0 := 8) (n1 := 4096) (n2 := 1024) ⟨t.val % 8, hb⟩ ⟨1024 * (t.val / 8) + r.val, hs⟩ k) := by
  obtain ⟨e0, e1, e2⟩ := idx_3 t
  show V m c main_arg3 _ = m ((c : Thread nD τ).loc main_arg3) _
  rw [V_main_arg3]
  congr 1
  funext a
  apply Fin.ext
  match a with
  | ⟨0, _⟩ => show win0_3.index t (0 : Fin 3) * 1 + 1 * 0 = t.val % 8; omega
  | ⟨1, _⟩ => show win0_3.index t (1 : Fin 3) * 1024 + 1 * r.val = 1024 * (t.val / 8) + r.val; omega
  | ⟨2, _⟩ => show win0_3.index t (2 : Fin 3) * 1024 + 1 * k.val = k.val; omega

theorem idx_4 : ∀ t : Fin cfg0.N, win0_4.index t (0 : Fin 2) = 0 ∧ win0_4.index t (1 : Fin 2) = 0 :=
  (by decide +kernel : ∀ t : Fin grid0.N, _)

theorem V_4 (k : Fin 512) : (V m c main_v5 : Vec Ideal S1x512 .f32) (ix2 (n0 := 1) (n1 := 512) 0 k) = m ((c : Thread nD τ).loc main_arg4) (ix2 (n0 := 2) (n1 := 512) 0 k) := by
  unfold V
  after_reads_at

theorem iblk_4 (t : Fin cfg0.N) (k : Fin 512) : (iblk m c 4 t : Vec Ideal S1x512 .f32) (ix2 (n0 := 1) (n1 := 512) 0 k) = m ((c : Thread nD τ).loc main_arg4) (ix2 (n0 := 2) (n1 := 512) 0 k) := by
  obtain ⟨e0, e1⟩ := idx_4 t
  refine Eq.trans ?_ (V_4 m c k)
  show V m c main_v5 (((cfg0.win 4).blk t).view.emb _) = V m c main_v5 _
  congr 1
  funext a
  apply Fin.ext
  match a with
  | ⟨0, _⟩ => show win0_4.index t (0 : Fin 2) * 1 + 1 * 0 = 0; omega
  | ⟨1, _⟩ => show win0_4.index t (1 : Fin 2) * 512 + 1 * k.val = k.val; omega

theorem idx_6 : ∀ t : Fin cfg0.N, win0_6.index t (0 : Fin 2) = 0 ∧ win0_6.index t (1 : Fin 2) = 0 :=
  (by decide +kernel : ∀ t : Fin grid0.N, _)

theorem V_6 (k : Fin 1024) : (V m c main_v8 : Vec Ideal S1x1024 .f32) (ix2 (n0 := 1) (n1 := 1024) 0 k) = m ((c : Thread nD τ).loc main_arg6) (ix2 (n0 := 2) (n1 := 1024) 0 k) := by
  unfold V
  after_reads_at

theorem iblk_6 (t : Fin cfg0.N) (k : Fin 1024) : (iblk m c 6 t : Vec Ideal S1x1024 .f32) (ix2 (n0 := 1) (n1 := 1024) 0 k) = m ((c : Thread nD τ).loc main_arg6) (ix2 (n0 := 2) (n1 := 1024) 0 k) := by
  obtain ⟨e0, e1⟩ := idx_6 t
  refine Eq.trans ?_ (V_6 m c k)
  show V m c main_v8 (((cfg0.win 6).blk t).view.emb _) = V m c main_v8 _
  congr 1
  funext a
  apply Fin.ext
  match a with
  | ⟨0, _⟩ => show win0_6.index t (0 : Fin 2) * 1 + 1 * 0 = 0; omega
  | ⟨1, _⟩ => show win0_6.index t (1 : Fin 2) * 1024 + 1 * k.val = k.val; omega

theorem idx_9 : ∀ t : Fin cfg0.N, win0_9.index t (0 : Fin 2) = 0 ∧ win0_9.index t (1 : Fin 2) = 0 :=
  (by decide +kernel : ∀ t : Fin grid0.N, _)

theorem V_9 (k : Fin 1024) : (V m c main_v9 : Vec Ideal S1x1024 .f32) (ix2 (n0 := 1) (n1 := 1024) 0 k) = m ((c : Thread nD τ).loc main_arg9) (ix1 (n0 := 1024) k) := by
  unfold V
  after_reads_at

theorem iblk_9 (t : Fin cfg0.N) (k : Fin 1024) : (iblk m c 9 t : Vec Ideal S1x1024 .f32) (ix2 (n0 := 1) (n1 := 1024) 0 k) = m ((c : Thread nD τ).loc main_arg9) (ix1 (n0 := 1024) k) := by
  obtain ⟨e0, e1⟩ := idx_9 t
  refine Eq.trans ?_ (V_9 m c k)
  show V m c main_v9 (((cfg0.win 9).blk t).view.emb _) = V m c main_v9 _
  congr 1
  funext a
  apply Fin.ext
  match a with
  | ⟨0, _⟩ => show win0_9.index t (0 : Fin 2) * 1 + 1 * 0 = 0; omega
  | ⟨1, _⟩ => show win0_9.index t (1 : Fin 2) * 1024 + 1 * k.val = k.val; omega

theorem idx_5 : ∀ t : Fin cfg0.N, win0_5.index t (0 : Fin 3) = 0 ∧ win0_5.index t (1 : Fin 3) = 0 ∧ win0_5.index t (2 : Fin 3) = 0 :=
  (by decide +kernel : ∀ t : Fin grid0.N, _)

theorem V_5 (l : Fin 2) (k : Fin 1024) (n : Fin 1024) : (V m c main_v0 : Vec Ideal S2x1024x1024 .bf16) (ix3 (n0 := 2) (n1 := 1024) (n2 := 1024) l k n) = m ((c : Thread nD τ).loc main_arg5) (ix3 (n0 := 2) (n1 := 1024) (n2 := 1024) l k n) := by
  unfold V
  after_reads_at

theorem iblk_5 (t : Fin cfg0.N) (k : Fin 1024) (n : Fin 1024) : (iblk m c 5 t : Vec Ideal S1x1024x1024 .bf16) (ix3 (n0 := 1) (n1 := 1024) (n2 := 1024) 0 k n) = m ((c : Thread nD τ).loc main_arg5) (ix3 (n0 := 2) (n1 := 1024) (n2 := 1024) 0 k n) := by
  obtain ⟨e0, e1, e2⟩ := idx_5 t
  refine Eq.trans ?_ (V_5 m c 0 k n)
  show V m c main_v0 (((cfg0.win 5).blk t).view.emb _) = V m c main_v0 _
  congr 1
  funext a
  apply Fin.ext
  match a with
  | ⟨0, _⟩ => show win0_5.index t (0 : Fin 3) * 1 + 1 * 0 = 0; omega
  | ⟨1, _⟩ => show win0_5.index t (1 : Fin 3) * 1024 + 1 * k.val = k.val; omega
  | ⟨2, _⟩ => show win0_5.index t (2 : Fin 3) * 1024 + 1 * n.val = n.val; omega

theorem idx_7 : ∀ t : Fin cfg0.N, win0_7.index t (0 : Fin 3) = 0 ∧ win0_7.index t (1 : Fin 3) = 0 ∧ win0_7.index t (2 : Fin 3) = 0 :=
  (by decide +kernel : ∀ t : Fin grid0.N, _)

theorem V_7 (l : Fin 2) (k : Fin 1024) (n : Fin 5632) : (V m c main_v1 : Vec Ideal S2x1024x5632 .bf16) (ix3 (n0 := 2) (n1 := 1024) (n2 := 5632) l k n) = m ((c : Thread nD τ).loc main_arg7) (ix3 (n0 := 2) (n1 := 1024) (n2 := 5632) l k n) := by
  unfold V
  after_reads_at

theorem iblk_7 (t : Fin cfg0.N) (k : Fin 1024) (n : Fin 5632) : (iblk m c 7 t : Vec Ideal S1x1024x5632 .bf16) (ix3 (n0 := 1) (n1 := 1024) (n2 := 5632) 0 k n) = m ((c : Thread nD τ).loc main_arg7) (ix3 (n0 := 2) (n1 := 1024) (n2 := 5632) 0 k n) := by
  obtain ⟨e0, e1, e2⟩ := idx_7 t
  refine Eq.trans ?_ (V_7 m c 0 k n)
  show V m c main_v1 (((cfg0.win 7).blk t).view.emb _) = V m c main_v1 _
  congr 1
  funext a
  apply Fin.ext
  match a with
  | ⟨0, _⟩ => show win0_7.index t (0 : Fin 3) * 1 + 1 * 0 = 0; omega
  | ⟨1, _⟩ => show win0_7.index t (1 : Fin 3) * 1024 + 1 * k.val = k.val; omega
  | ⟨2, _⟩ => show win0_7.index t (2 : Fin 3) * 5632 + 1 * n.val = n.val; omega

theorem idx_8 : ∀ t : Fin cfg0.N, win0_8.index t (0 : Fin 3) = 0 ∧ win0_8.index t (1 : Fin 3) = 0 ∧ win0_8.index t (2 : Fin 3) = 0 :=
  (by decide +kernel : ∀ t : Fin grid0.N, _)

theorem V_8 (l : Fin 2) (k : Fin 2816) (n : Fin 1024) : (V m c main_v2 : Vec Ideal S2x2816x1024 .bf16) (ix3 (n0 := 2) (n1 := 2816) (n2 := 1024) l k n) = m ((c : Thread nD τ).loc main_arg8) (ix3 (n0 := 2) (n1 := 2816) (n2 := 1024) l k n) := by
  unfold V
  after_reads_at

theorem iblk_8 (t : Fin cfg0.N) (k : Fin 2816) (n : Fin 1024) : (iblk m c 8 t : Vec Ideal S1x2816x1024 .bf16) (ix3 (n0 := 1) (n1 := 2816) (n2 := 1024) 0 k n) = m ((c : Thread nD τ).loc main_arg8) (ix3 (n0 := 2) (n1 := 2816) (n2 := 1024) 0 k n) := by
  obtain ⟨e0, e1, e2⟩ := idx_8 t
  refine Eq.trans ?_ (V_8 m c 0 k n)
  show V m c main_v2 (((cfg0.win 8).blk t).view.emb _) = V m c main_v2 _
  congr 1
  funext a
  apply Fin.ext
  match a with
  | ⟨0, _⟩ => show win0_8.index t (0 : Fin 3) * 1 + 1 * 0 = 0; omega
  | ⟨1, _⟩ => show win0_8.index t (1 : Fin 3) * 2816 + 1 * k.val = k.val; omega
  | ⟨2, _⟩ => show win0_8.index t (2 : Fin 3) * 1024 + 1 * n.val = n.val; omega

/-- The weights of the run. -/
def weightsK : MixModel.Weights := MixModel.weightsAt 0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The rows of the run. -/
def rowK (b : Fin 8) (s : Fin 4096) : MixModel.Row := MixModel.rowAt (m ((c : Thread nD τ).loc main_arg0)) (m ((c : Thread nD τ).loc main_arg1)) (m ((c : Thread nD τ).loc main_arg2)) (m ((c : Thread nD τ).loc main_arg3)) b s

theorem weights_eq (t : Fin cfg0.N) : weightsOf (iblk m c 4 t) (iblk m c 5 t) (iblk m c 6 t) (iblk m c 7 t) (iblk m c 8 t) (iblk m c 9 t) = weightsK m c := by
  have e4 := iblk_4 m c t
  have e5 := iblk_5 m c t
  have e6 := iblk_6 m c t
  have e7 := iblk_7 m c t
  have e8 := iblk_8 m c t
  have e9 := iblk_9 m c t
  unfold weightsOf weightsK MixModel.weightsAt
  rw [MixModel.Weights.mk.injEq]
  exact ⟨funext e4, funext fun k => funext (e5 k), funext e6, funext fun k => funext (e7 k), funext fun k => funext (e8 k), funext e9⟩

theorem row_eq (t : Fin cfg0.N) (r : Fin 1024) (hb : t.val % 8 < 8) (hs : 1024 * (t.val / 8) + r.val < 4096) :
    rowOf (iblk m c 0 t) (iblk m c 1 t) (iblk m c 2 t) (iblk m c 3 t) r = rowK m c ⟨t.val % 8, hb⟩ ⟨1024 * (t.val / 8) + r.val, hs⟩ := by
  unfold rowOf rowK MixModel.rowAt
  rw [MixModel.Row.mk.injEq]
  exact ⟨funext fun k => iblk_0 m c t r k hb hs, funext fun k => iblk_1 m c t r k hb hs, funext fun k => iblk_2 m c t r k hb hs, funext fun k => iblk_3 m c t r k hb hs⟩

/-- The result array. -/
def result : Vec Ideal S8x4096x1024 .f32 := fun y => MixModel.h2 (weightsK m c) (rowK m c (y 0) (y 1)) (y 2)

theorem idx_10 : ∀ t : Fin cfg0.N, (cfg0.win 10).flush t = true ∧ win0_10.index t (0 : Fin 3) = t.val % 8 ∧ win0_10.index t (1 : Fin 3) = t.val / 8 ∧ win0_10.index t (2 : Fin 3) = 0 :=
  (by decide +kernel : ∀ t : Fin grid0.N, _)

theorem flushed_10 (t : Fin cfg0.N) : (dats m 0 c).flushed 10 t = ((cfg0.win 10).blk t).view.read (Elt Ideal) (result m c) := by
  rw [Value.flushed10_A, out_eq]
  obtain ⟨-, e0, e1, e2⟩ := idx_10 t
  have hl := lt_points t
  funext y
  have hy0 : (y 0).val < 1 := (y 0).isLt
  have hy1 : (y 1).val < 1024 := (y 1).isLt
  have hy2 : (y 2).val < 1024 := (y 2).isLt
  show MixModel.h2 (weightsOf (iblk m c 4 t) (iblk m c 5 t) (iblk m c 6 t) (iblk m c 7 t) (iblk m c 8 t) (iblk m c 9 t)) (rowOf (iblk m c 0 t) (iblk m c 1 t) (iblk m c 2 t) (iblk m c 3 t) ⟨(y 1).val, hy1⟩) ⟨(y 2).val, hy2⟩
    = MixModel.h2 (weightsK m c) (rowK m c (((cfg0.win 10).blk t).view.emb y 0) (((cfg0.win 10).blk t).view.emb y 1)) (((cfg0.win 10).blk t).view.emb y 2)
  rw [weights_eq, row_eq m c t ⟨(y 1).val, hy1⟩ (by omega) (by show 1024 * (t.val / 8) + (y 1).val < 4096; omega)]
  congr 1
  · congr 1
    · exact Fin.ext (by show t.val % 8 = win0_10.index t (0 : Fin 3) * 1 + 1 * (y 0).val; omega)
    · exact Fin.ext (by show 1024 * (t.val / 8) + (y 1).val = win0_10.index t (1 : Fin 3) * 1024 + 1 * (y 1).val; omega)
  · exact Fin.ext (by show (y 2).val = win0_10.index t (2 : Fin 3) * 1024 + 1 * (y 2).val; omega)

theorem mem_blk10 (t : Fin cfg0.N) (i : S8x4096x1024.Idx) :
    i ∈ ((cfg0.win 10).blk t).view.set ↔ ∀ a : Fin 3, win0_10.index t a * S1x1024x1024.size a ≤ (i a).val ∧ (i a).val < win0_10.index t a * S1x1024x1024.size a + S1x1024x1024.size a := by
  show i ∈ ((View.whole main_v10).slice (win0_10.rect t)).set ↔ _
  rw [View.set_slice_whole, Rect.mem_set_unit]
  exact Iff.rfl

theorem covered_10 (i : S8x4096x1024.Idx) : ∃ t : Fin cfg0.N, (cfg0.win 10).flush t = true ∧ i ∈ ((cfg0.win 10).blk t).view.set := by
  have hi0 : (i 0).val < 8 := (i 0).isLt
  have hi1 : (i 1).val < 4096 := (i 1).isLt
  have hi2 : (i 2).val < 1024 := (i 2).isLt
  obtain ⟨hf, e0, e1, e2⟩ := idx_10 ⟨(i 1).val / 1024 * 8 + (i 0).val, lt_of_lt_of_eq (by omega) N_0.symm⟩
  refine ⟨_, hf, ?_⟩
  rw [mem_blk10]
  intro a
  match a with
  | ⟨0, _⟩ => show win0_10.index _ (0 : Fin 3) * 1 ≤ (i 0).val ∧ (i 0).val < win0_10.index _ (0 : Fin 3) * 1 + 1; rw [e0]; show ((i 1).val / 1024 * 8 + (i 0).val) % 8 * 1 ≤ (i 0).val ∧ (i 0).val < ((i 1).val / 1024 * 8 + (i 0).val) % 8 * 1 + 1; omega
  | ⟨1, _⟩ => show win0_10.index _ (1 : Fin 3) * 1024 ≤ (i 1).val ∧ (i 1).val < win0_10.index _ (1 : Fin 3) * 1024 + 1024; rw [e1]; show ((i 1).val / 1024 * 8 + (i 0).val) / 8 * 1024 ≤ (i 1).val ∧ (i 1).val < ((i 1).val / 1024 * 8 + (i 0).val) / 8 * 1024 + 1024; omega
  | ⟨2, _⟩ => show win0_10.index _ (2 : Fin 3) * 1024 ≤ (i 2).val ∧ (i 2).val < win0_10.index _ (2 : Fin 3) * 1024 + 1024; omega

theorem final_10 : (dats m 0 c).arrAt 10 cfg0.N = result m c :=
  (dats m 0 c).arrAt_eq_of_cover 10 _ (fun t _ => flushed_10 m c t) covered_10

end Cert.Kernel3Ideal.Mix

end
-- ==== Proof.Mix0Ref.Value.lean ====
/- The reference's result, one token's row at a time. -/
module

public import proofs.«01_k».proof.Proof.Gen.Reference3Ideal.Read
public import proofs.«01_k».proof.Proof.MixModel
public import Idealize.ShloMosaic.Lib.Pointwise

@[expose] public section

set_option maxRecDepth 16384

noncomputable section

namespace Cert.Reference3Ideal.Mix

open Cert.Reference3Ideal Cert.Reference3Ideal.Read
open Idealize.ShloMosaic

variable (x0 : Vec Ideal S8x4096x512 .bf16) (x1 x2 : Vec Ideal S8x4096x256 .bf16) (x3 : Vec Ideal S8x4096x1024 .f32) (x4 : Vec Ideal S2x512 .f32) (x5 : Vec Ideal S2x1024x1024 .f32)
  (x6 : Vec Ideal S2x1024 .f32) (x7 : Vec Ideal S2x1024x5632 .f32) (x8 : Vec Ideal S2x2816x1024 .f32) (x9 : Vec Ideal S1024 .f32)

/-- The weights. -/
abbrev W : MixModel.Weights := MixModel.weightsAt 0 x4 x5 x6 x7 x8 x9

/-- A token's row. -/
abbrev R (b : Fin 8) (s : Fin 4096) : MixModel.Row := MixModel.rowAt x0 x1 x2 x3 b s

theorem v17_at (b : Fin 8) (s : Fin 4096) (k : Fin 512) :
    (val_main_v17 (F := Ideal) x0 x4 (ix3 (n0 := 8) (n1 := 4096) (n2 := 512) b s k) : EReal) = MixModel.normed (W x4 x5 x6 x7 x8 x9) (R x0 x1 x2 x3 b s) k := by
  unfold MixModel.normed W R MixModel.rowAt MixModel.weightsAt
  pointwise [val_main_v17, val_main_v16, val_main_v15, val_main_v14, val_main_v13, val_main_v12, val_main_v11, val_main_v10, val_main_v9, val_main_v8, val_main_v7, val_main_v6, val_main_v5, val_main_v4, val_main_v3, val_main_v0, val_main_cst, val_main_cst_0, val_main_cst_1]

theorem v18_at (b : Fin 8) (s : Fin 4096) (k : Fin 1024) :
    (val_main_v18 (F := Ideal) x0 x1 x2 x4 (ix3 (n0 := 8) (n1 := 4096) (n2 := 1024) b s k) : EReal) = MixModel.mixed (W x4 x5 x6 x7 x8 x9) (R x0 x1 x2 x3 b s) k := by
  have e := v17_at x0 x1 x2 x3 x4 x5 x6 x7 x8 x9 b s
  unfold val_main_v18 MixModel.mixed
  generalize val_main_v17 (F := Ideal) x0 x4 = y at e
  simp only [← e]
  unfold R MixModel.rowAt
  pointwise [val_main_v1, val_main_v2]

theorem v22_at (b : Fin 8) (s : Fin 4096) (n : Fin 1024) :
    (val_main_v22 (F := Ideal) x0 x1 x2 x3 x4 x5 (ix3 (n0 := 8) (n1 := 4096) (n2 := 1024) b s n) : EReal) = MixModel.h1 (W x4 x5 x6 x7 x8 x9) (R x0 x1 x2 x3 b s) n := by
  have e := v18_at x0 x1 x2 x3 x4 x5 x6 x7 x8 x9 b s
  unfold val_main_v22 val_main_v21 MixModel.h1
  generalize val_main_v18 (F := Ideal) x0 x1 x2 x4 = y at e
  simp only [← e]
  unfold R W MixModel.rowAt MixModel.weightsAt
  pointwise [val_main_v20, val_main_v19]

theorem v37_at (b : Fin 8) (s : Fin 4096) (n : Fin 1024) :
    (val_main_v37 (F := Ideal) x0 x1 x2 x3 x4 x5 x6 (ix3 (n0 := 8) (n1 := 4096) (n2 := 1024) b s n) : EReal) = MixModel.hn (W x4 x5 x6 x7 x8 x9) (R x0 x1 x2 x3 b s) n := by
  have e := v22_at x0 x1 x2 x3 x4 x5 x6 x7 x8 x9 b s
  unfold val_main_v37 val_main_v34 val_main_v33 val_main_v32 val_main_v31 val_main_v29 val_main_v27 val_main_v26 val_main_v25 MixModel.hn MixModel.nrm
  generalize val_main_v22 (F := Ideal) x0 x1 x2 x3 x4 x5 = y at e
  simp only [← e]
  unfold W MixModel.weightsAt
  pointwise [val_main_v36, val_main_v35, val_main_v30, val_main_v28, val_main_v24, val_main_v23, val_main_cst_2, val_main_cst_3, val_main_cst_4]

theorem v40_at (b : Fin 8) (s : Fin 4096) (j : Fin 5632) :
    (val_main_v40 (F := Ideal) x0 x1 x2 x3 x4 x5 x6 x7 (ix3 (n0 := 8) (n1 := 4096) (n2 := 5632) b s j) : EReal)
      = ∑ k : Fin 1024, MixModel.hn (W x4 x5 x6 x7 x8 x9) (R x0 x1 x2 x3 b s) k * (W x4 x5 x6 x7 x8 x9).wgu k j := by
  have e := v37_at x0 x1 x2 x3 x4 x5 x6 x7 x8 x9 b s
  unfold val_main_v40
  generalize val_main_v37 (F := Ideal) x0 x1 x2 x3 x4 x5 x6 = y at e
  simp only [← e]
  unfold W MixModel.weightsAt
  pointwise [val_main_v39, val_main_v38]

theorem v44_at (b : Fin 8) (s : Fin 4096) (j : Fin 2816) :
    (val_main_v44 (F := Ideal) x0 x1 x2 x3 x4 x5 x6 x7 (ix3 (n0 := 8) (n1 := 4096) (n2 := 2816) b s j) : EReal) = MixModel.act (W x4 x5 x6 x7 x8 x9) (R x0 x1 x2 x3 b s) j := by
  have e := v40_at x0 x1 x2 x3 x4 x5 x6 x7 x8 x9 b s
  unfold val_main_v44 val_main_v43 val_main_call0_v5 val_main_call0_v3 val_main_call0_v1 val_main_call0_v0 val_main_v41 val_main_v42 MixModel.act MixModel.gated
  generalize val_main_v40 (F := Ideal) x0 x1 x2 x3 x4 x5 x6 x7 = y at e
  simp only [← e]
  pointwise [val_main_call0_v4, val_main_call0_v2, val_main_call0_cst, val_main_call0_cst_0]

theorem v48_at (b : Fin 8) (s : Fin 4096) (n : Fin 1024) :
    (val_main_v48 (F := Ideal) x0 x1 x2 x3 x4 x5 x6 x7 x8 (ix3 (n0 := 8) (n1 := 4096) (n2 := 1024) b s n) : EReal) = MixModel.h2 (W x4 x5 x6 x7 x8 x9) (R x0 x1 x2 x3 b s) n := by
  have e := v22_at x0 x1 x2 x3 x4 x5 x6 x7 x8 x9 b s
  have e' := v44_at x0 x1 x2 x3 x4 x5 x6 x7 x8 x9 b s
  unfold val_main_v48 val_main_v47 MixModel.h2
  generalize val_main_v22 (F := Ideal) x0 x1 x2 x3 x4 x5 = y at e
  generalize val_main_v44 (F := Ideal) x0 x1 x2 x3 x4 x5 x6 x7 = z at e'
  simp only [← e, ← e']
  unfold W MixModel.weightsAt
  pointwise [val_main_v46, val_main_v45]

end Cert.Reference3Ideal.Mix

end
-- ==== Proof.Mix0Claims.lean ====
/- The claims about the output projection with the feed-forward part, in the first layer. -/
module

public import proofs.«01_k».proof.Defs
public import proofs.«01_k».proof.Proof.Mix0Ideal.Value
public import proofs.«01_k».proof.Proof.Mix0Ref.Value
public import Idealize.ShloMosaic.Lib.Quiescent

@[expose] public section

set_option maxRecDepth 16384

noncomputable section

namespace Cert.Mix0

open Idealize.ShloMosaic Idealize.ShloMosaic.TcCoe Idealize.SL.Sem

/-- The reference's frame. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem reference_result (m : (ℓ : Loc Cert.Reference3Ideal.nD Cert.Reference3Ideal.τ Cert.Reference3Ideal.sig) → Buf (Elt Ideal) ℓ) (c : Dev Cert.Reference3Ideal.nD)
    (b : Fin 8) (s : Fin 4096) (n : Fin 1024) :
    Cert.Reference3Ideal.Value.res_main_v48 (F := Ideal) m c (ix3 (n0 := 8) (n1 := 4096) (n2 := 1024) b s n)
      = MixModel.h2 (MixModel.weightsAt 0 (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
          (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)))
        (MixModel.rowAt (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))
          (m ((c.tc : Thread Cert.Reference3Ideal.nD Cert.Reference3Ideal.τ).loc Cert.Reference3Ideal.main_arg3)) b s) n := by
  rw [Cert.Reference3Ideal.Read.val_main_v48_eq]
  exact Cert.Reference3Ideal.Mix.v48_at _ _ _ _ _ _ _ _ _ _ b s n

/-- The two results are one. -/
theorem algebraic : Cert.algebraic_Kernel3Ideal_Reference3Ideal := by
  intro m ρ m' ρ' _ hag
  refine ⟨fun c => Cert.Kernel3Ideal.Mix.result m c,
    (θ_run Cert.Kernel3Ideal.defs _ _).mono (fun _ h c => ⟨(h c).1.trans (Cert.Kernel3Ideal.Mix.final_10 m c), (h c).2⟩) (Cert.Kernel3Ideal.Value.run_blocks m ρ), ?_⟩
  refine (θ_run Cert.Reference3Ideal.defs _ _).mono (fun _ h c => ⟨(h c).1.trans ?_, (h c).2⟩) (Cert.Reference3Ideal.Value.run (F := Ideal) m' ρ')
  obtain ⟨e0, e1, e2, e3, e4, e5, e6, e7, e8, e9⟩ := hag c
  funext y
  have e := reference_result m' c (y 0) (y 1) (y 2)
  rw [e0, e1, e2, e3, e4, e5, e6, e7, e8, e9] at e
  refine Eq.trans (congrArg _ (eq_ix3 y)) (e.trans ?_)
  rfl

end Cert.Mix0

end
-- ==== Proof.ProjModel.lean ====
/- The input projection as formulas, one token's row at a time. -/
module

public import Idealize.ShloMosaic.Lib.Pointwise

@[expose] public section

noncomputable section

namespace Cert.ProjModel

open Idealize.ShloMosaic

/-- The angle a token at position `s` turns the coordinate pair `j` by. -/
def ang (s : Fin 4096) (j : Fin 8) : EReal :=
  (((BitVec.ofNat 32 s.val).toInt : ℝ) : EReal) * Ideal.pow (Ideal.ofBits .f32 0x48F42400#32)
    (Ideal.div (-(Ideal.ofBits .f32 0x00000000#32 + Ideal.ofBits .f32 0x40000000#32 * (((BitVec.ofNat 32 j.val).toInt : ℝ) : EReal))) (Ideal.ofBits .f32 0x41800000#32))

def cs (s : Fin 4096) (j : Fin 8) : EReal := Ideal.cos (ang s j)

def sn (s : Fin 4096) (j : Fin 8) : EReal := Ideal.sin (ang s j)

/-- A row over the root of its mean square, times gains. -/
def normed (h g : Fin 1024 → EReal) (k : Fin 1024) : EReal :=
  h k * Ideal.rsqrt (Ideal.div (∑ j : Fin 1024, h j * h j) (Ideal.ofBits .f32 0x44800000#32) + Ideal.ofBits .f32 0x358637BD#32) * g k

/-- The normed row times the weights. -/
def proj (h g : Fin 1024 → EReal) (w : Fin 1024 → Fin 2304 → EReal) (n : Fin 2304) : EReal :=
  ∑ k : Fin 1024, normed h g k * w k n

/-- Entry `d` of a head's 64 after the rotation: pairs `(j, j + 8)` of the first 16 turn, the others stay. -/
def rope (s : Fin 4096) (t : Fin 64 → EReal) (d : Fin 64) : EReal :=
  if h : d.val < 8 then t d * cs s ⟨d.val, h⟩ - t ⟨d.val + 8, by omega⟩ * sn s ⟨d.val, h⟩
  else if h' : d.val - 8 < 8 then t d * cs s ⟨d.val - 8, h'⟩ + t ⟨d.val - 8, by omega⟩ * sn s ⟨d.val - 8, h'⟩
  else t d

/-- The heads of `512` entries, each turned. -/
def roped (s : Fin 4096) (x : Fin 512 → EReal) (n : Fin 512) : EReal :=
  rope s (fun d => x ⟨n.val / 64 * 64 + d.val, by omega⟩) ⟨n.val % 64, by omega⟩

/-- The queries of a token: turned, over eight. -/
def q (h g : Fin 1024 → EReal) (w : Fin 1024 → Fin 2304 → EReal) (s : Fin 4096) (n : Fin 512) : EReal :=
  roped s (fun k => proj h g w ⟨k.val, by omega⟩) n * Ideal.ofBits .f32 0x3E000000#32

/-- Its keys. -/
def k (h g : Fin 1024 → EReal) (w : Fin 1024 → Fin 2304 → EReal) (s : Fin 4096) (n : Fin 512) : EReal :=
  roped s (fun j => proj h g w ⟨512 + j.val, by omega⟩) n

/-- Its values. -/
def v (h g : Fin 1024 → EReal) (w : Fin 1024 → Fin 2304 → EReal) (n : Fin 512) : EReal := proj h g w ⟨1024 + n.val, by omega⟩

/-- Its input to the recurrence. -/
def us (h g : Fin 1024 → EReal) (w : Fin 1024 → Fin 2304 → EReal) (n : Fin 256) : EReal := proj h g w ⟨1536 + n.val, by omega⟩

/-- The row of token `s` of sequence `b`. -/
def rowAt (x0 : (⟨3, ![8, 4096, 1024]⟩ : Shape).Idx → EReal) (b : Fin 8) (s : Fin 4096) (k : Fin 1024) : EReal := x0 (ix3 b s k)

/-- The first layer's gains. -/
def gainsAt (x1 : (⟨2, ![2, 1024]⟩ : Shape).Idx → EReal) (k : Fin 1024) : EReal := x1 (ix2 0 k)

/-- The first layer's weights. -/
def weightsAt (x2 : (⟨3, ![2, 1024, 2304]⟩ : Shape).Idx → EReal) (k : Fin 1024) (n : Fin 2304) : EReal := x2 (ix3 0 k n)

end Cert.ProjModel

end
-- ==== Proof.ProjIdeal.Math.lean ====
/- What the kernel's values are at an index, from the blocks it reads. -/
module

public import proofs.«01_k».proof.Proof.Gen.Kernel4Ideal.Frame
public import proofs.«01_k».proof.Proof.ProjModel
public import Idealize.ShloMosaic.Lib.Pointwise

@[expose] public section

set_option maxRecDepth 16384

noncomputable section

namespace Cert.Kernel4Ideal.Proj

open Cert.Kernel4Ideal Cert.Kernel4Ideal.Gen
open Idealize.ShloMosaic

section Payloads

variable {F : FTy → Type} [FloatOps F]

/-- A block of columns turned by the tables. -/
def ropeArr (t rc rs1 rs2 : FVec F S512x128 .f32) : FVec F S512x128 .f32 :=
  addf (addf (mulf t rc) (mulf (dynamicRotate 1 120#32 none t rotates_S512x128_d1) rs1)) (mulf (dynamicRotate 1 8#32 none t rotates_S512x128_d1) rs2)

def qArr (t rc rs1 rs2 : FVec F S512x128 .f32) : FVec F S1x512x128 .bf16 :=
  shapeCast S1x512x128 (truncf .bf16 (mulf (ropeArr t rc rs1 rs2) (broadcast S512x128 (Scalar.ofBits .f32 0x3E000000#32))) bitsLt_bf16_f32) shapeCasts_S512x128_S1x512x128

def kArr (t rc rs1 rs2 : FVec F S512x128 .f32) : FVec F S1x512x128 .bf16 :=
  shapeCast S1x512x128 (truncf .bf16 (ropeArr t rc rs1 rs2) bitsLt_bf16_f32) shapeCasts_S512x128_S1x512x128

abbrev cut0 (z : FVec F S512x512 .f32) : FVec F S512x128 .f32 := extractStridedSlice S512x128 ![0, 0] z slices_S512x512_o0_0_S512x128
abbrev cut1 (z : FVec F S512x512 .f32) : FVec F S512x128 .f32 := extractStridedSlice S512x128 ![0, 128] z slices_S512x512_o0_128_S512x128
abbrev cut2 (z : FVec F S512x512 .f32) : FVec F S512x128 .f32 := extractStridedSlice S512x128 ![0, 256] z slices_S512x512_o0_256_S512x128
abbrev cut3 (z : FVec F S512x512 .f32) : FVec F S512x128 .f32 := extractStridedSlice S512x128 ![0, 384] z slices_S512x512_o0_384_S512x128

variable (n : FVec F S512x1024 .bf16) (a b c : Vec F S512x128 .f32) (w : Vec F S1x1024x512 .bf16) (z : FVec F S512x512 .f32) (ra rb rc : FVec F S512x128 .f32)

theorem pay12_eq : k0_pay12 n a b c w = qArr (cut0 (k0_pay10 n w)) (k0_pay7 a) (k0_pay8 b) (k0_pay9 c) := by
  unfold k0_pay12 qArr ropeArr; rfl
theorem pay16_eq : k0_pay16 ra rb rc z = qArr (cut1 z) ra rb rc := by unfold k0_pay16 qArr ropeArr; rfl
theorem pay20_eq : k0_pay20 rc (k0_pay18 z) (k0_pay19 ra rb z) = qArr (cut2 z) ra rb rc := by
  unfold k0_pay20 k0_pay19 k0_pay18 qArr ropeArr; rfl
theorem pay22_eq : k0_pay22 ra rb rc z = qArr (cut3 z) ra rb rc := by unfold k0_pay22 qArr ropeArr; rfl
theorem pay15_eq : k0_pay15 rb rc (k0_pay13 n w) (k0_pay14 n a w) 120#32 = kArr (cut0 (k0_pay11 n w)) (k0_pay7 a) rb rc := by
  unfold k0_pay15 k0_pay14 k0_pay13 kArr ropeArr; rfl
theorem pay17_eq : k0_pay17 ra rb rc z = kArr (cut1 z) ra rb rc := by unfold k0_pay17 kArr ropeArr; rfl
theorem pay21_eq : k0_pay21 ra rb rc z = kArr (cut2 z) ra rb rc := by unfold k0_pay21 kArr ropeArr; rfl
theorem pay25_eq : k0_pay25 rc (k0_pay23 z) (k0_pay24 ra rb z) = kArr (cut3 z) ra rb rc := by
  unfold k0_pay25 k0_pay24 k0_pay23 kArr ropeArr; rfl

end Payloads

theorem pay1_at (v0 : Vec Ideal S1x512x1024 .f32) (v2 : Vec Ideal S1x1024 .f32) (r : Fin 512) (k : Fin 1024) :
    (k0_pay1 v0 v2 (ix2 (n0 := 512) (n1 := 1024) r k) : EReal)
      = ProjModel.normed (fun j => v0 (ix3 (n0 := 1) (n1 := 512) (n2 := 1024) 0 r j)) (fun j => v2 (ix2 (n0 := 1) (n1 := 1024) 0 j)) k := by
  pointwise [k0_pay1, ProjModel.normed]

theorem pay10_at (v : FVec Ideal S512x1024 .bf16) (w : Vec Ideal S1x1024x512 .bf16) (r n : Fin 512) :
    (k0_pay10 v w (ix2 (n0 := 512) (n1 := 512) r n) : EReal) = ∑ k : Fin 1024, v (ix2 (n0 := 512) (n1 := 1024) r k) * w (ix3 (n0 := 1) (n1 := 1024) (n2 := 512) 0 k n) := by
  pointwise [k0_pay10]

theorem pay26_at (v : FVec Ideal S512x1024 .bf16) (w : Vec Ideal S1x1024x512 .bf16) (r n : Fin 512) :
    (k0_pay26 v w (ix3 (n0 := 1) (n1 := 512) (n2 := 512) 0 r n) : EReal) = ∑ k : Fin 1024, v (ix2 (n0 := 512) (n1 := 1024) r k) * w (ix3 (n0 := 1) (n1 := 1024) (n2 := 512) 0 k n) := by
  pointwise [k0_pay26]

theorem pay27_at (v : FVec Ideal S512x1024 .bf16) (w : Vec Ideal S1x1024x256 .bf16) (r : Fin 512) (n : Fin 256) :
    (k0_pay27 v w (ix3 (n0 := 1) (n1 := 512) (n2 := 256) 0 r n) : EReal) = ∑ k : Fin 1024, v (ix2 (n0 := 512) (n1 := 1024) r k) * w (ix3 (n0 := 1) (n1 := 1024) (n2 := 256) 0 k n) := by
  pointwise [k0_pay27]

theorem pay7_eq (v : Vec Ideal S512x128 .f32) : k0_pay7 v = v := by
  funext y
  pointwise [k0_pay7]
theorem pay8_eq (v : Vec Ideal S512x128 .f32) : k0_pay8 v = v := by
  funext y
  pointwise [k0_pay8]
theorem pay9_eq (v : Vec Ideal S512x128 .f32) : k0_pay9 v = v := by
  funext y
  pointwise [k0_pay9]

theorem ropeArr_at (t ra rb rc : FVec Ideal S512x128 .f32) (r : Fin 512) (d : Fin 128) :
    (ropeArr t ra rb rc (ix2 (n0 := 512) (n1 := 128) r d) : EReal)
      = t (ix2 (n0 := 512) (n1 := 128) r d) * ra (ix2 (n0 := 512) (n1 := 128) r d)
        + t (ix2 (n0 := 512) (n1 := 128) r ⟨(d.val + 128 - 120) % 128, Nat.mod_lt _ (by decide)⟩) * rb (ix2 (n0 := 512) (n1 := 128) r d)
        + t (ix2 (n0 := 512) (n1 := 128) r ⟨(d.val + 128 - 8) % 128, Nat.mod_lt _ (by decide)⟩) * rc (ix2 (n0 := 512) (n1 := 128) r d) := by
  pointwise [ropeArr]

theorem qArr_at (t ra rb rc : FVec Ideal S512x128 .f32) (r : Fin 512) (d : Fin 128) :
    (qArr t ra rb rc (ix3 (n0 := 1) (n1 := 512) (n2 := 128) 0 r d) : EReal) = ropeArr t ra rb rc (ix2 (n0 := 512) (n1 := 128) r d) * Ideal.ofBits .f32 0x3E000000#32 := by
  unfold qArr
  generalize ropeArr t ra rb rc = y
  pointwise

theorem kArr_at (t ra rb rc : FVec Ideal S512x128 .f32) (r : Fin 512) (d : Fin 128) :
    (kArr t ra rb rc (ix3 (n0 := 1) (n1 := 512) (n2 := 128) 0 r d) : EReal) = ropeArr t ra rb rc (ix2 (n0 := 512) (n1 := 128) r d) := by
  unfold kArr
  generalize ropeArr t ra rb rc = y
  pointwise

end Cert.Kernel4Ideal.Proj

end
-- ==== Proof.ProjIdeal.Blocks.lean ====
/- What the call's results hold at a grid point. -/
module

public import proofs.«01_k».proof.Proof.ProjIdeal.Math
public import Idealize.ShloMosaic.Lib.Pipeline.CanonAppend

@[expose] public section

set_option pp.maxSteps 1500
set_option maxRecDepth 16384

noncomputable section

namespace Cert.Kernel4Ideal.Proj

open Cert.Kernel4Ideal Cert.Kernel4Ideal.Gen
open Idealize.ShloMosaic
open Idealize.ShloMosaic.View

theorem read_whole {s : Shape} {e : EltTy} (arg : Memref sig .tc .vmem s e) (harg : arg.IsWhole) (x : Vec Ideal s e) (off : Fin s.rank → ℕ) (hz : ∀ a, off a = 0)
    (inb : ∀ a, off a + s.size a ≤ s.size a) :
    arg.view.readAt (Elt Ideal) (Rect.unit off s.size inb).toLoadRect (harg.unread x) = x := by
  funext y
  rw [View.readAt_apply, harg.read_unread]
  congr 1
  funext a
  apply Fin.ext
  show off a + 1 * (y a).val = (y a).val
  rw [hz a]
  omega

theorem zero3 : ∀ a : Fin 3, (![0, 0, 0] : Fin 3 → ℕ) a = 0 := by decide
theorem zero2 : ∀ a : Fin 2, (![0, 0] : Fin 2 → ℕ) a = 0 := by decide

theorem eq_ix3' {a b : ℕ} (x : (Shape.mk 3 ![1, a, b]).Idx) : x = ix3 (n0 := 1) (n1 := a) (n2 := b) 0 (x 1) (x 2) := by
  funext k
  match k with
  | 0 => exact Fin.ext (by have h : (x 0).val < 1 := (x 0).isLt; show (x 0).val = 0; omega)
  | 1 => rfl
  | 2 => rfl

/-- A row of a block turned by the tables' row is the model's. -/
theorem rope_model (s : Fin 4096) (y : Fin 512 → EReal) (o : ℕ) (ho : o + 128 ≤ 512) (ho' : o % 64 = 0) (t a b c : FVec Ideal S512x128 .f32) (r : Fin 512)
    (ht : ∀ d : Fin 128, t (ix2 (n0 := 512) (n1 := 128) r d) = y ⟨o + d.val, by omega⟩)
    (ha : ∀ d : Fin 128, (a (ix2 (n0 := 512) (n1 := 128) r d) : EReal) = if h : d.val % 64 < 8 then ProjModel.cs s ⟨d.val % 64, h⟩ else if h' : d.val % 64 - 8 < 8 then ProjModel.cs s ⟨d.val % 64 - 8, h'⟩ else (1 : EReal))
    (hb : ∀ d : Fin 128, (b (ix2 (n0 := 512) (n1 := 128) r d) : EReal) = if h : d.val % 64 < 8 then -ProjModel.sn s ⟨d.val % 64, h⟩ else if h' : d.val % 64 - 8 < 8 then (0 : EReal) else (0 : EReal))
    (hc : ∀ d : Fin 128, (c (ix2 (n0 := 512) (n1 := 128) r d) : EReal) = if h : d.val % 64 < 8 then (0 : EReal) else if h' : d.val % 64 - 8 < 8 then ProjModel.sn s ⟨d.val % 64 - 8, h'⟩ else (0 : EReal))
    (d : Fin 128) : (ropeArr t a b c (ix2 (n0 := 512) (n1 := 128) r d) : EReal) = ProjModel.roped s y ⟨o + d.val, by omega⟩ := by
  rw [ropeArr_at, ha, hb, hc, ht, ht, ht]
  unfold ProjModel.roped ProjModel.rope
  have hm : (o + d.val) % 64 = d.val % 64 := by omega
  have hl : d.val % 64 < 64 := Nat.mod_lt _ (by decide)
  have e0 : (o + d.val) / 64 * 64 + d.val % 64 = o + d.val := by omega
  simp only [hm, e0]
  by_cases h : d.val % 64 < 8
  · rw [dif_pos h, dif_pos h, dif_pos h, dif_pos h, mul_zero, add_zero, mul_neg, ← sub_eq_add_neg]
    have e1 : (o + d.val) / 64 * 64 + (d.val % 64 + 8) = o + (d.val + 128 - 120) % 128 := by omega
    simp only [e1]
  · rw [dif_neg h, dif_neg h, dif_neg h, dif_neg h]
    by_cases h' : d.val % 64 - 8 < 8
    · rw [dif_pos h', dif_pos h', dif_pos h', dif_pos h', mul_zero, add_zero]
      have e1 : (o + d.val) / 64 * 64 + (d.val % 64 - 8) = o + (d.val + 128 - 8) % 128 := by omega
      simp only [e1]
    · rw [dif_neg h', dif_neg h', dif_neg h', dif_neg h', mul_zero, mul_zero, add_zero, add_zero, mul_one]

theorem cut0_at (z : FVec Ideal S512x512 .f32) (r : Fin 512) (d : Fin 128) : (cut0 z (ix2 (n0 := 512) (n1 := 128) r d) : EReal) = z (ix2 (n0 := 512) (n1 := 512) r ⟨0 + d.val, by omega⟩) := by
  pointwise [cut0]
theorem cut1_at (z : FVec Ideal S512x512 .f32) (r : Fin 512) (d : Fin 128) : (cut1 z (ix2 (n0 := 512) (n1 := 128) r d) : EReal) = z (ix2 (n0 := 512) (n1 := 512) r ⟨128 + d.val, by omega⟩) := by
  pointwise [cut1]
theorem cut2_at (z : FVec Ideal S512x512 .f32) (r : Fin 512) (d : Fin 128) : (cut2 z (ix2 (n0 := 512) (n1 := 128) r d) : EReal) = z (ix2 (n0 := 512) (n1 := 512) r ⟨256 + d.val, by omega⟩) := by
  pointwise [cut2]
theorem cut3_at (z : FVec Ideal S512x512 .f32) (r : Fin 512) (d : Fin 128) : (cut3 z (ix2 (n0 := 512) (n1 := 128) r d) : EReal) = z (ix2 (n0 := 512) (n1 := 512) r ⟨384 + d.val, by omega⟩) := by
  pointwise [cut3]

section Blocks

variable (n : FVec Ideal S512x1024 .bf16) (z : FVec Ideal S512x512 .f32) (a b c : FVec Ideal S512x128 .f32)

/-- The four stores of the queries. -/
def qPieces : List (View.Piece (Elt Ideal) S1x512x512 .bf16) :=
  [⟨Rect.unit ![0, 0, 384] ![1, 512, 128] inb_S1x512x512_S1x512x128_0_0_384, qArr (cut3 z) a b c⟩,
   ⟨Rect.unit ![0, 0, 256] ![1, 512, 128] inb_S1x512x512_S1x512x128_0_0_256, qArr (cut2 z) a b c⟩,
   ⟨Rect.unit ![0, 0, 128] ![1, 512, 128] inb_S1x512x512_S1x512x128_0_0_128, qArr (cut1 z) a b c⟩,
   ⟨Rect.unit ![0, 0, 0] ![1, 512, 128] inb_S1x512x512_S1x512x128_0_0_0, qArr (cut0 z) a b c⟩]

/-- The four stores of the keys. -/
def kPieces : List (View.Piece (Elt Ideal) S1x512x512 .bf16) :=
  [⟨Rect.unit ![0, 0, 384] ![1, 512, 128] inb_S1x512x512_S1x512x128_0_0_384, kArr (cut3 z) a b c⟩,
   ⟨Rect.unit ![0, 0, 256] ![1, 512, 128] inb_S1x512x512_S1x512x128_0_0_256, kArr (cut2 z) a b c⟩,
   ⟨Rect.unit ![0, 0, 128] ![1, 512, 128] inb_S1x512x512_S1x512x128_0_0_128, kArr (cut1 z) a b c⟩,
   ⟨Rect.unit ![0, 0, 0] ![1, 512, 128] inb_S1x512x512_S1x512x128_0_0_0, kArr (cut0 z) a b c⟩]

/-- The tables of a point whose row `r` is token `s r`. -/
def IsTables (s : Fin 512 → Fin 4096) : Prop := ∀ (r : Fin 512) (d : Fin 128),
  ((a (ix2 (n0 := 512) (n1 := 128) r d) : EReal) = if h : d.val % 64 < 8 then ProjModel.cs (s r) ⟨d.val % 64, h⟩ else if h' : d.val % 64 - 8 < 8 then ProjModel.cs (s r) ⟨d.val % 64 - 8, h'⟩ else (1 : EReal))
  ∧ ((b (ix2 (n0 := 512) (n1 := 128) r d) : EReal) = if h : d.val % 64 < 8 then -ProjModel.sn (s r) ⟨d.val % 64, h⟩ else if h' : d.val % 64 - 8 < 8 then (0 : EReal) else (0 : EReal))
  ∧ ((c (ix2 (n0 := 512) (n1 := 128) r d) : EReal) = if h : d.val % 64 < 8 then (0 : EReal) else if h' : d.val % 64 - 8 < 8 then ProjModel.sn (s r) ⟨d.val % 64 - 8, h'⟩ else (0 : EReal))

/-- The rows of a product turned. -/
def ropeBlk (s : Fin 512 → Fin 4096) (y : S1x512x512.Idx) : EReal := ProjModel.roped (s (y 1)) (fun k => z (ix2 (n0 := 512) (n1 := 512) (y 1) k)) (y 2)

variable (s : Fin 512 → Fin 4096) (hT : IsTables a b c s)

include hT in
theorem rope_chunk (t : FVec Ideal S512x128 .f32) (o : ℕ) (ho : o + 128 ≤ 512) (ho' : o % 64 = 0)
    (ht : ∀ (r : Fin 512) (d : Fin 128), (t (ix2 (n0 := 512) (n1 := 128) r d) : EReal) = z (ix2 (n0 := 512) (n1 := 512) r ⟨o + d.val, by omega⟩))
    (r : Fin 512) (d : Fin 128) (y : S1x512x512.Idx) (hy1 : (y 1).val = r.val) (hy2 : (y 2).val = o + d.val) :
    (ropeArr t a b c (ix2 (n0 := 512) (n1 := 128) r d) : EReal) = ropeBlk z s y := by
  rw [rope_model (s r) (fun k => z (ix2 (n0 := 512) (n1 := 512) r k)) o ho ho' t a b c r (ht r) (fun d => (hT r d).1) (fun d => (hT r d).2.1) (fun d => (hT r d).2.2) d]
  unfold ropeBlk
  have e1 : (y 1 : Fin 512) = r := Fin.ext hy1
  have e2 : (y 2 : Fin 512) = ⟨o + d.val, by omega⟩ := Fin.ext hy2
  rw [e1, e2]
  rfl

include hT in
theorem q_canon (y : S1x512x512.Idx) : View.canon (qPieces z a b c) y = ropeBlk z s y * Ideal.ofBits .f32 0x3E000000#32 := by
  refine View.canon_apply_of_pieces (Val := Elt Ideal) (e := .bf16) (fun y => ropeBlk z s y * Ideal.ofBits .f32 0x3E000000#32) (qPieces z a b c) ?_ y (View.cover_of_tiled _ ![1, 512, 128] (by rfl) y)
  unfold qPieces
  refine List.forall_mem_cons.mpr ⟨fun x => ?_, List.forall_mem_cons.mpr ⟨fun x => ?_, List.forall_mem_cons.mpr ⟨fun x => ?_, List.forall_mem_cons.mpr ⟨fun x => ?_, List.forall_mem_nil _⟩⟩⟩⟩
  · obtain ⟨r, d, rfl⟩ : ∃ (r : Fin 512) (d : Fin 128), x = ix3 (n0 := 1) (n1 := 512) (n2 := 128) 0 r d := ⟨x 1, x 2, eq_ix3' x⟩
    exact (qArr_at _ a b c r d).trans (congrArg (fun v : EReal => v * Ideal.ofBits .f32 0x3E000000#32) (rope_chunk z a b c s hT (cut3 z) 384 (by decide) (by decide) (cut3_at z) r d _ (by show 0 + 1 * r.val = r.val; omega) (by show 384 + 1 * d.val = 384 + d.val; omega)))
  · obtain ⟨r, d, rfl⟩ : ∃ (r : Fin 512) (d : Fin 128), x = ix3 (n0 := 1) (n1 := 512) (n2 := 128) 0 r d := ⟨x 1, x 2, eq_ix3' x⟩
    exact (qArr_at _ a b c r d).trans (congrArg (fun v : EReal => v * Ideal.ofBits .f32 0x3E000000#32) (rope_chunk z a b c s hT (cut2 z) 256 (by decide) (by decide) (cut2_at z) r d _ (by show 0 + 1 * r.val = r.val; omega) (by show 256 + 1 * d.val = 256 + d.val; omega)))
  · obtain ⟨r, d, rfl⟩ : ∃ (r : Fin 512) (d : Fin 128), x = ix3 (n0 := 1) (n1 := 512) (n2 := 128) 0 r d := ⟨x 1, x 2, eq_ix3' x⟩
    exact (qArr_at _ a b c r d).trans (congrArg (fun v : EReal => v * Ideal.ofBits .f32 0x3E000000#32) (rope_chunk z a b c s hT (cut1 z) 128 (by decide) (by decide) (cut1_at z) r d _ (by show 0 + 1 * r.val = r.val; omega) (by show 128 + 1 * d.val = 128 + d.val; omega)))
  · obtain ⟨r, d, rfl⟩ : ∃ (r : Fin 512) (d : Fin 128), x = ix3 (n0 := 1) (n1 := 512) (n2 := 128) 0 r d := ⟨x 1, x 2, eq_ix3' x⟩
    exact (qArr_at _ a b c r d).trans (congrArg (fun v : EReal => v * Ideal.ofBits .f32 0x3E000000#32) (rope_chunk z a b c s hT (cut0 z) 0 (by decide) (by decide) (cut0_at z) r d _ (by show 0 + 1 * r.val = r.val; omega) (by show 0 + 1 * d.val = 0 + d.val; omega)))

include hT in
theorem k_canon (y : S1x512x512.Idx) : View.canon (kPieces z a b c) y = ropeBlk z s y := by
  refine View.canon_apply_of_pieces (Val := Elt Ideal) (e := .bf16) (ropeBlk z s) (kPieces z a b c) ?_ y (View.cover_of_tiled _ ![1, 512, 128] (by rfl) y)
  unfold kPieces
  refine List.forall_mem_cons.mpr ⟨fun x => ?_, List.forall_mem_cons.mpr ⟨fun x => ?_, List.forall_mem_cons.mpr ⟨fun x => ?_, List.forall_mem_cons.mpr ⟨fun x => ?_, List.forall_mem_nil _⟩⟩⟩⟩
  · obtain ⟨r, d, rfl⟩ : ∃ (r : Fin 512) (d : Fin 128), x = ix3 (n0 := 1) (n1 := 512) (n2 := 128) 0 r d := ⟨x 1, x 2, eq_ix3' x⟩
    exact (kArr_at _ a b c r d).trans (rope_chunk z a b c s hT (cut3 z) 384 (by decide) (by decide) (cut3_at z) r d _ (by show 0 + 1 * r.val = r.val; omega) (by show 384 + 1 * d.val = 384 + d.val; omega))
  · obtain ⟨r, d, rfl⟩ : ∃ (r : Fin 512) (d : Fin 128), x = ix3 (n0 := 1) (n1 := 512) (n2 := 128) 0 r d := ⟨x 1, x 2, eq_ix3' x⟩
    exact (kArr_at _ a b c r d).trans (rope_chunk z a b c s hT (cut2 z) 256 (by decide) (by decide) (cut2_at z) r d _ (by show 0 + 1 * r.val = r.val; omega) (by show 256 + 1 * d.val = 256 + d.val; omega))
  · obtain ⟨r, d, rfl⟩ : ∃ (r : Fin 512) (d : Fin 128), x = ix3 (n0 := 1) (n1 := 512) (n2 := 128) 0 r d := ⟨x 1, x 2, eq_ix3' x⟩
    exact (kArr_at _ a b c r d).trans (rope_chunk z a b c s hT (cut1 z) 128 (by decide) (by decide) (cut1_at z) r d _ (by show 0 + 1 * r.val = r.val; omega) (by show 128 + 1 * d.val = 128 + d.val; omega))
  · obtain ⟨r, d, rfl⟩ : ∃ (r : Fin 512) (d : Fin 128), x = ix3 (n0 := 1) (n1 := 512) (n2 := 128) 0 r d := ⟨x 1, x 2, eq_ix3' x⟩
    exact (kArr_at _ a b c r d).trans (rope_chunk z a b c s hT (cut0 z) 0 (by decide) (by decide) (cut0_at z) r d _ (by show 0 + 1 * r.val = r.val; omega) (by show 0 + 1 * d.val = 0 + d.val; omega))

/-- The one store of the values. -/
def vPieces (w : Vec Ideal S1x1024x512 .bf16) : List (View.Piece (Elt Ideal) S1x512x512 .bf16) :=
  [⟨Rect.unit ![0, 0, 0] ![1, 512, 512] inb_S1x512x512_S1x512x512_0_0_0, k0_pay26 n w⟩]

/-- The one store of the recurrence's input. -/
def uPieces (w : Vec Ideal S1x1024x256 .bf16) : List (View.Piece (Elt Ideal) S1x512x256 .f32) :=
  [⟨Rect.unit ![0, 0, 0] ![1, 512, 256] inb_S1x512x256_S1x512x256_0_0_0, k0_pay27 n w⟩]

theorem v_canon (w : Vec Ideal S1x1024x512 .bf16) (y : S1x512x512.Idx) : View.canon (vPieces n w) y = k0_pay26 n w y := by
  refine View.canon_apply_of_pieces (Val := Elt Ideal) (e := .bf16) (k0_pay26 n w) (vPieces n w) ?_ y (View.cover_of_tiled _ ![1, 512, 512] (by rfl) y)
  unfold vPieces
  refine List.forall_mem_cons.mpr ⟨fun x => ?_, List.forall_mem_nil _⟩
  refine congrArg (k0_pay26 n w) (funext fun i => Fin.ext ?_)
  match i with
  | 0 => show (x 0).val = 0 + 1 * (x 0).val; omega
  | 1 => show (x 1).val = 0 + 1 * (x 1).val; omega
  | 2 => show (x 2).val = 0 + 1 * (x 2).val; omega

theorem u_canon (w : Vec Ideal S1x1024x256 .bf16) (y : S1x512x256.Idx) : View.canon (uPieces n w) y = k0_pay27 n w y := by
  refine View.canon_apply_of_pieces (Val := Elt Ideal) (e := .f32) (k0_pay27 n w) (uPieces n w) ?_ y (View.cover_of_tiled _ ![1, 512, 256] (by rfl) y)
  unfold uPieces
  refine List.forall_mem_cons.mpr ⟨fun x => ?_, List.forall_mem_nil _⟩
  refine congrArg (k0_pay27 n w) (funext fun i => Fin.ext ?_)
  match i with
  | 0 => show (x 0).val = 0 + 1 * (x 0).val; omega
  | 1 => show (x 1).val = 0 + 1 * (x 1).val; omega
  | 2 => show (x 2).val = 0 + 1 * (x 2).val; omega

end Blocks

section Values

variable (x0 : Vec Ideal S1x512x1024 .f32) (x1 : Vec Ideal S1x1024 .f32) (x2 : Vec Ideal S1x1024x2304 .bf16) (x3 : Vec Ideal S512x128 .f32) (x4 : Vec Ideal S512x128 .f32) (x5 : Vec Ideal S512x128 .f32)

/-- A row of the block, its gains, the weights. -/
def rowB (r : Fin 512) (j : Fin 1024) : EReal := x0 (ix3 (n0 := 1) (n1 := 512) (n2 := 1024) 0 r j)
def gainsB (j : Fin 1024) : EReal := x1 (ix2 (n0 := 1) (n1 := 1024) 0 j)
def weightsB (k : Fin 1024) (n : Fin 2304) : EReal := x2 (ix3 (n0 := 1) (n1 := 1024) (n2 := 2304) 0 k n)

/-- The columns `o …` of the weights. -/
theorem read_cols (arg : Memref sig .tc .vmem S1x1024x2304 .bf16) (harg : arg.IsWhole) (o wd : ℕ) (ho : o + wd ≤ 2304)
    (inb : ∀ a, (![0, 0, o] : Fin 3 → ℕ) a + (![1, 1024, wd] : Fin 3 → ℕ) a ≤ S1x1024x2304.size a) (k : Fin 1024) (q : Fin wd) :
    arg.view.readAt (Elt Ideal) (Rect.unit (s := S1x1024x2304) ![0, 0, o] ![1, 1024, wd] inb).toLoadRect (harg.unread x2) (ix3 (n0 := 1) (n1 := 1024) (n2 := wd) 0 k q)
      = weightsB x2 k ⟨o + q.val, by omega⟩ := by
  rw [View.readAt_apply, harg.read_unread]
  unfold weightsB
  congr 1
  funext a
  apply Fin.ext
  match a with
  | 0 => rfl
  | 1 => show 0 + 1 * k.val = k.val; omega
  | 2 => show o + 1 * q.val = o + q.val; omega

theorem pay11_eq (v : FVec Ideal S512x1024 .bf16) (w : Vec Ideal S1x1024x512 .bf16) : k0_pay11 v w = k0_pay10 v w := rfl

theorem prod_at (o : ℕ) (ho : o + 512 ≤ 2304) (w : Vec Ideal S1x1024x512 .bf16) (hw : ∀ (k : Fin 1024) (n : Fin 512), w (ix3 (n0 := 1) (n1 := 1024) (n2 := 512) 0 k n) = weightsB x2 k ⟨o + n.val, by omega⟩)
    (r n : Fin 512) : (k0_pay10 (k0_pay1 x0 x1) w (ix2 (n0 := 512) (n1 := 512) r n) : EReal) = ProjModel.proj (rowB x0 r) (gainsB x1) (weightsB x2) ⟨o + n.val, by omega⟩ := by
  rw [pay10_at]
  unfold ProjModel.proj
  exact Finset.sum_congr rfl fun k _ => congrArg₂ (· * ·) (pay1_at x0 x1 r k) (hw k n)

theorem q_block (s : Fin 512 → Fin 4096) (hT : IsTables x3 x4 x5 s) (w : Vec Ideal S1x1024x512 .bf16) (hw : ∀ (k : Fin 1024) (n : Fin 512), w (ix3 (n0 := 1) (n1 := 1024) (n2 := 512) 0 k n) = weightsB x2 k ⟨0 + n.val, by omega⟩)
    (y : S1x512x512.Idx) : View.canon (qPieces (k0_pay10 (k0_pay1 x0 x1) w) x3 x4 x5) y = ProjModel.q (rowB x0 (y 1)) (gainsB x1) (weightsB x2) (s (y 1)) (y 2) := by
  rw [q_canon _ _ _ _ s hT]
  unfold ropeBlk ProjModel.q
  have e : (fun k : Fin 512 => (k0_pay10 (k0_pay1 x0 x1) w (ix2 (n0 := 512) (n1 := 512) (y 1) k) : EReal)) = fun k => ProjModel.proj (rowB x0 (y 1)) (gainsB x1) (weightsB x2) ⟨k.val, by omega⟩ :=
    funext fun k => (prod_at x0 x1 x2 0 (by decide) w hw (y 1) k).trans (congrArg _ (Fin.ext (Nat.zero_add _)))
  exact congrArg (fun f => ProjModel.roped (s (y 1)) f (y 2) * Ideal.ofBits .f32 0x3E000000#32) e

theorem k_block (s : Fin 512 → Fin 4096) (hT : IsTables x3 x4 x5 s) (w : Vec Ideal S1x1024x512 .bf16) (hw : ∀ (k : Fin 1024) (n : Fin 512), w (ix3 (n0 := 1) (n1 := 1024) (n2 := 512) 0 k n) = weightsB x2 k ⟨512 + n.val, by omega⟩)
    (y : S1x512x512.Idx) : View.canon (kPieces (k0_pay10 (k0_pay1 x0 x1) w) x3 x4 x5) y = ProjModel.k (rowB x0 (y 1)) (gainsB x1) (weightsB x2) (s (y 1)) (y 2) := by
  rw [k_canon _ _ _ _ s hT]
  unfold ropeBlk ProjModel.k
  have e : (fun k : Fin 512 => (k0_pay10 (k0_pay1 x0 x1) w (ix2 (n0 := 512) (n1 := 512) (y 1) k) : EReal)) = fun k => ProjModel.proj (rowB x0 (y 1)) (gainsB x1) (weightsB x2) ⟨512 + k.val, by omega⟩ :=
    funext fun k => prod_at x0 x1 x2 512 (by decide) w hw (y 1) k
  exact congrArg (fun f => ProjModel.roped (s (y 1)) f (y 2)) e

theorem v_block (w : Vec Ideal S1x1024x512 .bf16) (hw : ∀ (k : Fin 1024) (n : Fin 512), w (ix3 (n0 := 1) (n1 := 1024) (n2 := 512) 0 k n) = weightsB x2 k ⟨1024 + n.val, by omega⟩)
    (y : S1x512x512.Idx) : View.canon (vPieces (k0_pay1 x0 x1) w) y = ProjModel.v (rowB x0 (y 1)) (gainsB x1) (weightsB x2) (y 2) := by
  obtain ⟨r, n, rfl⟩ : ∃ (r n : Fin 512), y = ix3 (n0 := 1) (n1 := 512) (n2 := 512) 0 r n := ⟨y 1, y 2, eq_ix3' y⟩
  rw [v_canon]
  refine (pay26_at _ _ r n).trans ?_
  unfold ProjModel.v ProjModel.proj
  exact Finset.sum_congr rfl fun k _ => congrArg₂ (· * ·) (pay1_at x0 x1 r k) (hw k n)

theorem u_block (w : Vec Ideal S1x1024x256 .bf16) (hw : ∀ (k : Fin 1024) (n : Fin 256), w (ix3 (n0 := 1) (n1 := 1024) (n2 := 256) 0 k n) = weightsB x2 k ⟨1536 + n.val, by omega⟩)
    (y : S1x512x256.Idx) : View.canon (uPieces (k0_pay1 x0 x1) w) y = ProjModel.us (rowB x0 (y 1)) (gainsB x1) (weightsB x2) (y 2) := by
  obtain ⟨r, n, rfl⟩ : ∃ (r : Fin 512) (n : Fin 256), y = ix3 (n0 := 1) (n1 := 512) (n2 := 256) 0 r n := ⟨y 1, y 2, eq_ix3' y⟩
  rw [u_canon]
  refine (pay27_at _ _ r n).trans ?_
  unfold ProjModel.us ProjModel.proj
  exact Finset.sum_congr rfl fun k _ => congrArg₂ (· * ·) (pay1_at x0 x1 r k) (hw k n)

end Values

end Cert.Kernel4Ideal.Proj

end
-- ==== Proof.ProjIdeal.Point.lean ====
/- What the call's results hold at a grid point. -/
module

public import proofs.«01_k».proof.Proof.ProjIdeal.Blocks

@[expose] public section

set_option pp.maxSteps 1500
set_option maxRecDepth 16384

noncomputable section

namespace Cert.Kernel4Ideal.Proj

open Cert.Kernel4Ideal Cert.Kernel4Ideal.Gen
open Idealize.ShloMosaic
open Idealize.ShloMosaic.View

section Point

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024x2304 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S32x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x256 .f32) (harg18 : arg18.IsWhole) (arg19 : Memref sig .tc .vmem S1x512x256 .bf16) (harg19 : arg19.IsWhole) (arg20 : Memref sig .tc .vmem S544x256 .f32) (harg20 : arg20.IsWhole) (arg21 : Memref sig .tc .vmem S512x256 .f32) (harg21 : arg21.IsWhole)
  (x0 : Vec Ideal S1x512x1024 .f32) (x1 : Vec Ideal S1x1024 .f32) (x2 : Vec Ideal S1x1024x2304 .bf16) (x3 : Vec Ideal S512x128 .f32) (x4 : Vec Ideal S512x128 .f32) (x5 : Vec Ideal S512x128 .f32) (x6 : Vec Ideal S32x256 .f32) (x7 : Vec Ideal S1x256 .f32) (x8 : Vec Ideal S1x256 .f32) (x9 : Vec Ideal S1x256 .f32) (x10 : Vec Ideal S256x256 .bf16) (x11 : Vec Ideal S1x256 .f32) (x12 : Vec Ideal S1x256 .f32) (xs0 : Vec Ideal S544x256 .f32)
  (s : Fin 512 → Fin 4096) (hT : IsTables x3 x4 x5 s)

include hT in
theorem out13_A (hc0 : cond0_0 i) (hc1 : ¬cond0_1 i) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 = fun y : S1x512x512.Idx => ProjModel.q (rowB x0 (y 1)) (gainsB x1) (weightsB x2) (s (y 1)) (y 2) := by
  funext y
  unfold out0_A_13
  rw [View.read_writes_junk_apply_eq_canon]
  unfold kernelRun0_A
  dsimp only
  simp only [kernelRun0_A.sl.r, kernelRun0_A.sl.r_3, kernelRun0_A.sl.r_4, kernelRun0_A.sl.r_5, kernelRun0_A.sl.r_6, kernelRun0_A.sl.r_10, kernelRun0_A.sl.r_11]
  simp only [read_whole arg2 harg2 x0 _ zero3, read_whole arg3 harg3 x1 _ zero2, read_whole arg5 harg5 x3 _ zero2, read_whole arg6 harg6 x4 _ zero2, read_whole arg7 harg7 x5 _ zero2, pay12_eq, pay16_eq, pay20_eq, pay22_eq, pay7_eq, pay8_eq, pay9_eq]
  exact q_block x0 x1 x2 x3 x4 x5 s hT _ (read_cols x2 arg4 harg4 0 512 (by decide) _) y

include hT in
theorem out14_A (hc0 : cond0_0 i) (hc1 : ¬cond0_1 i) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 = fun y : S1x512x512.Idx => ProjModel.k (rowB x0 (y 1)) (gainsB x1) (weightsB x2) (s (y 1)) (y 2) := by
  funext y
  unfold out0_A_14
  rw [View.read_writes_junk_apply_eq_canon]
  unfold kernelRun0_A
  dsimp only
  simp only [kernelRun0_A.sl.r, kernelRun0_A.sl.r_3, kernelRun0_A.sl.r_4, kernelRun0_A.sl.r_5, kernelRun0_A.sl.r_7, kernelRun0_A.sl.r_8, kernelRun0_A.sl.r_9, kernelRun0_A.sl.r_12, kernelRun0_A.sl.r_13]
  simp only [read_whole arg2 harg2 x0 _ zero3, read_whole arg3 harg3 x1 _ zero2, read_whole arg5 harg5 x3 _ zero2, read_whole arg6 harg6 x4 _ zero2, read_whole arg7 harg7 x5 _ zero2, pay15_eq, pay17_eq, pay21_eq, pay25_eq, pay11_eq, pay7_eq, pay8_eq, pay9_eq]
  exact k_block x0 x1 x2 x3 x4 x5 s hT _ (read_cols x2 arg4 harg4 512 512 (by decide) _) y

theorem out15_A (hc0 : cond0_0 i) (hc1 : ¬cond0_1 i) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 = fun y : S1x512x512.Idx => ProjModel.v (rowB x0 (y 1)) (gainsB x1) (weightsB x2) (y 2) := by
  funext y
  unfold out0_A_15
  rw [View.read_writes_junk_apply_eq_canon]
  unfold kernelRun0_A
  dsimp only
  simp only [kernelRun0_A.sl.r]
  simp only [read_whole arg2 harg2 x0 _ zero3, read_whole arg3 harg3 x1 _ zero2]
  exact v_block x0 x1 x2 _ (read_cols x2 arg4 harg4 1024 512 (by decide) _) y

theorem out16_A (hc0 : cond0_0 i) (hc1 : ¬cond0_1 i) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 = fun y : S1x512x256.Idx => ProjModel.us (rowB x0 (y 1)) (gainsB x1) (weightsB x2) (y 2) := by
  funext y
  unfold out0_A_16
  rw [View.read_writes_junk_apply_eq_canon]
  unfold kernelRun0_A
  dsimp only
  simp only [kernelRun0_A.sl.r]
  simp only [read_whole arg2 harg2 x0 _ zero3, read_whole arg3 harg3 x1 _ zero2]
  exact u_block x0 x1 x2 _ (read_cols x2 arg4 harg4 1536 256 (by decide) _) y

include hT in
theorem out13_B (hc0 : ¬cond0_0 i) (hc1 : cond0_1 i) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 xs0 = fun y : S1x512x512.Idx => ProjModel.q (rowB x0 (y 1)) (gainsB x1) (weightsB x2) (s (y 1)) (y 2) := by
  funext y
  unfold out0_B_13
  rw [View.read_writes_junk_apply_eq_canon]
  unfold kernelRun0_B
  dsimp only
  simp only [kernelRun0_B.sl.r, kernelRun0_B.sl.r_3, kernelRun0_B.sl.r_4, kernelRun0_B.sl.r_5, kernelRun0_B.sl.r_6, kernelRun0_B.sl.r_10, kernelRun0_B.sl.r_11]
  simp only [read_whole arg2 harg2 x0 _ zero3, read_whole arg3 harg3 x1 _ zero2, read_whole arg5 harg5 x3 _ zero2, read_whole arg6 harg6 x4 _ zero2, read_whole arg7 harg7 x5 _ zero2, pay12_eq, pay16_eq, pay20_eq, pay22_eq, pay7_eq, pay8_eq, pay9_eq]
  exact q_block x0 x1 x2 x3 x4 x5 s hT _ (read_cols x2 arg4 harg4 0 512 (by decide) _) y

include hT in
theorem out14_B (hc0 : ¬cond0_0 i) (hc1 : cond0_1 i) : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 xs0 = fun y : S1x512x512.Idx => ProjModel.k (rowB x0 (y 1)) (gainsB x1) (weightsB x2) (s (y 1)) (y 2) := by
  funext y
  unfold out0_B_14
  rw [View.read_writes_junk_apply_eq_canon]
  unfold kernelRun0_B
  dsimp only
  simp only [kernelRun0_B.sl.r, kernelRun0_B.sl.r_3, kernelRun0_B.sl.r_4, kernelRun0_B.sl.r_5, kernelRun0_B.sl.r_7, kernelRun0_B.sl.r_8, kernelRun0_B.sl.r_9, kernelRun0_B.sl.r_12, kernelRun0_B.sl.r_13]
  simp only [read_whole arg2 harg2 x0 _ zero3, read_whole arg3 harg3 x1 _ zero2, read_whole arg5 harg5 x3 _ zero2, read_whole arg6 harg6 x4 _ zero2, read_whole arg7 harg7 x5 _ zero2, pay15_eq, pay17_eq, pay21_eq, pay25_eq, pay11_eq, pay7_eq, pay8_eq, pay9_eq]
  exact k_block x0 x1 x2 x3 x4 x5 s hT _ (read_cols x2 arg4 harg4 512 512 (by decide) _) y

theorem out15_B (hc0 : ¬cond0_0 i) (hc1 : cond0_1 i) : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 xs0 = fun y : S1x512x512.Idx => ProjModel.v (rowB x0 (y 1)) (gainsB x1) (weightsB x2) (y 2) := by
  funext y
  unfold out0_B_15
  rw [View.read_writes_junk_apply_eq_canon]
  unfold kernelRun0_B
  dsimp only
  simp only [kernelRun0_B.sl.r]
  simp only [read_whole arg2 harg2 x0 _ zero3, read_whole arg3 harg3 x1 _ zero2]
  exact v_block x0 x1 x2 _ (read_cols x2 arg4 harg4 1024 512 (by decide) _) y

theorem out16_B (hc0 : ¬cond0_0 i) (hc1 : cond0_1 i) : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 xs0 = fun y : S1x512x256.Idx => ProjModel.us (rowB x0 (y 1)) (gainsB x1) (weightsB x2) (y 2) := by
  funext y
  unfold out0_B_16
  rw [View.read_writes_junk_apply_eq_canon]
  unfold kernelRun0_B
  dsimp only
  simp only [kernelRun0_B.sl.r]
  simp only [read_whole arg2 harg2 x0 _ zero3, read_whole arg3 harg3 x1 _ zero2]
  exact u_block x0 x1 x2 _ (read_cols x2 arg4 harg4 1536 256 (by decide) _) y

end Point

end Cert.Kernel4Ideal.Proj

end
-- ==== Proof.ProjIdeal.Tables.lean ====
/- The rotation tables the call is given, at an index. -/
module

public import proofs.«01_k».proof.Proof.Gen.Kernel4Ideal.Value
public import proofs.«01_k».proof.Proof.ProjModel
public import Idealize.ShloMosaic.Lib.StableHlo.ReadAt
public import Idealize.ShloMosaic.Lib.Pointwise

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic Idealize.SL Idealize.SL.Sem

variable (m : (ℓ : Loc nD τ sig) → Buf (Elt Ideal) ℓ) (c : Dev nD)

theorem sitofp_def (b : BitVec 32) : (FloatOps.sitofp (F := Ideal) .f32 b : EReal) = ((b.toInt : ℝ) : EReal) := rfl

theorem V_3 (s : Fin 4096) (d : Fin 128) : (V m c main_v24 : Vec Ideal S4096x128 .f32) (ix2 (n0 := 4096) (n1 := 128) s d)
    = if h : d.val % 64 < 8 then ProjModel.cs s ⟨d.val % 64, h⟩ else if h' : d.val % 64 - 8 < 8 then ProjModel.cs s ⟨d.val % 64 - 8, h'⟩ else (1 : EReal) := by
  unfold V ProjModel.cs ProjModel.ang
  after_reads_at
  by_cases h : d.val % 64 < 8
  · simp only [dif_pos h]
    after_reads_at
    all_goals simp only [sitofp_def]
  · simp only [dif_neg h]
    by_cases h' : d.val % 64 - 8 < 8
    · simp only [dif_pos h']
      after_reads_at
      all_goals simp only [sitofp_def]
    · simp only [dif_neg h']
      after_reads_at

theorem V_4 (s : Fin 4096) (d : Fin 128) : (V m c main_v29 : Vec Ideal S4096x128 .f32) (ix2 (n0 := 4096) (n1 := 128) s d)
    = if h : d.val % 64 < 8 then -ProjModel.sn s ⟨d.val % 64, h⟩ else if h' : d.val % 64 - 8 < 8 then (0 : EReal) else (0 : EReal) := by
  unfold V ProjModel.sn ProjModel.ang
  after_reads_at
  by_cases h : d.val % 64 < 8
  · simp only [dif_pos h]
    after_reads_at
    all_goals simp only [sitofp_def]
  · simp only [dif_neg h]
    by_cases h' : d.val % 64 - 8 < 8
    · simp only [dif_pos h']
      after_reads_at
      all_goals simp only [sitofp_def]
    · simp only [dif_neg h']
      after_reads_at

theorem V_5 (s : Fin 4096) (d : Fin 128) : (V m c main_v33 : Vec Ideal S4096x128 .f32) (ix2 (n0 := 4096) (n1 := 128) s d)
    = if h : d.val % 64 < 8 then (0 : EReal) else if h' : d.val % 64 - 8 < 8 then ProjModel.sn s ⟨d.val % 64 - 8, h'⟩ else (0 : EReal) := by
  unfold V ProjModel.sn ProjModel.ang
  after_reads_at
  by_cases h : d.val % 64 < 8
  · simp only [dif_pos h]
    after_reads_at
    all_goals simp only [sitofp_def]
  · simp only [dif_neg h]
    by_cases h' : d.val % 64 - 8 < 8
    · simp only [dif_pos h']
      after_reads_at
      all_goals simp only [sitofp_def]
    · simp only [dif_neg h']
      after_reads_at

theorem V_1 (k : Fin 1024) : (V m c main_v40 : Vec Ideal S1x1024 .f32) (ix2 (n0 := 1) (n1 := 1024) 0 k) = m ((c : Thread nD τ).loc main_arg1) (ix2 (n0 := 2) (n1 := 1024) 0 k) := by
  unfold V
  after_reads_at

theorem V_2 (l : Fin 2) (k : Fin 1024) (n : Fin 2304) : (V m c main_v34 : Vec Ideal S2x1024x2304 .bf16) (ix3 (n0 := 2) (n1 := 1024) (n2 := 2304) l k n)
    = m ((c : Thread nD τ).loc main_arg2) (ix3 (n0 := 2) (n1 := 1024) (n2 := 2304) l k n) := by
  unfold V
  after_reads_at

end Cert.Kernel4Ideal.Proj

end
-- ==== Proof.ProjIdeal.Value.lean ====
/- The run of the call: its result arrays are the model's results. -/
module

public import proofs.«01_k».proof.Proof.ProjIdeal.Point
public import proofs.«01_k».proof.Proof.ProjIdeal.Tables
public import proofs.«01_k».proof.Proof.Gen.Kernel4Ideal.Value
public import Idealize.ShloMosaic.Lib.StableHlo.ReadAt
public import Idealize.ShloMosaic.Lib.Pointwise

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic Idealize.SL Idealize.SL.Sem

variable (m : (ℓ : Loc nD τ sig) → Buf (Elt Ideal) ℓ) (ρ : Dev nD → PrngReg) (c : Dev nD)

theorem lt_points (t : Fin cfg0.N) : t.val < 64 := lt_of_lt_of_eq t.isLt N_0

theorem idx_0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)

theorem iblk_0 (t : Fin cfg0.N) (r : Fin 512) (k : Fin 1024) (hb : t.val / 8 < 8) (hs : 512 * (t.val % 8) + r.val < 4096) :
    (iblk m c 0 t : Vec Ideal S1x512x1024 .f32) (ix3 (n0 := 1) (n1 := 512) (n2 := 1024) 0 r k) = m ((c : Thread nD τ).loc main_arg0) (ix3 (n0 := 8) (n1 := 4096) (n2 := 1024) ⟨t.val / 8, hb⟩ ⟨512 * (t.val % 8) + r.val, hs⟩ k) := by
  obtain ⟨e0, e1, e2⟩ := idx_0 t
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 1024 + 1 * k.val = k.val; omega

theorem idx_1 : ∀ t : Fin cfg0.N, win0_1.index t (0 : Fin 2) = 0 ∧ win0_1.index t (1 : Fin 2) = 0 :=
  (by decide +kernel : ∀ t : Fin grid0.N, _)

theorem iblk_1 (t : Fin cfg0.N) (k : Fin 1024) : (iblk m c 1 t : Vec Ideal S1x1024 .f32) (ix2 (n0 := 1) (n1 := 1024) 0 k) = m ((c : Thread nD τ).loc main_arg1) (ix2 (n0 := 2) (n1 := 1024) 0 k) := by
  obtain ⟨e0, e1⟩ := idx_1 t
  refine Eq.trans ?_ (V_1 m c k)
  show V m c main_v40 (((cfg0.win 1).blk t).view.emb _) = V m c main_v40 _
  congr 1
  funext a
  apply Fin.ext
  match a with
  | ⟨0, _⟩ => show win0_1.index t (0 : Fin 2) * 1 + 1 * 0 = 0; omega
  | ⟨1, _⟩ => show win0_1.index t (1 : Fin 2) * 1024 + 1 * k.val = k.val; omega

theorem idx_2 : ∀ t : Fin cfg0.N, win0_2.index t (0 : Fin 3) = 0 ∧ win0_2.index t (1 : Fin 3) = 0 ∧ win0_2.index t (2 : Fin 3) = 0 :=
  (by decide +kernel : ∀ t : Fin grid0.N, _)

theorem iblk_2 (t : Fin cfg0.N) (k : Fin 1024) (n : Fin 2304) : (iblk m c 2 t : Vec Ideal S1x1024x2304 .bf16) (ix3 (n0 := 1) (n1 := 1024) (n2 := 2304) 0 k n) = m ((c : Thread nD τ).loc main_arg2) (ix3 (n0 := 2) (n1 := 1024) (n2 := 2304) 0 k n) := by
  obtain ⟨e0, e1, e2⟩ := idx_2 t
  refine Eq.trans ?_ (V_2 m c 0 k n)
  show V m c main_v34 (((cfg0.win 2).blk t).view.emb _) = V m c main_v34 _
  congr 1
  funext a
  apply Fin.ext
  match a with
  | ⟨0, _⟩ => show win0_2.index t (0 : Fin 3) * 1 + 1 * 0 = 0; omega
  | ⟨1, _⟩ => show win0_2.index t (1 : Fin 3) * 1024 + 1 * k.val = k.val; omega
  | ⟨2, _⟩ => show win0_2.index t (2 : Fin 3) * 2304 + 1 * n.val = n.val; omega

theorem idx_3 : ∀ t : Fin cfg0.N, win0_3.index t (0 : Fin 2) = t.val % 8 ∧ win0_3.index t (1 : Fin 2) = 0 :=
  (by decide +kernel : ∀ t : Fin grid0.N, _)

theorem iblk_3 (t : Fin cfg0.N) (r : Fin 512) (d : Fin 128) (hs : 512 * (t.val % 8) + r.val < 4096) :
    (iblk m c 3 t : Vec Ideal S512x128 .f32) (ix2 (n0 := 512) (n1 := 128) r d) = (V m c main_v24 : Vec Ideal S4096x128 .f32) (ix2 (n0 := 4096) (n1 := 128) ⟨512 * (t.val % 8) + r.val, hs⟩ d) := by
  obtain ⟨e0, e1⟩ := idx_3 t
  show V m c main_v24 (((cfg0.win 3).blk t).view.emb _) = V m c main_v24 _
  congr 1
  funext a
  apply Fin.ext
  match a with
  | ⟨0, _⟩ => show win0_3.index t (0 : Fin 2) * 512 + 1 * r.val = 512 * (t.val % 8) + r.val; omega
  | ⟨1, _⟩ => show win0_3.index t (1 : Fin 2) * 128 + 1 * d.val = d.val; omega

theorem idx_4 : ∀ t : Fin cfg0.N, win0_4.index t (0 : Fin 2) = t.val % 8 ∧ win0_4.index t (1 : Fin 2) = 0 :=
  (by decide +kernel : ∀ t : Fin grid0.N, _)

theorem iblk_4 (t : Fin cfg0.N) (r : Fin 512) (d : Fin 128) (hs : 512 * (t.val % 8) + r.val < 4096) :
    (iblk m c 4 t : Vec Ideal S512x128 .f32) (ix2 (n0 := 512) (n1 := 128) r d) = (V m c main_v29 : Vec Ideal S4096x128 .f32) (ix2 (n0 := 4096) (n1 := 128) ⟨512 * (t.val % 8) + r.val, hs⟩ d) := by
  obtain ⟨e0, e1⟩ := idx_4 t
  show V m c main_v29 (((cfg0.win 4).blk t).view.emb _) = V m c main_v29 _
  congr 1
  funext a
  apply Fin.ext
  match a with
  | ⟨0, _⟩ => show win0_4.index t (0 : Fin 2) * 512 + 1 * r.val = 512 * (t.val % 8) + r.val; omega
  | ⟨1, _⟩ => show win0_4.index t (1 : Fin 2) * 128 + 1 * d.val = d.val; omega

theorem idx_5 : ∀ t : Fin cfg0.N, win0_5.index t (0 : Fin 2) = t.val % 8 ∧ win0_5.index t (1 : Fin 2) = 0 :=
  (by decide +kernel : ∀ t : Fin grid0.N, _)

theorem iblk_5 (t : Fin cfg0.N) (r : Fin 512) (d : Fin 128) (hs : 512 * (t.val % 8) + r.val < 4096) :
    (iblk m c 5 t : Vec Ideal S512x128 .f32) (ix2 (n0 := 512) (n1 := 128) r d) = (V m c main_v33 : Vec Ideal S4096x128 .f32) (ix2 (n0 := 4096) (n1 := 128) ⟨512 * (t.val % 8) + r.val, hs⟩ d) := by
  obtain ⟨e0, e1⟩ := idx_5 t
  show V m c main_v33 (((cfg0.win 5).blk t).view.emb _) = V m c main_v33 _
  congr 1
  funext a
  apply Fin.ext
  match a with
  | ⟨0, _⟩ => show win0_5.index t (0 : Fin 2) * 512 + 1 * r.val = 512 * (t.val % 8) + r.val; omega
  | ⟨1, _⟩ => show win0_5.index t (1 : Fin 2) * 128 + 1 * d.val = d.val; omega

/-- The token of row `r` of a point's block. -/
def tok (t : Fin cfg0.N) (r : Fin 512) : Fin 4096 := ⟨512 * (t.val % 8) + r.val, by omega⟩

/-- The sequence of a point. -/
def seq (t : Fin cfg0.N) : Fin 8 := ⟨t.val / 8, by have := lt_points t; omega⟩

theorem tables (t : Fin cfg0.N) : IsTables (iblk m c 3 t) (iblk m c 4 t) (iblk m c 5 t) (tok t) := fun r d =>
  ⟨(iblk_3 m c t r d (tok t r).isLt).trans (V_3 m c (tok t r) d), (iblk_4 m c t r d (tok t r).isLt).trans (V_4 m c (tok t r) d), (iblk_5 m c t r d (tok t r).isLt).trans (V_5 m c (tok t r) d)⟩

/-- The rows, gains and weights of the run. -/
def rowK (b : Fin 8) (s : Fin 4096) : Fin 1024 → EReal := ProjModel.rowAt (m ((c : Thread nD τ).loc main_arg0)) b s
def gainsK : Fin 1024 → EReal := ProjModel.gainsAt (m ((c : Thread nD τ).loc main_arg1))
def weightsK : Fin 1024 → Fin 2304 → EReal := ProjModel.weightsAt (m ((c : Thread nD τ).loc main_arg2))

theorem row_eq (t : Fin cfg0.N) (r : Fin 512) : rowB (iblk m c 0 t) r = rowK m c (seq t) (tok t r) :=
  funext fun k => iblk_0 m c t r k (seq t).isLt (tok t r).isLt
theorem gains_eq (t : Fin cfg0.N) : gainsB (iblk m c 1 t) = gainsK m c := funext fun k => iblk_1 m c t k
theorem weights_eq (t : Fin cfg0.N) : weightsB (iblk m c 2 t) = weightsK m c := funext fun k => funext fun n => iblk_2 m c t k n

/-- The result arrays. -/
def result_13 : Vec Ideal S8x4096x512 .bf16 := fun y => ProjModel.q (rowK m c (y 0) (y 1)) (gainsK m c) (weightsK m c) (y 1) (y 2)
def result_14 : Vec Ideal S8x4096x512 .bf16 := fun y => ProjModel.k (rowK m c (y 0) (y 1)) (gainsK m c) (weightsK m c) (y 1) (y 2)
def result_15 : Vec Ideal S8x4096x512 .bf16 := fun y => ProjModel.v (rowK m c (y 0) (y 1)) (gainsK m c) (weightsK m c) (y 2)
def result_16 : Vec Ideal S8x4096x256 .f32 := fun y => ProjModel.us (rowK m c (y 0) (y 1)) (gainsK m c) (weightsK m c) (y 2)

theorem idx_13 : ∀ t : Fin cfg0.N, (cfg0.win 13).flush t = true ∧ win0_13.index t (0 : Fin 3) = t.val / 8 ∧ win0_13.index t (1 : Fin 3) = t.val % 8 ∧ win0_13.index t (2 : Fin 3) = 0 :=
  (by decide +kernel : ∀ t : Fin grid0.N, _)

theorem block_13 (t : Fin cfg0.N) : (cfg0.win 13).cut (grid0.coords t) (fun y : S1x512x512.Idx => ProjModel.q (rowB (iblk m c 0 t) (y 1)) (gainsB (iblk m c 1 t)) (weightsB (iblk m c 2 t)) (tok t (y 1)) (y 2))
    = ((cfg0.win 13).blk t).view.read (Elt Ideal) (result_13 m c) := by
  obtain ⟨-, e0, e1, e2⟩ := idx_13 t
  have hl := lt_points t
  funext y
  have hy0 : (y 0).val < 1 := (y 0).isLt
  have hy1 : (y 1).val < 512 := (y 1).isLt
  have hy2 : (y 2).val < 512 := (y 2).isLt
  have f0 : seq t = (((cfg0.win 13).blk t).view.emb y 0) := Fin.ext (by show t.val / 8 = win0_13.index t (0 : Fin 3) * 1 + 1 * (y 0).val; omega)
  have f1 : tok t ⟨(y 1).val, hy1⟩ = (((cfg0.win 13).blk t).view.emb y 1) := Fin.ext (by show 512 * (t.val % 8) + (y 1).val = win0_13.index t (1 : Fin 3) * 512 + 1 * (y 1).val; omega)
  have f2 : (⟨(y 2).val, hy2⟩ : Fin 512) = (((cfg0.win 13).blk t).view.emb y 2) := Fin.ext (by show (y 2).val = win0_13.index t (2 : Fin 3) * 512 + 1 * (y 2).val; omega)
  show ProjModel.q (rowB (iblk m c 0 t) ⟨(y 1).val, hy1⟩) (gainsB (iblk m c 1 t)) (weightsB (iblk m c 2 t)) (tok t ⟨(y 1).val, hy1⟩) ⟨(y 2).val, hy2⟩
    = ProjModel.q (rowK m c (((cfg0.win 13).blk t).view.emb y 0) (((cfg0.win 13).blk t).view.emb y 1)) (gainsK m c) (weightsK m c) (((cfg0.win 13).blk t).view.emb y 1) (((cfg0.win 13).blk t).view.emb y 2)
  rw [row_eq, gains_eq, weights_eq, f0, f1, f2]

theorem flushed_13 (t : Fin cfg0.N) : (dats m 0 c).flushed 13 t = ((cfg0.win 13).blk t).view.read (Elt Ideal) (result_13 m c) := by
  by_cases h : t.val % 8 = 0
  · rw [Value.flushed13_A m c t h (by omega), out13_A (s := tok t) (hT := tables m c t)]
    exact block_13 m c t
  · rw [Value.flushed13_B m c t h (by omega), out13_B (s := tok t) (hT := tables m c t)]
    exact block_13 m c t

theorem mem_blk13 (t : Fin cfg0.N) (i : S8x4096x512.Idx) :
    i ∈ ((cfg0.win 13).blk t).view.set ↔ ∀ a : Fin 3, win0_13.index t a * S1x512x512.size a ≤ (i a).val ∧ (i a).val < win0_13.index t a * S1x512x512.size a + S1x512x512.size a := by
  show i ∈ ((View.whole main_v59_0).slice (win0_13.rect t)).set ↔ _
  rw [View.set_slice_whole, Rect.mem_set_unit]
  exact Iff.rfl

theorem covered_13 (i : S8x4096x512.Idx) : ∃ t : Fin cfg0.N, (cfg0.win 13).flush t = true ∧ i ∈ ((cfg0.win 13).blk t).view.set := by
  have hi0 : (i 0).val < 8 := (i 0).isLt
  have hi1 : (i 1).val < 4096 := (i 1).isLt
  have hi2 : (i 2).val < 512 := (i 2).isLt
  obtain ⟨hf, e0, e1, e2⟩ := idx_13 ⟨(i 0).val * 8 + (i 1).val / 512, lt_of_lt_of_eq (by omega) N_0.symm⟩
  refine ⟨_, hf, ?_⟩
  rw [mem_blk13]
  intro a
  match a with
  | ⟨0, _⟩ => show win0_13.index _ (0 : Fin 3) * 1 ≤ (i 0).val ∧ (i 0).val < win0_13.index _ (0 : Fin 3) * 1 + 1; rw [e0]; show ((i 0).val * 8 + (i 1).val / 512) / 8 * 1 ≤ (i 0).val ∧ (i 0).val < ((i 0).val * 8 + (i 1).val / 512) / 8 * 1 + 1; omega
  | ⟨1, _⟩ => show win0_13.index _ (1 : Fin 3) * 512 ≤ (i 1).val ∧ (i 1).val < win0_13.index _ (1 : Fin 3) * 512 + 512; rw [e1]; show ((i 0).val * 8 + (i 1).val / 512) % 8 * 512 ≤ (i 1).val ∧ (i 1).val < ((i 0).val * 8 + (i 1).val / 512) % 8 * 512 + 512; omega
  | ⟨2, _⟩ => show win0_13.index _ (2 : Fin 3) * 512 ≤ (i 2).val ∧ (i 2).val < win0_13.index _ (2 : Fin 3) * 512 + 512; omega

theorem final_13 : (dats m 0 c).arrAt 13 cfg0.N = result_13 m c :=
  (dats m 0 c).arrAt_eq_of_cover 13 _ (fun t _ => flushed_13 m c t) covered_13

theorem idx_14 : ∀ t : Fin cfg0.N, (cfg0.win 14).flush t = true ∧ win0_14.index t (0 : Fin 3) = t.val / 8 ∧ win0_14.index t (1 : Fin 3) = t.val % 8 ∧ win0_14.index t (2 : Fin 3) = 0 :=
  (by decide +kernel : ∀ t : Fin grid0.N, _)

theorem block_14 (t : Fin cfg0.N) : (cfg0.win 14).cut (grid0.coords t) (fun y : S1x512x512.Idx => ProjModel.k (rowB (iblk m c 0 t) (y 1)) (gainsB (iblk m c 1 t)) (weightsB (iblk m c 2 t)) (tok t (y 1)) (y 2))
    = ((cfg0.win 14).blk t).view.read (Elt Ideal) (result_14 m c) := by
  obtain ⟨-, e0, e1, e2⟩ := idx_14 t
  have hl := lt_points t
  funext y
  have hy0 : (y 0).val < 1 := (y 0).isLt
  have hy1 : (y 1).val < 512 := (y 1).isLt
  have hy2 : (y 2).val < 512 := (y 2).isLt
  have f0 : seq t = (((cfg0.win 14).blk t).view.emb y 0) := Fin.ext (by show t.val / 8 = win0_14.index t (0 : Fin 3) * 1 + 1 * (y 0).val; omega)
  have f1 : tok t ⟨(y 1).val, hy1⟩ = (((cfg0.win 14).blk t).view.emb y 1) := Fin.ext (by show 512 * (t.val % 8) + (y 1).val = win0_14.index t (1 : Fin 3) * 512 + 1 * (y 1).val; omega)
  have f2 : (⟨(y 2).val, hy2⟩ : Fin 512) = (((cfg0.win 14).blk t).view.emb y 2) := Fin.ext (by show (y 2).val = win0_14.index t (2 : Fin 3) * 512 + 1 * (y 2).val; omega)
  show ProjModel.k (rowB (iblk m c 0 t) ⟨(y 1).val, hy1⟩) (gainsB (iblk m c 1 t)) (weightsB (iblk m c 2 t)) (tok t ⟨(y 1).val, hy1⟩) ⟨(y 2).val, hy2⟩
    = ProjModel.k (rowK m c (((cfg0.win 14).blk t).view.emb y 0) (((cfg0.win 14).blk t).view.emb y 1)) (gainsK m c) (weightsK m c) (((cfg0.win 14).blk t).view.emb y 1) (((cfg0.win 14).blk t).view.emb y 2)
  rw [row_eq, gains_eq, weights_eq, f0, f1, f2]

theorem flushed_14 (t : Fin cfg0.N) : (dats m 0 c).flushed 14 t = ((cfg0.win 14).blk t).view.read (Elt Ideal) (result_14 m c) := by
  by_cases h : t.val % 8 = 0
  · rw [Value.flushed14_A m c t h (by omega), out14_A (s := tok t) (hT := tables m c t)]
    exact block_14 m c t
  · rw [Value.flushed14_B m c t h (by omega), out14_B (s := tok t) (hT := tables m c t)]
    exact block_14 m c t

theorem mem_blk14 (t : Fin cfg0.N) (i : S8x4096x512.Idx) :
    i ∈ ((cfg0.win 14).blk t).view.set ↔ ∀ a : Fin 3, win0_14.index t a * S1x512x512.size a ≤ (i a).val ∧ (i a).val < win0_14.index t a * S1x512x512.size a + S1x512x512.size a := by
  show i ∈ ((View.whole main_v59_1).slice (win0_14.rect t)).set ↔ _
  rw [View.set_slice_whole, Rect.mem_set_unit]
  exact Iff.rfl

theorem covered_14 (i : S8x4096x512.Idx) : ∃ t : Fin cfg0.N, (cfg0.win 14).flush t = true ∧ i ∈ ((cfg0.win 14).blk t).view.set := by
  have hi0 : (i 0).val < 8 := (i 0).isLt
  have hi1 : (i 1).val < 4096 := (i 1).isLt
  have hi2 : (i 2).val < 512 := (i 2).isLt
  obtain ⟨hf, e0, e1, e2⟩ := idx_14 ⟨(i 0).val * 8 + (i 1).val / 512, lt_of_lt_of_eq (by omega) N_0.symm⟩
  refine ⟨_, hf, ?_⟩
  rw [mem_blk14]
  intro a
  match a with
  | ⟨0, _⟩ => show win0_14.index _ (0 : Fin 3) * 1 ≤ (i 0).val ∧ (i 0).val < win0_14.index _ (0 : Fin 3) * 1 + 1; rw [e0]; show ((i 0).val * 8 + (i 1).val / 512) / 8 * 1 ≤ (i 0).val ∧ (i 0).val < ((i 0).val * 8 + (i 1).val / 512) / 8 * 1 + 1; omega
  | ⟨1, _⟩ => show win0_14.index _ (1 : Fin 3) * 512 ≤ (i 1).val ∧ (i 1).val < win0_14.index _ (1 : Fin 3) * 512 + 512; rw [e1]; show ((i 0).val * 8 + (i 1).val / 512) % 8 * 512 ≤ (i 1).val ∧ (i 1).val < ((i 0).val * 8 + (i 1).val / 512) % 8 * 512 + 512; omega
  | ⟨2, _⟩ => show win0_14.index _ (2 : Fin 3) * 512 ≤ (i 2).val ∧ (i 2).val < win0_14.index _ (2 : Fin 3) * 512 + 512; omega

theorem final_14 : (dats m 0 c).arrAt 14 cfg0.N = result_14 m c :=
  (dats m 0 c).arrAt_eq_of_cover 14 _ (fun t _ => flushed_14 m c t) covered_14

theorem idx_15 : ∀ t : Fin cfg0.N, (cfg0.win 15).flush t = true ∧ win0_15.index t (0 : Fin 3) = t.val / 8 ∧ win0_15.index t (1 : Fin 3) = t.val % 8 ∧ win0_15.index t (2 : Fin 3) = 0 :=
  (by decide +kernel : ∀ t : Fin grid0.N, _)

theorem block_15 (t : Fin cfg0.N) : (cfg0.win 15).cut (grid0.coords t) (fun y : S1x512x512.Idx => ProjModel.v (rowB (iblk m c 0 t) (y 1)) (gainsB (iblk m c 1 t)) (weightsB (iblk m c 2 t)) (y 2))
    = ((cfg0.win 15).blk t).view.read (Elt Ideal) (result_15 m c) := by
  obtain ⟨-, e0, e1, e2⟩ := idx_15 t
  have hl := lt_points t
  funext y
  have hy0 : (y 0).val < 1 := (y 0).isLt
  have hy1 : (y 1).val < 512 := (y 1).isLt
  have hy2 : (y 2).val < 512 := (y 2).isLt
  have f0 : seq t = (((cfg0.win 15).blk t).view.emb y 0) := Fin.ext (by show t.val / 8 = win0_15.index t (0 : Fin 3) * 1 + 1 * (y 0).val; omega)
  have f1 : tok t ⟨(y 1).val, hy1⟩ = (((cfg0.win 15).blk t).view.emb y 1) := Fin.ext (by show 512 * (t.val % 8) + (y 1).val = win0_15.index t (1 : Fin 3) * 512 + 1 * (y 1).val; omega)
  have f2 : (⟨(y 2).val, hy2⟩ : Fin 512) = (((cfg0.win 15).blk t).view.emb y 2) := Fin.ext (by show (y 2).val = win0_15.index t (2 : Fin 3) * 512 + 1 * (y 2).val; omega)
  show ProjModel.v (rowB (iblk m c 0 t) ⟨(y 1).val, hy1⟩) (gainsB (iblk m c 1 t)) (weightsB (iblk m c 2 t)) ⟨(y 2).val, hy2⟩
    = ProjModel.v (rowK m c (((cfg0.win 15).blk t).view.emb y 0) (((cfg0.win 15).blk t).view.emb y 1)) (gainsK m c) (weightsK m c) (((cfg0.win 15).blk t).view.emb y 2)
  rw [row_eq, gains_eq, weights_eq, f0, f1, f2]

theorem flushed_15 (t : Fin cfg0.N) : (dats m 0 c).flushed 15 t = ((cfg0.win 15).blk t).view.read (Elt Ideal) (result_15 m c) := by
  by_cases h : t.val % 8 = 0
  · rw [Value.flushed15_A m c t h (by omega), out15_A]
    exact block_15 m c t
  · rw [Value.flushed15_B m c t h (by omega), out15_B]
    exact block_15 m c t

theorem mem_blk15 (t : Fin cfg0.N) (i : S8x4096x512.Idx) :
    i ∈ ((cfg0.win 15).blk t).view.set ↔ ∀ a : Fin 3, win0_15.index t a * S1x512x512.size a ≤ (i a).val ∧ (i a).val < win0_15.index t a * S1x512x512.size a + S1x512x512.size a := by
  show i ∈ ((View.whole main_v59_2).slice (win0_15.rect t)).set ↔ _
  rw [View.set_slice_whole, Rect.mem_set_unit]
  exact Iff.rfl

theorem covered_15 (i : S8x4096x512.Idx) : ∃ t : Fin cfg0.N, (cfg0.win 15).flush t = true ∧ i ∈ ((cfg0.win 15).blk t).view.set := by
  have hi0 : (i 0).val < 8 := (i 0).isLt
  have hi1 : (i 1).val < 4096 := (i 1).isLt
  have hi2 : (i 2).val < 512 := (i 2).isLt
  obtain ⟨hf, e0, e1, e2⟩ := idx_15 ⟨(i 0).val * 8 + (i 1).val / 512, lt_of_lt_of_eq (by omega) N_0.symm⟩
  refine ⟨_, hf, ?_⟩
  rw [mem_blk15]
  intro a
  match a with
  | ⟨0, _⟩ => show win0_15.index _ (0 : Fin 3) * 1 ≤ (i 0).val ∧ (i 0).val < win0_15.index _ (0 : Fin 3) * 1 + 1; rw [e0]; show ((i 0).val * 8 + (i 1).val / 512) / 8 * 1 ≤ (i 0).val ∧ (i 0).val < ((i 0).val * 8 + (i 1).val / 512) / 8 * 1 + 1; omega
  | ⟨1, _⟩ => show win0_15.index _ (1 : Fin 3) * 512 ≤ (i 1).val ∧ (i 1).val < win0_15.index _ (1 : Fin 3) * 512 + 512; rw [e1]; show ((i 0).val * 8 + (i 1).val / 512) % 8 * 512 ≤ (i 1).val ∧ (i 1).val < ((i 0).val * 8 + (i 1).val / 512) % 8 * 512 + 512; omega
  | ⟨2, _⟩ => show win0_15.index _ (2 : Fin 3) * 512 ≤ (i 2).val ∧ (i 2).val < win0_15.index _ (2 : Fin 3) * 512 + 512; omega

theorem final_15 : (dats m 0 c).arrAt 15 cfg0.N = result_15 m c :=
  (dats m 0 c).arrAt_eq_of_cover 15 _ (fun t _ => flushed_15 m c t) covered_15

theorem idx_16 : ∀ t : Fin cfg0.N, (cfg0.win 16).flush t = true ∧ win0_16.index t (0 : Fin 3) = t.val / 8 ∧ win0_16.index t (1 : Fin 3) = t.val % 8 ∧ win0_16.index t (2 : Fin 3) = 0 :=
  (by decide +kernel : ∀ t : Fin grid0.N, _)

theorem block_16 (t : Fin cfg0.N) : (cfg0.win 16).cut (grid0.coords t) (fun y : S1x512x256.Idx => ProjModel.us (rowB (iblk m c 0 t) (y 1)) (gainsB (iblk m c 1 t)) (weightsB (iblk m c 2 t)) (y 2))
    = ((cfg0.win 16).blk t).view.read (Elt Ideal) (result_16 m c) := by
  obtain ⟨-, e0, e1, e2⟩ := idx_16 t
  have hl := lt_points t
  funext y
  have hy0 : (y 0).val < 1 := (y 0).isLt
  have hy1 : (y 1).val < 512 := (y 1).isLt
  have hy2 : (y 2).val < 256 := (y 2).isLt
  have f0 : seq t = (((cfg0.win 16).blk t).view.emb y 0) := Fin.ext (by show t.val / 8 = win0_16.index t (0 : Fin 3) * 1 + 1 * (y 0).val; omega)
  have f1 : tok t ⟨(y 1).val, hy1⟩ = (((cfg0.win 16).blk t).view.emb y 1) := Fin.ext (by show 512 * (t.val % 8) + (y 1).val = win0_16.index t (1 : Fin 3) * 512 + 1 * (y 1).val; omega)
  have f2 : (⟨(y 2).val, hy2⟩ : Fin 256) = (((cfg0.win 16).blk t).view.emb y 2) := Fin.ext (by show (y 2).val = win0_16.index t (2 : Fin 3) * 256 + 1 * (y 2).val; omega)
  show ProjModel.us (rowB (iblk m c 0 t) ⟨(y 1).val, hy1⟩) (gainsB (iblk m c 1 t)) (weightsB (iblk m c 2 t)) ⟨(y 2).val, hy2⟩
    = ProjModel.us (rowK m c (((cfg0.win 16).blk t).view.emb y 0) (((cfg0.win 16).blk t).view.emb y 1)) (gainsK m c) (weightsK m c) (((cfg0.win 16).blk t).view.emb y 2)
  rw [row_eq, gains_eq, weights_eq, f0, f1, f2]

theorem flushed_16 (t : Fin cfg0.N) : (dats m 0 c).flushed 16 t = ((cfg0.win 16).blk t).view.read (Elt Ideal) (result_16 m c) := by
  by_cases h : t.val % 8 = 0
  · rw [Value.flushed16_A m c t h (by omega), out16_A]
    exact block_16 m c t
  · rw [Value.flushed16_B m c t h (by omega), out16_B]
    exact block_16 m c t

theorem mem_blk16 (t : Fin cfg0.N) (i : S8x4096x256.Idx) :
    i ∈ ((cfg0.win 16).blk t).view.set ↔ ∀ a : Fin 3, win0_16.index t a * S1x512x256.size a ≤ (i a).val ∧ (i a).val < win0_16.index t a * S1x512x256.size a + S1x512x256.size a := by
  show i ∈ ((View.whole main_v59_3).slice (win0_16.rect t)).set ↔ _
  rw [View.set_slice_whole, Rect.mem_set_unit]
  exact Iff.rfl

theorem covered_16 (i : S8x4096x256.Idx) : ∃ t : Fin cfg0.N, (cfg0.win 16).flush t = true ∧ i ∈ ((cfg0.win 16).blk t).view.set := by
  have hi0 : (i 0).val < 8 := (i 0).isLt
  have hi1 : (i 1).val < 4096 := (i 1).isLt
  have hi2 : (i 2).val < 256 := (i 2).isLt
  obtain ⟨hf, e0, e1, e2⟩ := idx_16 ⟨(i 0).val * 8 + (i 1).val / 512, lt_of_lt_of_eq (by omega) N_0.symm⟩
  refine ⟨_, hf, ?_⟩
  rw [mem_blk16]
  intro a
  match a with
  | ⟨0, _⟩ => show win0_16.index _ (0 : Fin 3) * 1 ≤ (i 0).val ∧ (i 0).val < win0_16.index _ (0 : Fin 3) * 1 + 1; rw [e0]; show ((i 0).val * 8 + (i 1).val / 512) / 8 * 1 ≤ (i 0).val ∧ (i 0).val < ((i 0).val * 8 + (i 1).val / 512) / 8 * 1 + 1; omega
  | ⟨1, _⟩ => show win0_16.index _ (1 : Fin 3) * 512 ≤ (i 1).val ∧ (i 1).val < win0_16.index _ (1 : Fin 3) * 512 + 512; rw [e1]; show ((i 0).val * 8 + (i 1).val / 512) % 8 * 512 ≤ (i 1).val ∧ (i 1).val < ((i 0).val * 8 + (i 1).val / 512) % 8 * 512 + 512; omega
  | ⟨2, _⟩ => show win0_16.index _ (2 : Fin 3) * 256 ≤ (i 2).val ∧ (i 2).val < win0_16.index _ (2 : Fin 3) * 256 + 256; omega

theorem final_16 : (dats m 0 c).arrAt 16 cfg0.N = result_16 m c :=
  (dats m 0 c).arrAt_eq_of_cover 16 _ (fun t _ => flushed_16 m c t) covered_16

end Cert.Kernel4Ideal.Proj

end
-- ==== Proof.ProjRef.Value.lean ====
/- The reference's results, one token's row at a time. -/
module

public import proofs.«01_k».proof.Proof.Gen.Reference4Ideal.Read
public import proofs.«01_k».proof.Proof.ProjModel
public import Idealize.ShloMosaic.Lib.Pointwise

@[expose] public section

set_option maxRecDepth 16384

noncomputable section

namespace Cert.Reference4Ideal.Proj

open Cert.Reference4Ideal Cert.Reference4Ideal.Gen Cert.Reference4Ideal.Read
open Idealize.ShloMosaic

variable (x0 : Vec Ideal S8x4096x1024 .f32) (x1 : Vec Ideal S2x1024 .f32) (x2 : Vec Ideal S2x1024x2304 .f32)

theorem sitofp_def (b : BitVec 32) : (FloatOps.sitofp (F := Ideal) .f32 b : EReal) = ((b.toInt : ℝ) : EReal) := rfl

theorem v15_at (s : Fin 4096) (j : Fin 8) : (val_main_v15 (F := Ideal) (ix2 (n0 := 4096) (n1 := 8) s j) : EReal) = ProjModel.ang s j := by
  unfold ProjModel.ang
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [sitofp_def]

theorem v16_at (s : Fin 4096) (j : Fin 8) : (val_main_v16 (F := Ideal) (ix2 (n0 := 4096) (n1 := 8) s j) : EReal) = ProjModel.cs s j :=
  congrArg Ideal.cos (v15_at s j)

theorem v18_at (s : Fin 4096) (j : Fin 8) : (val_main_v18 (F := Ideal) (ix2 (n0 := 4096) (n1 := 8) s j) : EReal) = ProjModel.sn s j :=
  congrArg Ideal.sin (v15_at s j)

theorem v34_at (b : Fin 8) (s : Fin 4096) (k : Fin 1024) :
    (val_main_v34 (F := Ideal) x0 x1 (ix3 (n0 := 8) (n1 := 4096) (n2 := 1024) b s k) : EReal) = ProjModel.normed (ProjModel.rowAt x0 b s) (ProjModel.gainsAt x1) k := by
  unfold ProjModel.normed ProjModel.rowAt ProjModel.gainsAt
  pointwise [val_main_v34, val_main_v33, val_main_v32, val_main_v31, val_main_v30, val_main_v29, val_main_v28, val_main_v27, val_main_v26, val_main_v25, val_main_v24, val_main_v23, val_main_v22, val_main_v21, val_main_v20, val_main_cst_3, val_main_cst_4, val_main_cst_5]

theorem v37_at (b : Fin 8) (s : Fin 4096) (n : Fin 2304) :
    (val_main_v37 (F := Ideal) x0 x1 x2 (ix3 (n0 := 8) (n1 := 4096) (n2 := 2304) b s n) : EReal)
      = ProjModel.proj (ProjModel.rowAt x0 b s) (ProjModel.gainsAt x1) (ProjModel.weightsAt x2) n := by
  have e := v34_at x0 x1 b s
  unfold val_main_v37 ProjModel.proj
  generalize val_main_v34 (F := Ideal) x0 x1 = y at e
  simp only [← e]
  unfold ProjModel.weightsAt
  pointwise [val_main_v36, val_main_v35]

/-- The heads of an array turned by the tables `cA`, `sA`. -/
def ropeArr (cA sA : FVec Ideal S4096x8 .f32) (y : FVec Ideal S8x4096x512 .f32) : FVec Ideal S8x4096x8x64 .f32 :=
  let z : FVec Ideal S8x4096x8x64 .f32 := shapeCast _ y shapeCasts_S8x4096x512_S8x4096x8x64
  let t1 := extractStridedSlice S8x4096x8x8 ![0, 0, 0, 0] z slices_S8x4096x8x64_S8x4096x8x8_0_0_0_0
  let t2 := extractStridedSlice S8x4096x8x8 ![0, 0, 0, 8] z slices_S8x4096x8x64_S8x4096x8x8_0_0_0_8
  let c := broadcastInDim S8x4096x8x8 ![0, 1, 2, 3] bcast_S1x4096x1x8_S8x4096x8x8_0_1_2_3 (broadcastInDim S1x4096x1x8 ![1, 2, 3] bcast_S4096x1x8_S1x4096x1x8_1_2_3 (broadcastInDim S4096x1x8 ![0, 2] bcast_S4096x8_S4096x1x8_0_2 cA))
  let s := broadcastInDim S8x4096x8x8 ![0, 1, 2, 3] bcast_S1x4096x1x8_S8x4096x8x8_0_1_2_3 (broadcastInDim S1x4096x1x8 ![1, 2, 3] bcast_S4096x1x8_S1x4096x1x8_1_2_3 (broadcastInDim S4096x1x8 ![0, 2] bcast_S4096x8_S4096x1x8_0_2 sA))
  concatenate S8x4096x8x64 3 [⟨S8x4096x8x8, subf (mulf t1 c) (mulf t2 s)⟩, ⟨S8x4096x8x8, addf (mulf t2 c) (mulf t1 s)⟩,
    ⟨S8x4096x8x48, extractStridedSlice S8x4096x8x48 ![0, 0, 0, 16] z slices_S8x4096x8x64_S8x4096x8x48_0_0_0_16⟩] concatenates_S8x4096x8x8_S8x4096x8x8_S8x4096x8x48_S8x4096x8x64_d3

theorem v61_eq : val_main_v61 (F := Ideal) x0 x1 x2 = ropeArr (val_main_v16 (F := Ideal)) (val_main_v18 (F := Ideal)) (val_main_v38 (F := Ideal) x0 x1 x2) := rfl

theorem v84_eq : val_main_v84 (F := Ideal) x0 x1 x2 = ropeArr (val_main_v16 (F := Ideal)) (val_main_v18 (F := Ideal)) (val_main_v39 (F := Ideal) x0 x1 x2) := rfl

theorem ropeArr_at (cA sA : FVec Ideal S4096x8 .f32) (y : FVec Ideal S8x4096x512 .f32) (b : Fin 8) (s : Fin 4096) (u : Fin 8) (d : Fin 64) :
    (ropeArr cA sA y (ix4 (n0 := 8) (n1 := 4096) (n2 := 8) (n3 := 64) b s u d) : EReal)
      = if h : d.val < 8 then y (ix3 (n0 := 8) (n1 := 4096) (n2 := 512) b s ⟨u.val * 64 + d.val, by omega⟩) * cA (ix2 (n0 := 4096) (n1 := 8) s ⟨d.val, h⟩)
            - y (ix3 (n0 := 8) (n1 := 4096) (n2 := 512) b s ⟨u.val * 64 + (8 + d.val), by omega⟩) * sA (ix2 (n0 := 4096) (n1 := 8) s ⟨d.val, h⟩)
        else if h' : d.val - 8 < 8 then y (ix3 (n0 := 8) (n1 := 4096) (n2 := 512) b s ⟨u.val * 64 + (8 + (d.val - 8)), by omega⟩) * cA (ix2 (n0 := 4096) (n1 := 8) s ⟨d.val - 8, h'⟩)
            + y (ix3 (n0 := 8) (n1 := 4096) (n2 := 512) b s ⟨u.val * 64 + (d.val - 8), by omega⟩) * sA (ix2 (n0 := 4096) (n1 := 8) s ⟨d.val - 8, h'⟩)
        else y (ix3 (n0 := 8) (n1 := 4096) (n2 := 512) b s ⟨u.val * 64 + (16 + (d.val - 8 - 8)), by omega⟩) := by
  pointwise [ropeArr]

/-- A row's heads after the rotation. -/
theorem roped_at (y : FVec Ideal S8x4096x512 .f32) (b : Fin 8) (s : Fin 4096) (n : Fin 512) :
    (shapeCast S8x4096x512 (ropeArr (val_main_v16 (F := Ideal)) (val_main_v18 (F := Ideal)) y) shapeCasts_S8x4096x8x64_S8x4096x512 (ix3 (n0 := 8) (n1 := 4096) (n2 := 512) b s n) : EReal)
      = ProjModel.roped s (fun k => y (ix3 (n0 := 8) (n1 := 4096) (n2 := 512) b s k)) n := by
  have e := ropeArr_at (val_main_v16 (F := Ideal)) (val_main_v18 (F := Ideal)) y b s ⟨n.val / 64, by omega⟩ ⟨n.val % 64, by omega⟩
  simp only [v16_at, v18_at] at e
  refine Eq.trans ?_ (e.trans ?_)
  · generalize ropeArr (val_main_v16 (F := Ideal)) (val_main_v18 (F := Ideal)) y = z
    pointwise
  · unfold ProjModel.roped ProjModel.rope
    have hm : n.val % 64 < 64 := Nat.mod_lt _ (by decide)
    by_cases h : n.val % 64 < 8
    · rw [dif_pos h, dif_pos h]
      simp only [Nat.add_comm 8]
    · rw [dif_neg h, dif_neg h]
      by_cases h' : n.val % 64 - 8 < 8
      · rw [dif_pos h', dif_pos h']
        have e1 : 8 + (n.val % 64 - 8) = n.val % 64 := by omega
        simp only [e1]
      · rw [dif_neg h', dif_neg h']
        have e1 : 16 + (n.val % 64 - 8 - 8) = n.val % 64 := by omega
        simp only [e1]

theorem v38_at (b : Fin 8) (s : Fin 4096) (n : Fin 512) :
    (val_main_v38 (F := Ideal) x0 x1 x2 (ix3 (n0 := 8) (n1 := 4096) (n2 := 512) b s n) : EReal) = ProjModel.proj (ProjModel.rowAt x0 b s) (ProjModel.gainsAt x1) (ProjModel.weightsAt x2) ⟨n.val, by omega⟩ := by
  have e := v37_at x0 x1 x2 b s
  unfold val_main_v38
  generalize val_main_v37 (F := Ideal) x0 x1 x2 = y at e
  simp only [← e]
  pointwise

theorem v39_at (b : Fin 8) (s : Fin 4096) (n : Fin 512) :
    (val_main_v39 (F := Ideal) x0 x1 x2 (ix3 (n0 := 8) (n1 := 4096) (n2 := 512) b s n) : EReal) = ProjModel.proj (ProjModel.rowAt x0 b s) (ProjModel.gainsAt x1) (ProjModel.weightsAt x2) ⟨512 + n.val, by omega⟩ := by
  have e := v37_at x0 x1 x2 b s
  unfold val_main_v39
  generalize val_main_v37 (F := Ideal) x0 x1 x2 = y at e
  simp only [← e]
  pointwise

theorem v62_at (b : Fin 8) (s : Fin 4096) (n : Fin 512) :
    (val_main_v62 (F := Ideal) x0 x1 x2 (ix3 (n0 := 8) (n1 := 4096) (n2 := 512) b s n) : EReal)
      = ProjModel.roped s (fun k => ProjModel.proj (ProjModel.rowAt x0 b s) (ProjModel.gainsAt x1) (ProjModel.weightsAt x2) ⟨k.val, by omega⟩) n := by
  have e := roped_at (val_main_v38 (F := Ideal) x0 x1 x2) b s n
  rw [← v61_eq] at e
  refine Eq.trans ?_ (e.trans (congrArg (fun f => ProjModel.roped s f n) (funext fun k => v38_at x0 x1 x2 b s k)))
  unfold val_main_v62
  rfl

theorem v85_at (b : Fin 8) (s : Fin 4096) (n : Fin 512) :
    (val_main_v85 (F := Ideal) x0 x1 x2 (ix3 (n0 := 8) (n1 := 4096) (n2 := 512) b s n) : EReal)
      = ProjModel.roped s (fun k => ProjModel.proj (ProjModel.rowAt x0 b s) (ProjModel.gainsAt x1) (ProjModel.weightsAt x2) ⟨512 + k.val, by omega⟩) n := by
  have e := roped_at (val_main_v39 (F := Ideal) x0 x1 x2) b s n
  rw [← v84_eq] at e
  refine Eq.trans ?_ (e.trans (congrArg (fun f => ProjModel.roped s f n) (funext fun k => v39_at x0 x1 x2 b s k)))
  unfold val_main_v85
  rfl

/-- The queries: turned, over eight. -/
theorem v65_at (b : Fin 8) (s : Fin 4096) (n : Fin 512) :
    (val_main_v65 (F := Ideal) x0 x1 x2 (ix3 (n0 := 8) (n1 := 4096) (n2 := 512) b s n) : EReal) = ProjModel.q (ProjModel.rowAt x0 b s) (ProjModel.gainsAt x1) (ProjModel.weightsAt x2) s n := by
  refine Eq.trans ?_ (congrArg (fun x : EReal => x * Ideal.ofBits .f32 0x3E000000#32) (v62_at x0 x1 x2 b s n))
  rw [val_main_v65_apply, val_main_v64_apply, val_main_v63_apply]
  rfl

/-- The keys: turned. -/
theorem v86_at (b : Fin 8) (s : Fin 4096) (n : Fin 512) :
    (val_main_v86 (F := Ideal) x0 x1 x2 (ix3 (n0 := 8) (n1 := 4096) (n2 := 512) b s n) : EReal) = ProjModel.k (ProjModel.rowAt x0 b s) (ProjModel.gainsAt x1) (ProjModel.weightsAt x2) s n := by
  refine Eq.trans ?_ (v85_at x0 x1 x2 b s n)
  rw [val_main_v86_apply]
  rfl

/-- The values. -/
theorem v87_at (b : Fin 8) (s : Fin 4096) (n : Fin 512) :
    (val_main_v87 (F := Ideal) x0 x1 x2 (ix3 (n0 := 8) (n1 := 4096) (n2 := 512) b s n) : EReal) = ProjModel.v (ProjModel.rowAt x0 b s) (ProjModel.gainsAt x1) (ProjModel.weightsAt x2) n := by
  have e := v37_at x0 x1 x2 b s
  unfold val_main_v87 val_main_v40 ProjModel.v
  generalize val_main_v37 (F := Ideal) x0 x1 x2 = y at e
  simp only [← e]
  pointwise

/-- The recurrence's input. -/
theorem v41_at (b : Fin 8) (s : Fin 4096) (n : Fin 256) :
    (val_main_v41 (F := Ideal) x0 x1 x2 (ix3 (n0 := 8) (n1 := 4096) (n2 := 256) b s n) : EReal) = ProjModel.us (ProjModel.rowAt x0 b s) (ProjModel.gainsAt x1) (ProjModel.weightsAt x2) n := by
  have e := v37_at x0 x1 x2 b s
  unfold val_main_v41 ProjModel.us
  generalize val_main_v37 (F := Ideal) x0 x1 x2 = y at e
  simp only [← e]
  pointwise

end Cert.Reference4Ideal.Proj

end
-- ==== Proof.ProjClaims.lean ====
/- The claims about the input projection. -/
module

public import proofs.«01_k».proof.Defs
public import proofs.«01_k».proof.Proof.ProjIdeal.Value
public import proofs.«01_k».proof.Proof.ProjRef.Value
public import Idealize.ShloMosaic.Lib.Quiescent

@[expose] public section

set_option maxRecDepth 16384

noncomputable section

namespace Cert.Proj

open Idealize.ShloMosaic Idealize.ShloMosaic.TcCoe Idealize.SL.Sem

/-- The reference's frame. -/
theorem frame_reference : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

theorem result_v65 (m : (ℓ : Loc Cert.Reference4Ideal.nD Cert.Reference4Ideal.τ Cert.Reference4Ideal.sig) → Buf (Elt Ideal) ℓ) (m' : (ℓ : Loc Cert.Kernel4Ideal.nD Cert.Kernel4Ideal.τ Cert.Kernel4Ideal.sig) → Buf (Elt Ideal) ℓ) (c : Dev Cert.Reference4Ideal.nD)
    (e0 : m ((c.tc : Thread Cert.Reference4Ideal.nD Cert.Reference4Ideal.τ).loc Cert.Reference4Ideal.main_arg0) = m' ((c.tc : Thread Cert.Kernel4Ideal.nD Cert.Kernel4Ideal.τ).loc Cert.Kernel4Ideal.main_arg0))
    (e1 : m ((c.tc : Thread Cert.Reference4Ideal.nD Cert.Reference4Ideal.τ).loc Cert.Reference4Ideal.main_arg1) = m' ((c.tc : Thread Cert.Kernel4Ideal.nD Cert.Kernel4Ideal.τ).loc Cert.Kernel4Ideal.main_arg1))
    (e2 : m ((c.tc : Thread Cert.Reference4Ideal.nD Cert.Reference4Ideal.τ).loc Cert.Reference4Ideal.main_arg2) = m' ((c.tc : Thread Cert.Kernel4Ideal.nD Cert.Kernel4Ideal.τ).loc Cert.Kernel4Ideal.main_arg2)) :
    Cert.Reference4Ideal.Read.val_main_v65 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) = Cert.Kernel4Ideal.Proj.result_13 m' c := by
  funext y
  have e := Cert.Reference4Ideal.Proj.v65_at (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (y 0) (y 1) (y 2)
  rw [e0, e1, e2] at e ⊢
  refine Eq.trans (congrArg _ (eq_ix3 y)) (e.trans ?_)
  rfl

theorem result_v86 (m : (ℓ : Loc Cert.Reference4Ideal.nD Cert.Reference4Ideal.τ Cert.Reference4Ideal.sig) → Buf (Elt Ideal) ℓ) (m' : (ℓ : Loc Cert.Kernel4Ideal.nD Cert.Kernel4Ideal.τ Cert.Kernel4Ideal.sig) → Buf (Elt Ideal) ℓ) (c : Dev Cert.Reference4Ideal.nD)
    (e0 : m ((c.tc : Thread Cert.Reference4Ideal.nD Cert.Reference4Ideal.τ).loc Cert.Reference4Ideal.main_arg0) = m' ((c.tc : Thread Cert.Kernel4Ideal.nD Cert.Kernel4Ideal.τ).loc Cert.Kernel4Ideal.main_arg0))
    (e1 : m ((c.tc : Thread Cert.Reference4Ideal.nD Cert.Reference4Ideal.τ).loc Cert.Reference4Ideal.main_arg1) = m' ((c.tc : Thread Cert.Kernel4Ideal.nD Cert.Kernel4Ideal.τ).loc Cert.Kernel4Ideal.main_arg1))
    (e2 : m ((c.tc : Thread Cert.Reference4Ideal.nD Cert.Reference4Ideal.τ).loc Cert.Reference4Ideal.main_arg2) = m' ((c.tc : Thread Cert.Kernel4Ideal.nD Cert.Kernel4Ideal.τ).loc Cert.Kernel4Ideal.main_arg2)) :
    Cert.Reference4Ideal.Read.val_main_v86 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) = Cert.Kernel4Ideal.Proj.result_14 m' c := by
  funext y
  have e := Cert.Reference4Ideal.Proj.v86_at (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (y 0) (y 1) (y 2)
  rw [e0, e1, e2] at e ⊢
  refine Eq.trans (congrArg _ (eq_ix3 y)) (e.trans ?_)
  rfl

theorem result_v87 (m : (ℓ : Loc Cert.Reference4Ideal.nD Cert.Reference4Ideal.τ Cert.Reference4Ideal.sig) → Buf (Elt Ideal) ℓ) (m' : (ℓ : Loc Cert.Kernel4Ideal.nD Cert.Kernel4Ideal.τ Cert.Kernel4Ideal.sig) → Buf (Elt Ideal) ℓ) (c : Dev Cert.Reference4Ideal.nD)
    (e0 : m ((c.tc : Thread Cert.Reference4Ideal.nD Cert.Reference4Ideal.τ).loc Cert.Reference4Ideal.main_arg0) = m' ((c.tc : Thread Cert.Kernel4Ideal.nD Cert.Kernel4Ideal.τ).loc Cert.Kernel4Ideal.main_arg0))
    (e1 : m ((c.tc : Thread Cert.Reference4Ideal.nD Cert.Reference4Ideal.τ).loc Cert.Reference4Ideal.main_arg1) = m' ((c.tc : Thread Cert.Kernel4Ideal.nD Cert.Kernel4Ideal.τ).loc Cert.Kernel4Ideal.main_arg1))
    (e2 : m ((c.tc : Thread Cert.Reference4Ideal.nD Cert.Reference4Ideal.τ).loc Cert.Reference4Ideal.main_arg2) = m' ((c.tc : Thread Cert.Kernel4Ideal.nD Cert.Kernel4Ideal.τ).loc Cert.Kernel4Ideal.main_arg2)) :
    Cert.Reference4Ideal.Read.val_main_v87 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) = Cert.Kernel4Ideal.Proj.result_15 m' c := by
  funext y
  have e := Cert.Reference4Ideal.Proj.v87_at (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (y 0) (y 1) (y 2)
  rw [e0, e1, e2] at e ⊢
  refine Eq.trans (congrArg _ (eq_ix3 y)) (e.trans ?_)
  rfl

theorem result_v41 (m : (ℓ : Loc Cert.Reference4Ideal.nD Cert.Reference4Ideal.τ Cert.Reference4Ideal.sig) → Buf (Elt Ideal) ℓ) (m' : (ℓ : Loc Cert.Kernel4Ideal.nD Cert.Kernel4Ideal.τ Cert.Kernel4Ideal.sig) → Buf (Elt Ideal) ℓ) (c : Dev Cert.Reference4Ideal.nD)
    (e0 : m ((c.tc : Thread Cert.Reference4Ideal.nD Cert.Reference4Ideal.τ).loc Cert.Reference4Ideal.main_arg0) = m' ((c.tc : Thread Cert.Kernel4Ideal.nD Cert.Kernel4Ideal.τ).loc Cert.Kernel4Ideal.main_arg0))
    (e1 : m ((c.tc : Thread Cert.Reference4Ideal.nD Cert.Reference4Ideal.τ).loc Cert.Reference4Ideal.main_arg1) = m' ((c.tc : Thread Cert.Kernel4Ideal.nD Cert.Kernel4Ideal.τ).loc Cert.Kernel4Ideal.main_arg1))
    (e2 : m ((c.tc : Thread Cert.Reference4Ideal.nD Cert.Reference4Ideal.τ).loc Cert.Reference4Ideal.main_arg2) = m' ((c.tc : Thread Cert.Kernel4Ideal.nD Cert.Kernel4Ideal.τ).loc Cert.Kernel4Ideal.main_arg2)) :
    Cert.Reference4Ideal.Read.val_main_v41 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) = Cert.Kernel4Ideal.Proj.result_16 m' c := by
  funext y
  have e := Cert.Reference4Ideal.Proj.v41_at (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (y 0) (y 1) (y 2)
  rw [e0, e1, e2] at e ⊢
  refine Eq.trans (congrArg _ (eq_ix3 y)) (e.trans ?_)
  rfl

/-- The four results are the same. -/
theorem algebraic : Cert.algebraic_Kernel4Ideal_Reference4Ideal := by
  intro m ρ m' ρ' _ hag
  refine ⟨fun c => Cert.Kernel4Ideal.Proj.result_13 m c, fun c => Cert.Kernel4Ideal.Proj.result_14 m c, fun c => Cert.Kernel4Ideal.Proj.result_15 m c, fun c => Cert.Kernel4Ideal.Proj.result_16 m c,
    (θ_run Cert.Kernel4Ideal.defs _ _).mono (fun _ h c => ⟨(h c).1.trans (Cert.Kernel4Ideal.Proj.final_13 m c), (h c).2.1.trans (Cert.Kernel4Ideal.Proj.final_14 m c), (h c).2.2.1.trans (Cert.Kernel4Ideal.Proj.final_15 m c), (h c).2.2.2.1.trans (Cert.Kernel4Ideal.Proj.final_16 m c), (h c).2.2.2.2.2⟩) (Cert.Kernel4Ideal.Value.run_blocks m ρ), ?_⟩
  refine (θ_run Cert.Reference4Ideal.defs _ _).mono (fun _ h c => ?_) (Cert.Reference4Ideal.Value.run (F := Ideal) m' ρ')
  obtain ⟨e0, e1, e2, -⟩ := hag c
  exact ⟨(h c).1.trans ((Cert.Reference4Ideal.Read.val_main_v65_eq m' c).trans (result_v65 m' m c e0 e1 e2)), (h c).2.1.trans ((Cert.Reference4Ideal.Read.val_main_v86_eq m' c).trans (result_v86 m' m c e0 e1 e2)),
    (h c).2.2.1.trans ((Cert.Reference4Ideal.Read.val_main_v87_eq _ _ _).trans (result_v87 m' m c e0 e1 e2)), (h c).2.2.2.1.trans ((Cert.Reference4Ideal.Read.val_main_v41_eq _ _ _).trans (result_v41 m' m c e0 e1 e2)), (h c).2.2.2.2⟩

end Cert.Proj

end
-- ==== Proof.lean ====
/- The claims, each from the module that proves it. -/
module

public import proofs.«01_k».proof.Defs
public import proofs.«01_k».proof.Proof.RecurBits.Frame
public import proofs.«01_k».proof.Proof.RecurIdeal.Frame
public import proofs.«01_k».proof.Proof.RecurClaims
public import proofs.«01_k».proof.Proof.MixClaims
public import proofs.«01_k».proof.Proof.Mix0Claims
public import proofs.«01_k».proof.Proof.ProjClaims
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Kernel3.Frame
public import proofs.«01_k».proof.Proof.Gen.Kernel4.Frame
public import proofs.«01_k».proof.Proof.Gen.Kernel4Ideal.Value
public import proofs.«01_k».proof.Proof.Gen.Kernel4Ideal.Frame
public import proofs.«01_k».proof.Proof.Gen.Reference4Ideal.Read
public import proofs.«01_k».proof.Proof.Gen.Kernel3Ideal.Value
public import proofs.«01_k».proof.Proof.Gen.Reference3Ideal.Read
public import Idealize.ShloMosaic.Lib.Quiescent
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    fun m ρ _ => Cert.Kernel.Recur.frame m ρ, fun m ρ _ => Cert.KernelIdeal.Recur.frame m ρ, Cert.Recur.frame_reference,
    fun m ρ _ => Cert.Kernel2.Gen.frame m ρ, fun m ρ _ => Cert.Kernel2Ideal.Gen.frame m ρ, Cert.Mix.frame_reference,
    fun m ρ _ => Cert.Kernel3.Gen.frame m ρ, fun m ρ _ => Cert.Kernel3Ideal.Gen.frame m ρ, Cert.Mix0.frame_reference,
    fun m ρ _ => Cert.Kernel4.Gen.frame m ρ, fun m ρ _ => Cert.Kernel4Ideal.Gen.frame m ρ, Cert.Proj.frame_reference,
    trivial, Cert.Recur.algebraic, trivial, Cert.Mix.algebraic, trivial, Cert.Mix0.algebraic, trivial, Cert.Proj.algebraic⟩

end Cert.Proof

end
